-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Main (m : (ℓ : Loc Cert.Main.nD Cert.Main.τ Cert.Main.sig) → Buf (Elt Bits) ℓ) : Prop :=
  True

def Pre_MainIdeal (m : (ℓ : Loc Cert.MainIdeal.nD Cert.MainIdeal.τ Cert.MainIdeal.sig) → Buf (Elt Ideal) ℓ) : Prop :=
  True

def Pre_MainReferenceIdeal (m : (ℓ : Loc Cert.MainReferenceIdeal.nD Cert.MainReferenceIdeal.τ Cert.MainReferenceIdeal.sig) → Buf (Elt Ideal) ℓ) : Prop :=
  True

def Pre_Pack (m : (ℓ : Loc Cert.Pack.nD Cert.Pack.τ Cert.Pack.sig) → Buf (Elt Bits) ℓ) : Prop :=
  True

def Pre_PackIdeal (m : (ℓ : Loc Cert.PackIdeal.nD Cert.PackIdeal.τ Cert.PackIdeal.sig) → Buf (Elt Ideal) ℓ) : Prop :=
  True

def Pre_PackReferenceIdeal (m : (ℓ : Loc Cert.PackReferenceIdeal.nD Cert.PackReferenceIdeal.τ Cert.PackReferenceIdeal.sig) → Buf (Elt Ideal) ℓ) : Prop :=
  True

def Pre_Scale (m : (ℓ : Loc Cert.Scale.nD Cert.Scale.τ Cert.Scale.sig) → Buf (Elt Bits) ℓ) : Prop :=
  True

def Pre_ScaleIdeal (m : (ℓ : Loc Cert.ScaleIdeal.nD Cert.ScaleIdeal.τ Cert.ScaleIdeal.sig) → Buf (Elt Ideal) ℓ) : Prop :=
  True

def Pre_ScaleReferenceIdeal (m : (ℓ : Loc Cert.ScaleReferenceIdeal.nD Cert.ScaleReferenceIdeal.τ Cert.ScaleReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Main [hMain : Cert.Main.Facts] : Prop :=
  ∀ (m : (ℓ : Loc Cert.Main.nD Cert.Main.τ Cert.Main.sig) → Buf (Elt Bits) ℓ) (g : Dev Cert.Main.nD → PrngReg), Pre_Main m →
    θ_run (Cert.Main.defs (F := Bits)) (onTc (τ := Cert.Main.τ) (Cert.Main.main (F := Bits))) ⟨m, fun _ => 0, g⟩ (fun r => (∀ c : Dev Cert.Main.nD,
      r.2.mem ((c.tc : Thread Cert.Main.nD Cert.Main.τ).loc Cert.Main.main_arg0) = m ((c.tc : Thread Cert.Main.nD Cert.Main.τ).loc Cert.Main.main_arg0)
      ∧ r.2.mem ((c.tc : Thread Cert.Main.nD Cert.Main.τ).loc Cert.Main.main_arg1) = m ((c.tc : Thread Cert.Main.nD Cert.Main.τ).loc Cert.Main.main_arg1)
      ∧ r.2.mem ((c.tc : Thread Cert.Main.nD Cert.Main.τ).loc Cert.Main.main_arg2) = m ((c.tc : Thread Cert.Main.nD Cert.Main.τ).loc Cert.Main.main_arg2)
      ∧ r.2.mem ((c.tc : Thread Cert.Main.nD Cert.Main.τ).loc Cert.Main.main_arg3) = m ((c.tc : Thread Cert.Main.nD Cert.Main.τ).loc Cert.Main.main_arg3)
      ∧ r.2.mem ((c.tc : Thread Cert.Main.nD Cert.Main.τ).loc Cert.Main.main_arg4) = m ((c.tc : Thread Cert.Main.nD Cert.Main.τ).loc Cert.Main.main_arg4)
      ∧ r.2.mem ((c.tc : Thread Cert.Main.nD Cert.Main.τ).loc Cert.Main.main_arg5) = m ((c.tc : Thread Cert.Main.nD Cert.Main.τ).loc Cert.Main.main_arg5)
      ∧ r.2.mem ((c.tc : Thread Cert.Main.nD Cert.Main.τ).loc Cert.Main.main_arg6) = m ((c.tc : Thread Cert.Main.nD Cert.Main.τ).loc Cert.Main.main_arg6)
      ∧ r.2.mem ((c.tc : Thread Cert.Main.nD Cert.Main.τ).loc Cert.Main.main_arg7) = m ((c.tc : Thread Cert.Main.nD Cert.Main.τ).loc Cert.Main.main_arg7))
      ∧ r.2.sem = fun _ => 0)

def quiescent_MainIdeal [hMainIdeal : Cert.MainIdeal.Facts] : Prop :=
  ∀ (m : (ℓ : Loc Cert.MainIdeal.nD Cert.MainIdeal.τ Cert.MainIdeal.sig) → Buf (Elt Ideal) ℓ) (g : Dev Cert.MainIdeal.nD → PrngReg), Pre_MainIdeal m →
    θ_run (Cert.MainIdeal.defs (F := Ideal)) (onTc (τ := Cert.MainIdeal.τ) (Cert.MainIdeal.main (F := Ideal))) ⟨m, fun _ => 0, g⟩ (fun r => (∀ c : Dev Cert.MainIdeal.nD,
      r.2.mem ((c.tc : Thread Cert.MainIdeal.nD Cert.MainIdeal.τ).loc Cert.MainIdeal.main_arg0) = m ((c.tc : Thread Cert.MainIdeal.nD Cert.MainIdeal.τ).loc Cert.MainIdeal.main_arg0)
      ∧ r.2.mem ((c.tc : Thread Cert.MainIdeal.nD Cert.MainIdeal.τ).loc Cert.MainIdeal.main_arg1) = m ((c.tc : Thread Cert.MainIdeal.nD Cert.MainIdeal.τ).loc Cert.MainIdeal.main_arg1)
      ∧ r.2.mem ((c.tc : Thread Cert.MainIdeal.nD Cert.MainIdeal.τ).loc Cert.MainIdeal.main_arg2) = m ((c.tc : Thread Cert.MainIdeal.nD Cert.MainIdeal.τ).loc Cert.MainIdeal.main_arg2)
      ∧ r.2.mem ((c.tc : Thread Cert.MainIdeal.nD Cert.MainIdeal.τ).loc Cert.MainIdeal.main_arg3) = m ((c.tc : Thread Cert.MainIdeal.nD Cert.MainIdeal.τ).loc Cert.MainIdeal.main_arg3)
      ∧ r.2.mem ((c.tc : Thread Cert.MainIdeal.nD Cert.MainIdeal.τ).loc Cert.MainIdeal.main_arg4) = m ((c.tc : Thread Cert.MainIdeal.nD Cert.MainIdeal.τ).loc Cert.MainIdeal.main_arg4)
      ∧ r.2.mem ((c.tc : Thread Cert.MainIdeal.nD Cert.MainIdeal.τ).loc Cert.MainIdeal.main_arg5) = m ((c.tc : Thread Cert.MainIdeal.nD Cert.MainIdeal.τ).loc Cert.MainIdeal.main_arg5)
      ∧ r.2.mem ((c.tc : Thread Cert.MainIdeal.nD Cert.MainIdeal.τ).loc Cert.MainIdeal.main_arg6) = m ((c.tc : Thread Cert.MainIdeal.nD Cert.MainIdeal.τ).loc Cert.MainIdeal.main_arg6)
      ∧ r.2.mem ((c.tc : Thread Cert.MainIdeal.nD Cert.MainIdeal.τ).loc Cert.MainIdeal.main_arg7) = m ((c.tc : Thread Cert.MainIdeal.nD Cert.MainIdeal.τ).loc Cert.MainIdeal.main_arg7))
      ∧ r.2.sem = fun _ => 0)

def quiescent_MainReferenceIdeal [hMainReferenceIdeal : Cert.MainReferenceIdeal.Facts] : Prop :=
  ∀ (m : (ℓ : Loc Cert.MainReferenceIdeal.nD Cert.MainReferenceIdeal.τ Cert.MainReferenceIdeal.sig) → Buf (Elt Ideal) ℓ) (g : Dev Cert.MainReferenceIdeal.nD → PrngReg), Pre_MainReferenceIdeal m →
    θ_run (Cert.MainReferenceIdeal.defs (F := Ideal)) (onTc (τ := Cert.MainReferenceIdeal.τ) (Cert.MainReferenceIdeal.main (F := Ideal))) ⟨m, fun _ => 0, g⟩ (fun r => (∀ c : Dev Cert.MainReferenceIdeal.nD,
      r.2.mem ((c.tc : Thread Cert.MainReferenceIdeal.nD Cert.MainReferenceIdeal.τ).loc Cert.MainReferenceIdeal.main_arg0) = m ((c.tc : Thread Cert.MainReferenceIdeal.nD Cert.MainReferenceIdeal.τ).loc Cert.MainReferenceIdeal.main_arg0)
      ∧ r.2.mem ((c.tc : Thread Cert.MainReferenceIdeal.nD Cert.MainReferenceIdeal.τ).loc Cert.MainReferenceIdeal.main_arg1) = m ((c.tc : Thread Cert.MainReferenceIdeal.nD Cert.MainReferenceIdeal.τ).loc Cert.MainReferenceIdeal.main_arg1)
      ∧ r.2.mem ((c.tc : Thread Cert.MainReferenceIdeal.nD Cert.MainReferenceIdeal.τ).loc Cert.MainReferenceIdeal.main_arg2) = m ((c.tc : Thread Cert.MainReferenceIdeal.nD Cert.MainReferenceIdeal.τ).loc Cert.MainReferenceIdeal.main_arg2)
      ∧ r.2.mem ((c.tc : Thread Cert.MainReferenceIdeal.nD Cert.MainReferenceIdeal.τ).loc Cert.MainReferenceIdeal.main_arg3) = m ((c.tc : Thread Cert.MainReferenceIdeal.nD Cert.MainReferenceIdeal.τ).loc Cert.MainReferenceIdeal.main_arg3)
      ∧ r.2.mem ((c.tc : Thread Cert.MainReferenceIdeal.nD Cert.MainReferenceIdeal.τ).loc Cert.MainReferenceIdeal.main_arg4) = m ((c.tc : Thread Cert.MainReferenceIdeal.nD Cert.MainReferenceIdeal.τ).loc Cert.MainReferenceIdeal.main_arg4)
      ∧ r.2.mem ((c.tc : Thread Cert.MainReferenceIdeal.nD Cert.MainReferenceIdeal.τ).loc Cert.MainReferenceIdeal.main_arg5) = m ((c.tc : Thread Cert.MainReferenceIdeal.nD Cert.MainReferenceIdeal.τ).loc Cert.MainReferenceIdeal.main_arg5)
      ∧ r.2.mem ((c.tc : Thread Cert.MainReferenceIdeal.nD Cert.MainReferenceIdeal.τ).loc Cert.MainReferenceIdeal.main_arg6) = m ((c.tc : Thread Cert.MainReferenceIdeal.nD Cert.MainReferenceIdeal.τ).loc Cert.MainReferenceIdeal.main_arg6)
      ∧ r.2.mem ((c.tc : Thread Cert.MainReferenceIdeal.nD Cert.MainReferenceIdeal.τ).loc Cert.MainReferenceIdeal.main_arg7) = m ((c.tc : Thread Cert.MainReferenceIdeal.nD Cert.MainReferenceIdeal.τ).loc Cert.MainReferenceIdeal.main_arg7))
      ∧ r.2.sem = fun _ => 0)

def quiescent_Pack [hPack : Cert.Pack.Facts] : Prop :=
  ∀ (m : (ℓ : Loc Cert.Pack.nD Cert.Pack.τ Cert.Pack.sig) → Buf (Elt Bits) ℓ) (g : Dev Cert.Pack.nD → PrngReg), Pre_Pack m →
    θ_run (Cert.Pack.defs (F := Bits)) (onTc (τ := Cert.Pack.τ) (Cert.Pack.main (F := Bits))) ⟨m, fun _ => 0, g⟩ (fun r => (∀ c : Dev Cert.Pack.nD,
      r.2.mem ((c.tc : Thread Cert.Pack.nD Cert.Pack.τ).loc Cert.Pack.main_arg0) = m ((c.tc : Thread Cert.Pack.nD Cert.Pack.τ).loc Cert.Pack.main_arg0))
      ∧ r.2.sem = fun _ => 0)

def quiescent_PackIdeal [hPackIdeal : Cert.PackIdeal.Facts] : Prop :=
  ∀ (m : (ℓ : Loc Cert.PackIdeal.nD Cert.PackIdeal.τ Cert.PackIdeal.sig) → Buf (Elt Ideal) ℓ) (g : Dev Cert.PackIdeal.nD → PrngReg), Pre_PackIdeal m →
    θ_run (Cert.PackIdeal.defs (F := Ideal)) (onTc (τ := Cert.PackIdeal.τ) (Cert.PackIdeal.main (F := Ideal))) ⟨m, fun _ => 0, g⟩ (fun r => (∀ c : Dev Cert.PackIdeal.nD,
      r.2.mem ((c.tc : Thread Cert.PackIdeal.nD Cert.PackIdeal.τ).loc Cert.PackIdeal.main_arg0) = m ((c.tc : Thread Cert.PackIdeal.nD Cert.PackIdeal.τ).loc Cert.PackIdeal.main_arg0))
      ∧ r.2.sem = fun _ => 0)

def quiescent_PackReferenceIdeal [hPackReferenceIdeal : Cert.PackReferenceIdeal.Facts] : Prop :=
  ∀ (m : (ℓ : Loc Cert.PackReferenceIdeal.nD Cert.PackReferenceIdeal.τ Cert.PackReferenceIdeal.sig) → Buf (Elt Ideal) ℓ) (g : Dev Cert.PackReferenceIdeal.nD → PrngReg), Pre_PackReferenceIdeal m →
    θ_run (Cert.PackReferenceIdeal.defs (F := Ideal)) (onTc (τ := Cert.PackReferenceIdeal.τ) (Cert.PackReferenceIdeal.main (F := Ideal))) ⟨m, fun _ => 0, g⟩ (fun r => (∀ c : Dev Cert.PackReferenceIdeal.nD,
      r.2.mem ((c.tc : Thread Cert.PackReferenceIdeal.nD Cert.PackReferenceIdeal.τ).loc Cert.PackReferenceIdeal.main_arg0) = m ((c.tc : Thread Cert.PackReferenceIdeal.nD Cert.PackReferenceIdeal.τ).loc Cert.PackReferenceIdeal.main_arg0))
      ∧ r.2.sem = fun _ => 0)

def quiescent_Scale [hScale : Cert.Scale.Facts] : Prop :=
  ∀ (m : (ℓ : Loc Cert.Scale.nD Cert.Scale.τ Cert.Scale.sig) → Buf (Elt Bits) ℓ) (g : Dev Cert.Scale.nD → PrngReg), Pre_Scale m →
    θ_run (Cert.Scale.defs (F := Bits)) (onTc (τ := Cert.Scale.τ) (Cert.Scale.main (F := Bits))) ⟨m, fun _ => 0, g⟩ (fun r => (∀ c : Dev Cert.Scale.nD,
      r.2.mem ((c.tc : Thread Cert.Scale.nD Cert.Scale.τ).loc Cert.Scale.main_arg0) = m ((c.tc : Thread Cert.Scale.nD Cert.Scale.τ).loc Cert.Scale.main_arg0))
      ∧ r.2.sem = fun _ => 0)

def quiescent_ScaleIdeal [hScaleIdeal : Cert.ScaleIdeal.Facts] : Prop :=
  ∀ (m : (ℓ : Loc Cert.ScaleIdeal.nD Cert.ScaleIdeal.τ Cert.ScaleIdeal.sig) → Buf (Elt Ideal) ℓ) (g : Dev Cert.ScaleIdeal.nD → PrngReg), Pre_ScaleIdeal m →
    θ_run (Cert.ScaleIdeal.defs (F := Ideal)) (onTc (τ := Cert.ScaleIdeal.τ) (Cert.ScaleIdeal.main (F := Ideal))) ⟨m, fun _ => 0, g⟩ (fun r => (∀ c : Dev Cert.ScaleIdeal.nD,
      r.2.mem ((c.tc : Thread Cert.ScaleIdeal.nD Cert.ScaleIdeal.τ).loc Cert.ScaleIdeal.main_arg0) = m ((c.tc : Thread Cert.ScaleIdeal.nD Cert.ScaleIdeal.τ).loc Cert.ScaleIdeal.main_arg0))
      ∧ r.2.sem = fun _ => 0)

def quiescent_ScaleReferenceIdeal [hScaleReferenceIdeal : Cert.ScaleReferenceIdeal.Facts] : Prop :=
  ∀ (m : (ℓ : Loc Cert.ScaleReferenceIdeal.nD Cert.ScaleReferenceIdeal.τ Cert.ScaleReferenceIdeal.sig) → Buf (Elt Ideal) ℓ) (g : Dev Cert.ScaleReferenceIdeal.nD → PrngReg), Pre_ScaleReferenceIdeal m →
    θ_run (Cert.ScaleReferenceIdeal.defs (F := Ideal)) (onTc (τ := Cert.ScaleReferenceIdeal.τ) (Cert.ScaleReferenceIdeal.main (F := Ideal))) ⟨m, fun _ => 0, g⟩ (fun r => (∀ c : Dev Cert.ScaleReferenceIdeal.nD,
      r.2.mem ((c.tc : Thread Cert.ScaleReferenceIdeal.nD Cert.ScaleReferenceIdeal.τ).loc Cert.ScaleReferenceIdeal.main_arg0) = m ((c.tc : Thread Cert.ScaleReferenceIdeal.nD Cert.ScaleReferenceIdeal.τ).loc Cert.ScaleReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Main_MainIdeal : Prop :=
  IdealRules.bf16_pair.PackStatement Cert.MainIdeal.S128x128
  ∧ IdealRules.bf16_pair.Statement Cert.MainIdeal.S256x128 Cert.MainIdeal.S128x128

def algebraic_MainIdeal_MainReferenceIdeal [hMainIdeal : Cert.MainIdeal.Facts] [hMainReferenceIdeal : Cert.MainReferenceIdeal.Facts] : Prop :=
  ∀ (m : (ℓ : Loc Cert.MainIdeal.nD Cert.MainIdeal.τ Cert.MainIdeal.sig) → Buf (Elt Ideal) ℓ) (g : Dev Cert.MainIdeal.nD → PrngReg)
    (m' : (ℓ : Loc Cert.MainReferenceIdeal.nD Cert.MainReferenceIdeal.τ Cert.MainReferenceIdeal.sig) → Buf (Elt Ideal) ℓ) (g' : Dev Cert.MainReferenceIdeal.nD → PrngReg), Pre_MainIdeal m →
    (∀ c : Dev Cert.MainIdeal.nD,
      m' ((c.tc : Thread Cert.MainReferenceIdeal.nD Cert.MainReferenceIdeal.τ).loc Cert.MainReferenceIdeal.main_arg0) = m ((c.tc : Thread Cert.MainIdeal.nD Cert.MainIdeal.τ).loc Cert.MainIdeal.main_arg0)
      ∧ m' ((c.tc : Thread Cert.MainReferenceIdeal.nD Cert.MainReferenceIdeal.τ).loc Cert.MainReferenceIdeal.main_arg1) = m ((c.tc : Thread Cert.MainIdeal.nD Cert.MainIdeal.τ).loc Cert.MainIdeal.main_arg1)
      ∧ m' ((c.tc : Thread Cert.MainReferenceIdeal.nD Cert.MainReferenceIdeal.τ).loc Cert.MainReferenceIdeal.main_arg2) = m ((c.tc : Thread Cert.MainIdeal.nD Cert.MainIdeal.τ).loc Cert.MainIdeal.main_arg2)
      ∧ m' ((c.tc : Thread Cert.MainReferenceIdeal.nD Cert.MainReferenceIdeal.τ).loc Cert.MainReferenceIdeal.main_arg3) = m ((c.tc : Thread Cert.MainIdeal.nD Cert.MainIdeal.τ).loc Cert.MainIdeal.main_arg3)
      ∧ m' ((c.tc : Thread Cert.MainReferenceIdeal.nD Cert.MainReferenceIdeal.τ).loc Cert.MainReferenceIdeal.main_arg4) = m ((c.tc : Thread Cert.MainIdeal.nD Cert.MainIdeal.τ).loc Cert.MainIdeal.main_arg4)
      ∧ m' ((c.tc : Thread Cert.MainReferenceIdeal.nD Cert.MainReferenceIdeal.τ).loc Cert.MainReferenceIdeal.main_arg5) = m ((c.tc : Thread Cert.MainIdeal.nD Cert.MainIdeal.τ).loc Cert.MainIdeal.main_arg5)
      ∧ m' ((c.tc : Thread Cert.MainReferenceIdeal.nD Cert.MainReferenceIdeal.τ).loc Cert.MainReferenceIdeal.main_arg6) = m ((c.tc : Thread Cert.MainIdeal.nD Cert.MainIdeal.τ).loc Cert.MainIdeal.main_arg6)
      ∧ m' ((c.tc : Thread Cert.MainReferenceIdeal.nD Cert.MainReferenceIdeal.τ).loc Cert.MainReferenceIdeal.main_arg7) = m ((c.tc : Thread Cert.MainIdeal.nD Cert.MainIdeal.τ).loc Cert.MainIdeal.main_arg7)) →
    ∃ (v0 : (c : Dev Cert.MainIdeal.nD) → Buf (Elt Ideal) ((c.tc : Thread Cert.MainIdeal.nD Cert.MainIdeal.τ).loc Cert.MainIdeal.main_v8)),
      θ_run (Cert.MainIdeal.defs (F := Ideal)) (onTc (τ := Cert.MainIdeal.τ) (Cert.MainIdeal.main (F := Ideal))) ⟨m, fun _ => 0, g⟩ (fun r => ∀ c : Dev Cert.MainIdeal.nD,
          r.2.mem ((c.tc : Thread Cert.MainIdeal.nD Cert.MainIdeal.τ).loc Cert.MainIdeal.main_v8) = v0 c
          ∧ r.2.mem ((c.tc : Thread Cert.MainIdeal.nD Cert.MainIdeal.τ).loc Cert.MainIdeal.main_arg0) = m ((c.tc : Thread Cert.MainIdeal.nD Cert.MainIdeal.τ).loc Cert.MainIdeal.main_arg0)
          ∧ r.2.mem ((c.tc : Thread Cert.MainIdeal.nD Cert.MainIdeal.τ).loc Cert.MainIdeal.main_arg1) = m ((c.tc : Thread Cert.MainIdeal.nD Cert.MainIdeal.τ).loc Cert.MainIdeal.main_arg1)
          ∧ r.2.mem ((c.tc : Thread Cert.MainIdeal.nD Cert.MainIdeal.τ).loc Cert.MainIdeal.main_arg2) = m ((c.tc : Thread Cert.MainIdeal.nD Cert.MainIdeal.τ).loc Cert.MainIdeal.main_arg2)
          ∧ r.2.mem ((c.tc : Thread Cert.MainIdeal.nD Cert.MainIdeal.τ).loc Cert.MainIdeal.main_arg3) = m ((c.tc : Thread Cert.MainIdeal.nD Cert.MainIdeal.τ).loc Cert.MainIdeal.main_arg3)
          ∧ r.2.mem ((c.tc : Thread Cert.MainIdeal.nD Cert.MainIdeal.τ).loc Cert.MainIdeal.main_arg4) = m ((c.tc : Thread Cert.MainIdeal.nD Cert.MainIdeal.τ).loc Cert.MainIdeal.main_arg4)
          ∧ r.2.mem ((c.tc : Thread Cert.MainIdeal.nD Cert.MainIdeal.τ).loc Cert.MainIdeal.main_arg5) = m ((c.tc : Thread Cert.MainIdeal.nD Cert.MainIdeal.τ).loc Cert.MainIdeal.main_arg5)
          ∧ r.2.mem ((c.tc : Thread Cert.MainIdeal.nD Cert.MainIdeal.τ).loc Cert.MainIdeal.main_arg6) = m ((c.tc : Thread Cert.MainIdeal.nD Cert.MainIdeal.τ).loc Cert.MainIdeal.main_arg6)
          ∧ r.2.mem ((c.tc : Thread Cert.MainIdeal.nD Cert.MainIdeal.τ).loc Cert.MainIdeal.main_arg7) = m ((c.tc : Thread Cert.MainIdeal.nD Cert.MainIdeal.τ).loc Cert.MainIdeal.main_arg7))
      ∧ θ_run (Cert.MainReferenceIdeal.defs (F := Ideal)) (onTc (τ := Cert.MainReferenceIdeal.τ) (Cert.MainReferenceIdeal.main (F := Ideal))) ⟨m', fun _ => 0, g'⟩ (fun r => ∀ c : Dev Cert.MainReferenceIdeal.nD,
          r.2.mem ((c.tc : Thread Cert.MainReferenceIdeal.nD Cert.MainReferenceIdeal.τ).loc Cert.MainReferenceIdeal.main_v20) = v0 c
          ∧ r.2.mem ((c.tc : Thread Cert.MainReferenceIdeal.nD Cert.MainReferenceIdeal.τ).loc Cert.MainReferenceIdeal.main_arg0) = m' ((c.tc : Thread Cert.MainReferenceIdeal.nD Cert.MainReferenceIdeal.τ).loc Cert.MainReferenceIdeal.main_arg0)
          ∧ r.2.mem ((c.tc : Thread Cert.MainReferenceIdeal.nD Cert.MainReferenceIdeal.τ).loc Cert.MainReferenceIdeal.main_arg1) = m' ((c.tc : Thread Cert.MainReferenceIdeal.nD Cert.MainReferenceIdeal.τ).loc Cert.MainReferenceIdeal.main_arg1)
          ∧ r.2.mem ((c.tc : Thread Cert.MainReferenceIdeal.nD Cert.MainReferenceIdeal.τ).loc Cert.MainReferenceIdeal.main_arg2) = m' ((c.tc : Thread Cert.MainReferenceIdeal.nD Cert.MainReferenceIdeal.τ).loc Cert.MainReferenceIdeal.main_arg2)
          ∧ r.2.mem ((c.tc : Thread Cert.MainReferenceIdeal.nD Cert.MainReferenceIdeal.τ).loc Cert.MainReferenceIdeal.main_arg3) = m' ((c.tc : Thread Cert.MainReferenceIdeal.nD Cert.MainReferenceIdeal.τ).loc Cert.MainReferenceIdeal.main_arg3)
          ∧ r.2.mem ((c.tc : Thread Cert.MainReferenceIdeal.nD Cert.MainReferenceIdeal.τ).loc Cert.MainReferenceIdeal.main_arg4) = m' ((c.tc : Thread Cert.MainReferenceIdeal.nD Cert.MainReferenceIdeal.τ).loc Cert.MainReferenceIdeal.main_arg4)
          ∧ r.2.mem ((c.tc : Thread Cert.MainReferenceIdeal.nD Cert.MainReferenceIdeal.τ).loc Cert.MainReferenceIdeal.main_arg5) = m' ((c.tc : Thread Cert.MainReferenceIdeal.nD Cert.MainReferenceIdeal.τ).loc Cert.MainReferenceIdeal.main_arg5)
          ∧ r.2.mem ((c.tc : Thread Cert.MainReferenceIdeal.nD Cert.MainReferenceIdeal.τ).loc Cert.MainReferenceIdeal.main_arg6) = m' ((c.tc : Thread Cert.MainReferenceIdeal.nD Cert.MainReferenceIdeal.τ).loc Cert.MainReferenceIdeal.main_arg6)
          ∧ r.2.mem ((c.tc : Thread Cert.MainReferenceIdeal.nD Cert.MainReferenceIdeal.τ).loc Cert.MainReferenceIdeal.main_arg7) = m' ((c.tc : Thread Cert.MainReferenceIdeal.nD Cert.MainReferenceIdeal.τ).loc Cert.MainReferenceIdeal.main_arg7))

def preserves_Pack_PackIdeal : Prop :=
  True

def algebraic_PackIdeal_PackReferenceIdeal [hPackIdeal : Cert.PackIdeal.Facts] [hPackReferenceIdeal : Cert.PackReferenceIdeal.Facts] : Prop :=
  ∀ (m : (ℓ : Loc Cert.PackIdeal.nD Cert.PackIdeal.τ Cert.PackIdeal.sig) → Buf (Elt Ideal) ℓ) (g : Dev Cert.PackIdeal.nD → PrngReg)
    (m' : (ℓ : Loc Cert.PackReferenceIdeal.nD Cert.PackReferenceIdeal.τ Cert.PackReferenceIdeal.sig) → Buf (Elt Ideal) ℓ) (g' : Dev Cert.PackReferenceIdeal.nD → PrngReg), Pre_PackIdeal m →
    (∀ c : Dev Cert.PackIdeal.nD,
      m' ((c.tc : Thread Cert.PackReferenceIdeal.nD Cert.PackReferenceIdeal.τ).loc Cert.PackReferenceIdeal.main_arg0) = m ((c.tc : Thread Cert.PackIdeal.nD Cert.PackIdeal.τ).loc Cert.PackIdeal.main_arg0)) →
    ∃ (v0 : (c : Dev Cert.PackIdeal.nD) → Buf (Elt Ideal) ((c.tc : Thread Cert.PackIdeal.nD Cert.PackIdeal.τ).loc Cert.PackIdeal.main_v0)),
      θ_run (Cert.PackIdeal.defs (F := Ideal)) (onTc (τ := Cert.PackIdeal.τ) (Cert.PackIdeal.main (F := Ideal))) ⟨m, fun _ => 0, g⟩ (fun r => ∀ c : Dev Cert.PackIdeal.nD,
          r.2.mem ((c.tc : Thread Cert.PackIdeal.nD Cert.PackIdeal.τ).loc Cert.PackIdeal.main_v0) = v0 c
          ∧ r.2.mem ((c.tc : Thread Cert.PackIdeal.nD Cert.PackIdeal.τ).loc Cert.PackIdeal.main_arg0) = m ((c.tc : Thread Cert.PackIdeal.nD Cert.PackIdeal.τ).loc Cert.PackIdeal.main_arg0))
      ∧ θ_run (Cert.PackReferenceIdeal.defs (F := Ideal)) (onTc (τ := Cert.PackReferenceIdeal.τ) (Cert.PackReferenceIdeal.main (F := Ideal))) ⟨m', fun _ => 0, g'⟩ (fun r => ∀ c : Dev Cert.PackReferenceIdeal.nD,
          r.2.mem ((c.tc : Thread Cert.PackReferenceIdeal.nD Cert.PackReferenceIdeal.τ).loc Cert.PackReferenceIdeal.main_v33) = v0 c
          ∧ r.2.mem ((c.tc : Thread Cert.PackReferenceIdeal.nD Cert.PackReferenceIdeal.τ).loc Cert.PackReferenceIdeal.main_arg0) = m' ((c.tc : Thread Cert.PackReferenceIdeal.nD Cert.PackReferenceIdeal.τ).loc Cert.PackReferenceIdeal.main_arg0))

def preserves_Scale_ScaleIdeal : Prop :=
  True

def algebraic_ScaleIdeal_ScaleReferenceIdeal [hScaleIdeal : Cert.ScaleIdeal.Facts] [hScaleReferenceIdeal : Cert.ScaleReferenceIdeal.Facts] : Prop :=
  ∀ (m : (ℓ : Loc Cert.ScaleIdeal.nD Cert.ScaleIdeal.τ Cert.ScaleIdeal.sig) → Buf (Elt Ideal) ℓ) (g : Dev Cert.ScaleIdeal.nD → PrngReg)
    (m' : (ℓ : Loc Cert.ScaleReferenceIdeal.nD Cert.ScaleReferenceIdeal.τ Cert.ScaleReferenceIdeal.sig) → Buf (Elt Ideal) ℓ) (g' : Dev Cert.ScaleReferenceIdeal.nD → PrngReg), Pre_ScaleIdeal m →
    (∀ c : Dev Cert.ScaleIdeal.nD,
      m' ((c.tc : Thread Cert.ScaleReferenceIdeal.nD Cert.ScaleReferenceIdeal.τ).loc Cert.ScaleReferenceIdeal.main_arg0) = m ((c.tc : Thread Cert.ScaleIdeal.nD Cert.ScaleIdeal.τ).loc Cert.ScaleIdeal.main_arg0)) →
    ∃ (v0 : (c : Dev Cert.ScaleIdeal.nD) → Buf (Elt Ideal) ((c.tc : Thread Cert.ScaleIdeal.nD Cert.ScaleIdeal.τ).loc Cert.ScaleIdeal.main_v0)),
      θ_run (Cert.ScaleIdeal.defs (F := Ideal)) (onTc (τ := Cert.ScaleIdeal.τ) (Cert.ScaleIdeal.main (F := Ideal))) ⟨m, fun _ => 0, g⟩ (fun r => ∀ c : Dev Cert.ScaleIdeal.nD,
          r.2.mem ((c.tc : Thread Cert.ScaleIdeal.nD Cert.ScaleIdeal.τ).loc Cert.ScaleIdeal.main_v0) = v0 c
          ∧ r.2.mem ((c.tc : Thread Cert.ScaleIdeal.nD Cert.ScaleIdeal.τ).loc Cert.ScaleIdeal.main_arg0) = m ((c.tc : Thread Cert.ScaleIdeal.nD Cert.ScaleIdeal.τ).loc Cert.ScaleIdeal.main_arg0))
      ∧ θ_run (Cert.ScaleReferenceIdeal.defs (F := Ideal)) (onTc (τ := Cert.ScaleReferenceIdeal.τ) (Cert.ScaleReferenceIdeal.main (F := Ideal))) ⟨m', fun _ => 0, g'⟩ (fun r => ∀ c : Dev Cert.ScaleReferenceIdeal.nD,
          r.2.mem ((c.tc : Thread Cert.ScaleReferenceIdeal.nD Cert.ScaleReferenceIdeal.τ).loc Cert.ScaleReferenceIdeal.main_v19) = v0 c
          ∧ r.2.mem ((c.tc : Thread Cert.ScaleReferenceIdeal.nD Cert.ScaleReferenceIdeal.τ).loc Cert.ScaleReferenceIdeal.main_arg0) = m' ((c.tc : Thread Cert.ScaleReferenceIdeal.nD Cert.ScaleReferenceIdeal.τ).loc Cert.ScaleReferenceIdeal.main_arg0))

def Claim : Prop :=
  ∃ (hKernel : Cert.Kernel.Facts) (hKernelIdeal : Cert.KernelIdeal.Facts) (hReferenceIdeal : Cert.ReferenceIdeal.Facts) (hMain : Cert.Main.Facts) (hMainIdeal : Cert.MainIdeal.Facts) (hMainReferenceIdeal : Cert.MainReferenceIdeal.Facts) (hPack : Cert.Pack.Facts) (hPackIdeal : Cert.PackIdeal.Facts) (hPackReferenceIdeal : Cert.PackReferenceIdeal.Facts) (hScale : Cert.Scale.Facts) (hScaleIdeal : Cert.ScaleIdeal.Facts) (hScaleReferenceIdeal : Cert.ScaleReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Main (hMain := hMain)
    ∧ quiescent_MainIdeal (hMainIdeal := hMainIdeal)
    ∧ quiescent_MainReferenceIdeal (hMainReferenceIdeal := hMainReferenceIdeal)
    ∧ quiescent_Pack (hPack := hPack)
    ∧ quiescent_PackIdeal (hPackIdeal := hPackIdeal)
    ∧ quiescent_PackReferenceIdeal (hPackReferenceIdeal := hPackReferenceIdeal)
    ∧ quiescent_Scale (hScale := hScale)
    ∧ quiescent_ScaleIdeal (hScaleIdeal := hScaleIdeal)
    ∧ quiescent_ScaleReferenceIdeal (hScaleReferenceIdeal := hScaleReferenceIdeal)
    ∧ preserves_Kernel_KernelIdeal
    ∧ algebraic_KernelIdeal_ReferenceIdeal (hKernelIdeal := hKernelIdeal) (hReferenceIdeal := hReferenceIdeal)
    ∧ preserves_Main_MainIdeal
    ∧ algebraic_MainIdeal_MainReferenceIdeal (hMainIdeal := hMainIdeal) (hMainReferenceIdeal := hMainReferenceIdeal)
    ∧ preserves_Pack_PackIdeal
    ∧ algebraic_PackIdeal_PackReferenceIdeal (hPackIdeal := hPackIdeal) (hPackReferenceIdeal := hPackReferenceIdeal)
    ∧ preserves_Scale_ScaleIdeal
    ∧ algebraic_ScaleIdeal_ScaleReferenceIdeal (hScaleIdeal := hScaleIdeal) (hScaleReferenceIdeal := hScaleReferenceIdeal)
-- ==== Kernel.lean ====
abbrev S7680x3072 : Shape := ⟨2, ![7680, 3072]⟩
abbrev S960x3072 : Shape := ⟨2, ![960, 3072]⟩
abbrev S15x3072x1024 : Shape := ⟨3, ![15, 3072, 1024]⟩
abbrev S512x3072 : Shape := ⟨2, ![512, 3072]⟩
abbrev S64x3072 : Shape := ⟨2, ![64, 3072]⟩
abbrev S1x3072x1024 : Shape := ⟨3, ![1, 3072, 1024]⟩
abbrev S128x128 : Shape := ⟨2, ![128, 128]⟩
abbrev S512x128 : Shape := ⟨2, ![512, 128]⟩
abbrev S64x128 : Shape := ⟨2, ![64, 128]⟩
abbrev S8x128 : Shape := ⟨2, ![8, 128]⟩
abbrev S32x128 : Shape := ⟨2, ![32, 128]⟩
abbrev S3072x1024 : Shape := ⟨2, ![3072, 1024]⟩
abbrev S1x32x128 : Shape := ⟨3, ![1, 32, 128]⟩

abbrev nBuf : Space → Nat
  | .hbm => 3
  | .vmem => 8
  | .smem => 0
  | _ => 0

abbrev bufTy : (tb : Table) → Fin (tcTables nBuf tb) → BufTy
  | .hbm, ⟨0, _⟩ => ⟨S7680x3072, .i8⟩
  | .hbm, ⟨1, _⟩ => ⟨S960x3072, .fp8e4m3⟩
  | .hbm, ⟨2, _⟩ => ⟨S15x3072x1024, .bf16⟩
  | .local _ .vmem, ⟨0, _⟩ => ⟨S512x3072, .i8⟩
  | .local _ .vmem, ⟨1, _⟩ => ⟨S512x3072, .i8⟩
  | .local _ .vmem, ⟨2, _⟩ => ⟨S64x3072, .fp8e4m3⟩
  | .local _ .vmem, ⟨3, _⟩ => ⟨S64x3072, .fp8e4m3⟩
  | .local _ .vmem, ⟨4, _⟩ => ⟨S1x3072x1024, .bf16⟩
  | .local _ .vmem, ⟨5, _⟩ => ⟨S1x3072x1024, .bf16⟩
  | .local _ .vmem, ⟨6, _⟩ => ⟨S128x128, .i32⟩
  | .local _ .vmem, ⟨7, _⟩ => ⟨S128x128, .f32⟩
  | _, _ => ⟨S7680x3072, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![15], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x3072 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x3072 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x3072x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S7680x3072 : Shape := ⟨2, ![7680, 3072]⟩
abbrev S960x3072 : Shape := ⟨2, ![960, 3072]⟩
abbrev S15x3072x1024 : Shape := ⟨3, ![15, 3072, 1024]⟩
abbrev S960x1x3072 : Shape := ⟨3, ![960, 1, 3072]⟩
abbrev S960x8x3072 : Shape := ⟨3, ![960, 8, 3072]⟩
abbrev S7680x1x3072 : Shape := ⟨3, ![7680, 1, 3072]⟩
abbrev S7680x2x3072 : Shape := ⟨3, ![7680, 2, 3072]⟩
abbrev S15x128x8x3072 : Shape := ⟨4, ![15, 128, 8, 3072]⟩
abbrev S15x3072x8x128 : Shape := ⟨4, ![15, 3072, 8, 128]⟩

abbrev nBuf : Space → Nat
  | .hbm => 3
  | .vmem => 3
  | .smem => 0
  | _ => 0

abbrev bufTy : (tb : Table) → Fin (tcTables nBuf tb) → BufTy
  | .hbm, ⟨0, _⟩ => ⟨S7680x3072, .i8⟩
  | .hbm, ⟨1, _⟩ => ⟨S960x3072, .fp8e4m3⟩
  | .hbm, ⟨2, _⟩ => ⟨S15x3072x1024, .bf16⟩
  | .local _ .vmem, ⟨0, _⟩ => ⟨S7680x3072, .i8⟩
  | .local _ .vmem, ⟨1, _⟩ => ⟨S960x3072, .fp8e4m3⟩
  | .local _ .vmem, ⟨2, _⟩ => ⟨S15x3072x1024, .bf16⟩
  | _, _ => ⟨S7680x3072, .i8⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S7680x3072 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S960x3072 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S15x3072x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Main.lean ====
abbrev S_ : Shape := ⟨0, ![]⟩
abbrev S15360x4608 : Shape := ⟨2, ![15360, 4608]⟩
abbrev S15x3072x1024 : Shape := ⟨3, ![15, 3072, 1024]⟩
abbrev S15360x64 : Shape := ⟨2, ![15360, 64]⟩
abbrev S64x3072 : Shape := ⟨2, ![64, 3072]⟩
abbrev S3072 : Shape := ⟨1, ![3072]⟩
abbrev S15x128x8x64 : Shape := ⟨4, ![15, 128, 8, 64]⟩
abbrev S15x64x8x128 : Shape := ⟨4, ![15, 64, 8, 128]⟩
abbrev S15x64x1024 : Shape := ⟨3, ![15, 64, 1024]⟩
abbrev S1 : Shape := ⟨1, ![1]⟩
abbrev S3072x64 : Shape := ⟨2, ![3072, 64]⟩
abbrev S3072x1 : Shape := ⟨2, ![3072, 1]⟩
abbrev S3072x128 : Shape := ⟨2, ![3072, 128]⟩
abbrev S4608x3072 : Shape := ⟨2, ![4608, 3072]⟩
abbrev S1024x512 : Shape := ⟨2, ![1024, 512]⟩
abbrev S1x3072x1024 : Shape := ⟨3, ![1, 3072, 1024]⟩
abbrev S1x64x1024 : Shape := ⟨3, ![1, 64, 1024]⟩
abbrev S512x3072 : Shape := ⟨2, ![512, 3072]⟩
abbrev S3x3072x512 : Shape := ⟨3, ![3, 3072, 512]⟩
abbrev S3x64x512 : Shape := ⟨3, ![3, 64, 512]⟩
abbrev S3072x512 : Shape := ⟨2, ![3072, 512]⟩
abbrev S1x3072x512 : Shape := ⟨3, ![1, 3072, 512]⟩
abbrev S64x512 : Shape := ⟨2, ![64, 512]⟩
abbrev S1x64x512 : Shape := ⟨3, ![1, 64, 512]⟩
abbrev S3072x1024 : Shape := ⟨2, ![3072, 1024]⟩
abbrev S64x1024 : Shape := ⟨2, ![64, 1024]⟩
abbrev S1x128x512 : Shape := ⟨3, ![1, 128, 512]⟩
abbrev S128x512 : Shape := ⟨2, ![128, 512]⟩
abbrev S128x1 : Shape := ⟨2, ![128, 1]⟩
abbrev S128x128 : Shape := ⟨2, ![128, 128]⟩
abbrev S256x3072 : Shape := ⟨2, ![256, 3072]⟩
abbrev S256x128 : Shape := ⟨2, ![256, 128]⟩

abbrev nBuf : Space → Nat
  | .hbm => 17
  | .vmem => 14
  | .smem => 2
  | _ => 0

abbrev bufTy : (tb : Table) → Fin (tcTables nBuf tb) → BufTy
  | .hbm, ⟨0, _⟩ => ⟨S_, .f32⟩
  | .hbm, ⟨1, _⟩ => ⟨S_, .f32⟩
  | .hbm, ⟨2, _⟩ => ⟨S15360x4608, .bf16⟩
  | .hbm, ⟨3, _⟩ => ⟨S15360x4608, .bf16⟩
  | .hbm, ⟨4, _⟩ => ⟨S15x3072x1024, .bf16⟩
  | .hbm, ⟨5, _⟩ => ⟨S15360x64, .bf16⟩
  | .hbm, ⟨6, _⟩ => ⟨S64x3072, .bf16⟩
  | .hbm, ⟨7, _⟩ => ⟨S3072, .f32⟩
  | .hbm, ⟨8, _⟩ => ⟨S15x128x8x64, .bf16⟩
  | .hbm, ⟨9, _⟩ => ⟨S15x64x8x128, .bf16⟩
  | .hbm, ⟨10, _⟩ => ⟨S15x64x1024, .bf16⟩
  | .hbm, ⟨11, _⟩ => ⟨S1, .f32⟩
  | .hbm, ⟨12, _⟩ => ⟨S1, .f32⟩
  | .hbm, ⟨13, _⟩ => ⟨S3072x64, .bf16⟩
  | .hbm, ⟨14, _⟩ => ⟨S3072x1, .f32⟩
  | .hbm, ⟨15, _⟩ => ⟨S3072x128, .f32⟩
  | .hbm, ⟨16, _⟩ => ⟨S4608x3072, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1x3072x1024, .bf16⟩
  | .local _ .vmem, ⟨5, _⟩ => ⟨S1x3072x1024, .bf16⟩
  | .local _ .vmem, ⟨6, _⟩ => ⟨S1x64x1024, .bf16⟩
  | .local _ .vmem, ⟨7, _⟩ => ⟨S1x64x1024, .bf16⟩
  | .local _ .vmem, ⟨8, _⟩ => ⟨S3072x64, .bf16⟩
  | .local _ .vmem, ⟨9, _⟩ => ⟨S3072x128, .f32⟩
  | .local _ .vmem, ⟨10, _⟩ => ⟨S512x3072, .bf16⟩
  | .local _ .vmem, ⟨11, _⟩ => ⟨S512x3072, .bf16⟩
  | .local _ .vmem, ⟨12, _⟩ => ⟨S3x3072x512, .f32⟩
  | .local _ .vmem, ⟨13, _⟩ => ⟨S3x64x512, .f32⟩
  | .local _ .smem, ⟨0, _⟩ => ⟨S1, .f32⟩
  | .local _ .smem, ⟨1, _⟩ => ⟨S1, .f32⟩
  | _, _ => ⟨S_, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [BitOps F]

abbrev grid0 : Pipeline.Grid := ⟨3, ![3, 15, 3], ![false, false, false]⟩

def k0_cond1 (i : grid0.Coords) : BitVec 1 :=
  let arg1 : BitVec 32 := BitVec.ofNat 32 (i 1).val
  let c0_i32 : BitVec 32 := 0#32
  let v1 : BitVec 1 := Scalar.cmpi .eq arg1 c0_i32
  let v2 : BitVec 32 := Scalar.extui v1
  let c0_i32_0 : BitVec 32 := 0#32
  let v3 : BitVec 1 := Scalar.cmpi .ne v2 c0_i32_0
  v3

def k0_off1 (i : grid0.Coords) : Fin 3 → Nat :=
  let arg2 : BitVec 32 := BitVec.ofNat 32 (i 2).val
  let v32 : Index := Scalar.indexCast arg2
  let c0_22 : Index := 0#32
  let c0_23 : Index := 0#32
  ![v32.toNat, 0, 0]
def k0_off2 (i : grid0.Coords) : Fin 3 → Nat :=
  let arg2 : BitVec 32 := BitVec.ofNat 32 (i 2).val
  let v37 : Index := Scalar.indexCast arg2
  let c0_25 : Index := 0#32
  let c0_26 : Index := 0#32
  ![v37.toNat, 0, 0]
def k0_off3 (i : grid0.Coords) : Fin 3 → Nat :=
  let arg2 : BitVec 32 := BitVec.ofNat 32 (i 2).val
  let v4 : Index := Scalar.indexCast arg2
  let c0_1 : Index := 0#32
  let c0_2 : Index := 0#32
  ![v4.toNat, 0, 0]
def k0_off4 (i : grid0.Coords) : Fin 3 → Nat :=
  let arg2 : BitVec 32 := BitVec.ofNat 32 (i 2).val
  let v16 : Index := Scalar.indexCast arg2
  let c0_10 : Index := 0#32
  let c0_11 : Index := 0#32
  ![v16.toNat, 0, 0]
def k0_cond2 (i : grid0.Coords) : BitVec 1 :=
  let arg1 : BitVec 32 := BitVec.ofNat 32 (i 1).val
  let c14_i32 : BitVec 32 := 14#32
  let v28 : BitVec 1 := Scalar.cmpi .eq arg1 c14_i32
  let v29 : BitVec 32 := Scalar.extui v28
  let c0_i32_20 : BitVec 32 := 0#32
  let v30 : BitVec 1 := Scalar.cmpi .ne v29 c0_i32_20
  v30

def k0_off5 (i : grid0.Coords) : Fin 3 → Nat :=
  let arg2 : BitVec 32 := BitVec.ofNat 32 (i 2).val
  let v33 : Index := Scalar.indexCast arg2
  let c0_23 : Index := 0#32
  let c0_24 : Index := 0#32
  ![v33.toNat, 0, 0]
def k0_off6 (i : grid0.Coords) : Fin 3 → Nat :=
  let arg2 : BitVec 32 := BitVec.ofNat 32 (i 2).val
  let v40 : Index := Scalar.indexCast arg2
  let c0_27 : Index := 0#32
  let c0_28 : Index := 0#32
  ![v40.toNat, 0, 0]
def k0_off7 (i : grid0.Coords) : Fin 3 → Nat :=
  let arg2 : BitVec 32 := BitVec.ofNat 32 (i 2).val
  let v65 : Index := Scalar.indexCast arg2
  let c128_34 : Index := 128#32
  let c0_35 : Index := 0#32
  ![v65.toNat, 128, 0]
def k0_off8 (i : grid0.Coords) : Fin 3 → Nat :=
  let arg2 : BitVec 32 := BitVec.ofNat 32 (i 2).val
  let v90 : Index := Scalar.indexCast arg2
  let c256 : Index := 256#32
  let c0_42 : Index := 0#32
  ![v90.toNat, 256, 0]
def k0_off9 (i : grid0.Coords) : Fin 3 → Nat :=
  let arg2 : BitVec 32 := BitVec.ofNat 32 (i 2).val
  let v115 : Index := Scalar.indexCast arg2
  let c384 : Index := 384#32
  let c0_49 : Index := 0#32
  ![v115.toNat, 384, 0]
def k0_off10 (i : grid0.Coords) : Fin 3 → Nat :=
  let arg2 : BitVec 32 := BitVec.ofNat 32 (i 2).val
  let v140 : Index := Scalar.indexCast arg2
  let c512 : Index := 512#32
  let c0_56 : Index := 0#32
  ![v140.toNat, 512, 0]
def k0_off11 (i : grid0.Coords) : Fin 3 → Nat :=
  let arg2 : BitVec 32 := BitVec.ofNat 32 (i 2).val
  let v165 : Index := Scalar.indexCast arg2
  let c640 : Index := 640#32
  let c0_63 : Index := 0#32
  ![v165.toNat, 640, 0]
def k0_off12 (i : grid0.Coords) : Fin 3 → Nat :=
  let arg2 : BitVec 32 := BitVec.ofNat 32 (i 2).val
  let v190 : Index := Scalar.indexCast arg2
  let c768 : Index := 768#32
  let c0_70 : Index := 0#32
  ![v190.toNat, 768, 0]
def k0_off13 (i : grid0.Coords) : Fin 3 → Nat :=
  let arg2 : BitVec 32 := BitVec.ofNat 32 (i 2).val
  let v215 : Index := Scalar.indexCast arg2
  let c896 : Index := 896#32
  let c0_77 : Index := 0#32
  ![v215.toNat, 896, 0]
def k0_off14 (i : grid0.Coords) : Fin 3 → Nat :=
  let arg2 : BitVec 32 := BitVec.ofNat 32 (i 2).val
  let v240 : Index := Scalar.indexCast arg2
  let c1024 : Index := 1024#32
  let c0_84 : Index := 0#32
  ![v240.toNat, 1024, 0]
def k0_off15 (i : grid0.Coords) : Fin 3 → Nat :=
  let arg2 : BitVec 32 := BitVec.ofNat 32 (i 2).val
  let v265 : Index := Scalar.indexCast arg2
  let c1152 : Index := 1152#32
  let c0_91 : Index := 0#32
  ![v265.toNat, 1152, 0]
def k0_off16 (i : grid0.Coords) : Fin 3 → Nat :=
  let arg2 : BitVec 32 := BitVec.ofNat 32 (i 2).val
  let v290 : Index := Scalar.indexCast arg2
  let c1280 : Index := 1280#32
  let c0_98 : Index := 0#32
  ![v290.toNat, 1280, 0]
def k0_off17 (i : grid0.Coords) : Fin 3 → Nat :=
  let arg2 : BitVec 32 := BitVec.ofNat 32 (i 2).val
  let v315 : Index := Scalar.indexCast arg2
  let c1408 : Index := 1408#32
  let c0_105 : Index := 0#32
  ![v315.toNat, 1408, 0]
def k0_off18 (i : grid0.Coords) : Fin 3 → Nat :=
  let arg2 : BitVec 32 := BitVec.ofNat 32 (i 2).val
  let v340 : Index := Scalar.indexCast arg2
  let c1536 : Index := 1536#32
  let c0_112 : Index := 0#32
  ![v340.toNat, 1536, 0]
def k0_off19 (i : grid0.Coords) : Fin 3 → Nat :=
  let arg2 : BitVec 32 := BitVec.ofNat 32 (i 2).val
  let v365 : Index := Scalar.indexCast arg2
  let c1664 : Index := 1664#32
  let c0_119 : Index := 0#32
  ![v365.toNat, 1664, 0]
def k0_off20 (i : grid0.Coords) : Fin 3 → Nat :=
  let arg2 : BitVec 32 := BitVec.ofNat 32 (i 2).val
  let v390 : Index := Scalar.indexCast arg2
  let c1792 : Index := 1792#32
  let c0_126 : Index := 0#32
  ![v390.toNat, 1792, 0]
def k0_off21 (i : grid0.Coords) : Fin 3 → Nat :=
  let arg2 : BitVec 32 := BitVec.ofNat 32 (i 2).val
  let v415 : Index := Scalar.indexCast arg2
  let c1920 : Index := 1920#32
  let c0_133 : Index := 0#32
  ![v415.toNat, 1920, 0]
def k0_off22 (i : grid0.Coords) : Fin 3 → Nat :=
  let arg2 : BitVec 32 := BitVec.ofNat 32 (i 2).val
  let v440 : Index := Scalar.indexCast arg2
  let c2048 : Index := 2048#32
  let c0_140 : Index := 0#32
  ![v440.toNat, 2048, 0]
def k0_off23 (i : grid0.Coords) : Fin 3 → Nat :=
  let arg2 : BitVec 32 := BitVec.ofNat 32 (i 2).val
  let v465 : Index := Scalar.indexCast arg2
  let c2176 : Index := 2176#32
  let c0_147 : Index := 0#32
  ![v465.toNat, 2176, 0]
def k0_off24 (i : grid0.Coords) : Fin 3 → Nat :=
  let arg2 : BitVec 32 := BitVec.ofNat 32 (i 2).val
  let v490 : Index := Scalar.indexCast arg2
  let c2304 : Index := 2304#32
  let c0_154 : Index := 0#32
  ![v490.toNat, 2304, 0]
def k0_off25 (i : grid0.Coords) : Fin 3 → Nat :=
  let arg2 : BitVec 32 := BitVec.ofNat 32 (i 2).val
  let v515 : Index := Scalar.indexCast arg2
  let c2432 : Index := 2432#32
  let c0_161 : Index := 0#32
  ![v515.toNat, 2432, 0]
def k0_off26 (i : grid0.Coords) : Fin 3 → Nat :=
  let arg2 : BitVec 32 := BitVec.ofNat 32 (i 2).val
  let v540 : Index := Scalar.indexCast arg2
  let c2560 : Index := 2560#32
  let c0_168 : Index := 0#32
  ![v540.toNat, 2560, 0]
def k0_off27 (i : grid0.Coords) : Fin 3 → Nat :=
  let arg2 : BitVec 32 := BitVec.ofNat 32 (i 2).val
  let v565 : Index := Scalar.indexCast arg2
  let c2688 : Index := 2688#32
  let c0_175 : Index := 0#32
  ![v565.toNat, 2688, 0]
def k0_off28 (i : grid0.Coords) : Fin 3 → Nat :=
  let arg2 : BitVec 32 := BitVec.ofNat 32 (i 2).val
  let v590 : Index := Scalar.indexCast arg2
  let c2816 : Index := 2816#32
  let c0_182 : Index := 0#32
  ![v590.toNat, 2816, 0]
def k0_off29 (i : grid0.Coords) : Fin 3 → Nat :=
  let arg2 : BitVec 32 := BitVec.ofNat 32 (i 2).val
  let v615 : Index := Scalar.indexCast arg2
  let c2944 : Index := 2944#32
  let c0_189 : Index := 0#32
  ![v615.toNat, 2944, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg0 c3_i32
  let v1 : BitVec 32 := Scalar.addi v0 arg2
  let c0_i32 : BitVec 32 := 0#32
  ![arg1.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg0 c3_i32
  let v1 : BitVec 32 := Scalar.addi v0 arg2
  let c0_i32 : BitVec 32 := 0#32
  ![arg1.toNat, v1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c14_i32 : BitVec 32 := 14#32
  let v0 : BitVec 1 := Scalar.cmpi .eq arg1 c14_i32
  let c3_i32 : BitVec 32 := 3#32
  let v1 : BitVec 32 := Scalar.muli arg0 c3_i32
  let v2 : BitVec 32 := Scalar.addi v1 arg2
  let c3_i32_0 : BitVec 32 := 3#32
  let v3 : BitVec 32 := Scalar.muli arg0 c3_i32_0
  let v4 : BitVec 32 := Scalar.select v0 v2 v3
  let c0_i32 : BitVec 32 := 0#32
  let c0_i32_1 : BitVec 32 := 0#32
  ![v4.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x3072x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x64x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 1 → Memref sig .tc .vmem S3072x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S3072x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S512x3072 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== MainIdeal.lean ====
variable {F : FTy → Type} [FloatOps F]
-- ==== MainReferenceIdeal.lean ====
abbrev S_ : Shape := ⟨0, ![]⟩
abbrev S15360x4608 : Shape := ⟨2, ![15360, 4608]⟩
abbrev S15x3072x1024 : Shape := ⟨3, ![15, 3072, 1024]⟩
abbrev S15360x64 : Shape := ⟨2, ![15360, 64]⟩
abbrev S64x3072 : Shape := ⟨2, ![64, 3072]⟩
abbrev S3072 : Shape := ⟨1, ![3072]⟩
abbrev S15x3072x8x128 : Shape := ⟨4, ![15, 3072, 8, 128]⟩
abbrev S15x128x8x3072 : Shape := ⟨4, ![15, 128, 8, 3072]⟩
abbrev S15360x3072 : Shape := ⟨2, ![15360, 3072]⟩
abbrev S15x8x128x18x2x128 : Shape := ⟨6, ![15, 8, 128, 18, 2, 128]⟩
abbrev S18x128x2x15x128x8 : Shape := ⟨6, ![18, 128, 2, 15, 128, 8]⟩
abbrev S4608x15360 : Shape := ⟨2, ![4608, 15360]⟩
abbrev S4608x3072 : Shape := ⟨2, ![4608, 3072]⟩
abbrev S4608x64 : Shape := ⟨2, ![4608, 64]⟩
abbrev S1x3072 : Shape := ⟨2, ![1, 3072]⟩

abbrev nBuf : Space → Nat
  | .hbm => 29
  | .vmem => 0
  | .smem => 0
  | _ => 0

abbrev bufTy : (tb : Table) → Fin (tcTables nBuf tb) → BufTy
  | .hbm, ⟨0, _⟩ => ⟨S_, .f32⟩
  | .hbm, ⟨1, _⟩ => ⟨S_, .f32⟩
  | .hbm, ⟨2, _⟩ => ⟨S15360x4608, .bf16⟩
  | .hbm, ⟨3, _⟩ => ⟨S15360x4608, .bf16⟩
  | .hbm, ⟨4, _⟩ => ⟨S15x3072x1024, .bf16⟩
  | .hbm, ⟨5, _⟩ => ⟨S15360x64, .bf16⟩
  | .hbm, ⟨6, _⟩ => ⟨S64x3072, .bf16⟩
  | .hbm, ⟨7, _⟩ => ⟨S3072, .f32⟩
  | .hbm, ⟨8, _⟩ => ⟨S15x3072x8x128, .bf16⟩
  | .hbm, ⟨9, _⟩ => ⟨S15x128x8x3072, .bf16⟩
  | .hbm, ⟨10, _⟩ => ⟨S15360x3072, .bf16⟩
  | .hbm, ⟨11, _⟩ => ⟨S15x8x128x18x2x128, .bf16⟩
  | .hbm, ⟨12, _⟩ => ⟨S18x128x2x15x128x8, .bf16⟩
  | .hbm, ⟨13, _⟩ => ⟨S4608x15360, .bf16⟩
  | .hbm, ⟨14, _⟩ => ⟨S4608x3072, .f32⟩
  | .hbm, ⟨15, _⟩ => ⟨S15x8x128x18x2x128, .bf16⟩
  | .hbm, ⟨16, _⟩ => ⟨S18x128x2x15x128x8, .bf16⟩
  | .hbm, ⟨17, _⟩ => ⟨S4608x15360, .bf16⟩
  | .hbm, ⟨18, _⟩ => ⟨S4608x64, .f32⟩
  | .hbm, ⟨19, _⟩ => ⟨S4608x64, .bf16⟩
  | .hbm, ⟨20, _⟩ => ⟨S4608x3072, .f32⟩
  | .hbm, ⟨21, _⟩ => ⟨S_, .f32⟩
  | .hbm, ⟨22, _⟩ => ⟨S4608x3072, .f32⟩
  | .hbm, ⟨23, _⟩ => ⟨S4608x3072, .f32⟩
  | .hbm, ⟨24, _⟩ => ⟨S4608x3072, .f32⟩
  | .hbm, ⟨25, _⟩ => ⟨S1x3072, .f32⟩
  | .hbm, ⟨26, _⟩ => ⟨S4608x3072, .f32⟩
  | .hbm, ⟨27, _⟩ => ⟨S4608x3072, .f32⟩
  | .hbm, ⟨28, _⟩ => ⟨S4608x3072, .bf16⟩
  | _, _ => ⟨S_, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Pack.lean ====
abbrev S3840x2304 : Shape := ⟨2, ![3840, 2304]⟩
abbrev S4608x7680 : Shape := ⟨2, ![4608, 7680]⟩
abbrev S256x256 : Shape := ⟨2, ![256, 256]⟩
abbrev S512x512 : Shape := ⟨2, ![512, 512]⟩
abbrev S576x128 : Shape := ⟨2, ![576, 128]⟩
abbrev S128x128 : Shape := ⟨2, ![128, 128]⟩
abbrev S8x128 : Shape := ⟨2, ![8, 128]⟩
abbrev S64x128 : Shape := ⟨2, ![64, 128]⟩
abbrev S256x128 : Shape := ⟨2, ![256, 128]⟩

abbrev nBuf : Space → Nat
  | .hbm => 2
  | .vmem => 6
  | .smem => 0
  | _ => 0

abbrev bufTy : (tb : Table) → Fin (tcTables nBuf tb) → BufTy
  | .hbm, ⟨0, _⟩ => ⟨S3840x2304, .i32⟩
  | .hbm, ⟨1, _⟩ => ⟨S4608x7680, .i8⟩
  | .local _ .vmem, ⟨0, _⟩ => ⟨S256x256, .i32⟩
  | .local _ .vmem, ⟨1, _⟩ => ⟨S256x256, .i32⟩
  | .local _ .vmem, ⟨2, _⟩ => ⟨S512x512, .i8⟩
  | .local _ .vmem, ⟨3, _⟩ => ⟨S512x512, .i8⟩
  | .local _ .vmem, ⟨4, _⟩ => ⟨S576x128, .i32⟩
  | .local _ .vmem, ⟨5, _⟩ => ⟨S128x128, .i32⟩
  | _, _ => ⟨S3840x2304, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨3, ![3, 15, 3], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg0 c3_i32
  let v1 : BitVec 32 := Scalar.addi v0 arg2
  let c0_i32 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg0 c3_i32
  let v1 : BitVec 32 := Scalar.addi v0 arg2
  let c0_i32 : BitVec 32 := 0#32
  ![v1.toNat, arg1.toNat]

abbrev stage0_0 : Fin 2 → Memref sig .tc .vmem S256x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]
-- ==== PackReferenceIdeal.lean ====
abbrev S3840x2304 : Shape := ⟨2, ![3840, 2304]⟩
abbrev S15x4x64x2304 : Shape := ⟨4, ![15, 4, 64, 2304]⟩
abbrev S2304x15x64x4 : Shape := ⟨4, ![2304, 15, 64, 4]⟩
abbrev S2 : Shape := ⟨1, ![2]⟩
abbrev S1x2x1x1x1x1 : Shape := ⟨6, ![1, 2, 1, 1, 1, 1]⟩
abbrev S1x1x1x1x2x1 : Shape := ⟨6, ![1, 1, 1, 1, 2, 1]⟩
abbrev S2304x1x15x64x1x4 : Shape := ⟨6, ![2304, 1, 15, 64, 1, 4]⟩
abbrev S_ : Shape := ⟨0, ![]⟩
abbrev S1x2x1x1x2x1 : Shape := ⟨6, ![1, 2, 1, 1, 2, 1]⟩
abbrev S2304x2x15x64x2x4 : Shape := ⟨6, ![2304, 2, 15, 64, 2, 4]⟩
abbrev S4608x7680 : Shape := ⟨2, ![4608, 7680]⟩

abbrev nBuf : Space → Nat
  | .hbm => 49
  | .vmem => 0
  | .smem => 0
  | _ => 0

abbrev bufTy : (tb : Table) → Fin (tcTables nBuf tb) → BufTy
  | .hbm, ⟨0, _⟩ => ⟨S3840x2304, .i32⟩
  | .hbm, ⟨1, _⟩ => ⟨S15x4x64x2304, .i32⟩
  | .hbm, ⟨2, _⟩ => ⟨S2304x15x64x4, .i32⟩
  | .hbm, ⟨3, _⟩ => ⟨S2, .i32⟩
  | .hbm, ⟨4, _⟩ => ⟨S1x2x1x1x1x1, .i32⟩
  | .hbm, ⟨5, _⟩ => ⟨S2, .i32⟩
  | .hbm, ⟨6, _⟩ => ⟨S1x1x1x1x2x1, .i32⟩
  | .hbm, ⟨7, _⟩ => ⟨S2304x1x15x64x1x4, .i32⟩
  | .hbm, ⟨8, _⟩ => ⟨S_, .i32⟩
  | .hbm, ⟨9, _⟩ => ⟨S1x2x1x1x1x1, .i32⟩
  | .hbm, ⟨10, _⟩ => ⟨S1x2x1x1x1x1, .i32⟩
  | .hbm, ⟨11, _⟩ => ⟨S_, .i32⟩
  | .hbm, ⟨12, _⟩ => ⟨S1x1x1x1x2x1, .i32⟩
  | .hbm, ⟨13, _⟩ => ⟨S1x1x1x1x2x1, .i32⟩
  | .hbm, ⟨14, _⟩ => ⟨S1x2x1x1x2x1, .i32⟩
  | .hbm, ⟨15, _⟩ => ⟨S1x2x1x1x2x1, .i32⟩
  | .hbm, ⟨16, _⟩ => ⟨S1x2x1x1x2x1, .i32⟩
  | .hbm, ⟨17, _⟩ => ⟨S2304x2x15x64x2x4, .i32⟩
  | .hbm, ⟨18, _⟩ => ⟨S2304x2x15x64x2x4, .i32⟩
  | .hbm, ⟨19, _⟩ => ⟨S2304x2x15x64x2x4, .i32⟩
  | .hbm, ⟨20, _⟩ => ⟨S_, .i32⟩
  | .hbm, ⟨21, _⟩ => ⟨S2304x2x15x64x2x4, .i32⟩
  | .hbm, ⟨22, _⟩ => ⟨S2304x2x15x64x2x4, .i32⟩
  | .hbm, ⟨23, _⟩ => ⟨S_, .i32⟩
  | .hbm, ⟨24, _⟩ => ⟨S2304x2x15x64x2x4, .i32⟩
  | .hbm, ⟨25, _⟩ => ⟨S2304x2x15x64x2x4, .i32⟩
  | .hbm, ⟨26, _⟩ => ⟨S_, .i32⟩
  | .hbm, ⟨27, _⟩ => ⟨S2304x2x15x64x2x4, .i32⟩
  | .hbm, ⟨28, _⟩ => ⟨S2304x2x15x64x2x4, .i32⟩
  | .hbm, ⟨29, _⟩ => ⟨S_, .i32⟩
  | .hbm, ⟨30, _⟩ => ⟨S2304x2x15x64x2x4, .i32⟩
  | .hbm, ⟨31, _⟩ => ⟨S2304x2x15x64x2x4, .i1⟩
  | .hbm, ⟨32, _⟩ => ⟨S_, .i32⟩
  | .hbm, ⟨33, _⟩ => ⟨S_, .i32⟩
  | .hbm, ⟨34, _⟩ => ⟨S2304x2x15x64x2x4, .i32⟩
  | .hbm, ⟨35, _⟩ => ⟨S2304x2x15x64x2x4, .i32⟩
  | .hbm, ⟨36, _⟩ => ⟨S_, .i32⟩
  | .hbm, ⟨37, _⟩ => ⟨S2304x2x15x64x2x4, .i32⟩
  | .hbm, ⟨38, _⟩ => ⟨S2304x2x15x64x2x4, .i1⟩
  | .hbm, ⟨39, _⟩ => ⟨S_, .i32⟩
  | .hbm, ⟨40, _⟩ => ⟨S_, .i32⟩
  | .hbm, ⟨41, _⟩ => ⟨S2304x2x15x64x2x4, .i32⟩
  | .hbm, ⟨42, _⟩ => ⟨S2304x2x15x64x2x4, .i32⟩
  | .hbm, ⟨43, _⟩ => ⟨S_, .i32⟩
  | .hbm, ⟨44, _⟩ => ⟨S2304x2x15x64x2x4, .i32⟩
  | .hbm, ⟨45, _⟩ => ⟨S2304x2x15x64x2x4, .i32⟩
  | .hbm, ⟨46, _⟩ => ⟨S2304x2x15x64x2x4, .i32⟩
  | .hbm, ⟨47, _⟩ => ⟨S2304x2x15x64x2x4, .i8⟩
  | .hbm, ⟨48, _⟩ => ⟨S4608x7680, .i8⟩
  | _, _ => ⟨S3840x2304, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_c : Ref sig .tc := ⟨.hbm, 8, rfl⟩
abbrev main_v7 : Ref sig .tc := ⟨.hbm, 9, rfl⟩
abbrev main_v8 : Ref sig .tc := ⟨.hbm, 10, rfl⟩
abbrev main_c_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_c_1 : Ref sig .tc := ⟨.hbm, 20, rfl⟩
abbrev main_v17 : Ref sig .tc := ⟨.hbm, 21, rfl⟩
abbrev main_v18 : Ref sig .tc := ⟨.hbm, 22, rfl⟩
abbrev main_c_2 : Ref sig .tc := ⟨.hbm, 23, rfl⟩
abbrev main_v19 : Ref sig .tc := ⟨.hbm, 24, rfl⟩
abbrev main_v20 : Ref sig .tc := ⟨.hbm, 25, rfl⟩
abbrev main_c_3 : Ref sig .tc := ⟨.hbm, 26, rfl⟩
abbrev main_v21 : Ref sig .tc := ⟨.hbm, 27, rfl⟩
abbrev main_v22 : Ref sig .tc := ⟨.hbm, 28, rfl⟩
abbrev main_c_4 : Ref sig .tc := ⟨.hbm, 29, rfl⟩
abbrev main_v23 : Ref sig .tc := ⟨.hbm, 30, rfl⟩
abbrev main_v24 : Ref sig .tc := ⟨.hbm, 31, rfl⟩
abbrev main_c_5 : Ref sig .tc := ⟨.hbm, 32, rfl⟩
abbrev main_call0_v0 : Ref sig .tc := ⟨.hbm, 33, rfl⟩
abbrev main_call0_v1 : Ref sig .tc := ⟨.hbm, 34, rfl⟩
abbrev main_v25 : Ref sig .tc := ⟨.hbm, 35, rfl⟩
abbrev main_c_6 : Ref sig .tc := ⟨.hbm, 36, rfl⟩
abbrev main_v26 : Ref sig .tc := ⟨.hbm, 37, rfl⟩
abbrev main_v27 : Ref sig .tc := ⟨.hbm, 38, rfl⟩
abbrev main_c_7 : Ref sig .tc := ⟨.hbm, 39, rfl⟩
abbrev main_call1_v0 : Ref sig .tc := ⟨.hbm, 40, rfl⟩
abbrev main_call1_v1 : Ref sig .tc := ⟨.hbm, 41, rfl⟩
abbrev main_v28 : Ref sig .tc := ⟨.hbm, 42, rfl⟩
abbrev main_c_8 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩

abbrev nD : Nat := 1
abbrev τ : Topo := Topo.v7x

variable {F : FTy → Type} [FloatOps F]
-- ==== Scale.lean ====
abbrev S960x1152 : Shape := ⟨2, ![960, 1152]⟩
abbrev S4608x960 : Shape := ⟨2, ![4608, 960]⟩
abbrev S64x128 : Shape := ⟨2, ![64, 128]⟩
abbrev S512x960 : Shape := ⟨2, ![512, 960]⟩
abbrev S128x128 : Shape := ⟨2, ![128, 128]⟩
abbrev S3x1024x128 : Shape := ⟨3, ![3, 1024, 128]⟩
abbrev S8x128 : Shape := ⟨2, ![8, 128]⟩
abbrev S1x64x128 : Shape := ⟨3, ![1, 64, 128]⟩
abbrev S1x128x128 : Shape := ⟨3, ![1, 128, 128]⟩
abbrev S256x128 : Shape := ⟨2, ![256, 128]⟩
abbrev S64x64 : Shape := ⟨2, ![64, 64]⟩
abbrev S256x64 : Shape := ⟨2, ![256, 64]⟩

abbrev nBuf : Space → Nat
  | .hbm => 2
  | .vmem => 6
  | .smem => 0
  | _ => 0

abbrev bufTy : (tb : Table) → Fin (tcTables nBuf tb) → BufTy
  | .hbm, ⟨0, _⟩ => ⟨S960x1152, .i32⟩
  | .hbm, ⟨1, _⟩ => ⟨S4608x960, .fp8e4m3⟩
  | .local _ .vmem, ⟨0, _⟩ => ⟨S64x128, .i32⟩
  | .local _ .vmem, ⟨1, _⟩ => ⟨S64x128, .i32⟩
  | .local _ .vmem, ⟨2, _⟩ => ⟨S512x960, .fp8e4m3⟩
  | .local _ .vmem, ⟨3, _⟩ => ⟨S512x960, .fp8e4m3⟩
  | .local _ .vmem, ⟨4, _⟩ => ⟨S128x128, .i32⟩
  | .local _ .vmem, ⟨5, _⟩ => ⟨S3x1024x128, .i32⟩
  | _, _ => ⟨S960x1152, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨3, ![3, 15, 3], ![false, false, false]⟩

def k0_off1 (i : grid0.Coords) : Fin 3 → Nat :=
  let arg2 : BitVec 32 := BitVec.ofNat 32 (i 2).val
  let arg1 : BitVec 32 := BitVec.ofNat 32 (i 1).val
  let c64_i32 : BitVec 32 := 64#32
  let v1 : BitVec 32 := Scalar.muli arg1 c64_i32
  let c0_i32 : BitVec 32 := 0#32
  ![arg2.toNat, v1.toNat, 0]
def k0_cond1 (i : grid0.Coords) : BitVec 1 :=
  let arg1 : BitVec 32 := BitVec.ofNat 32 (i 1).val
  let c14_i32 : BitVec 32 := 14#32
  let v56 : BitVec 1 := Scalar.cmpi .eq arg1 c14_i32
  let v57 : BitVec 32 := Scalar.extui v56
  let c0_i32_38 : BitVec 32 := 0#32
  let v58 : BitVec 1 := Scalar.cmpi .ne v57 c0_i32_38
  v58

def k0_off2 (i : grid0.Coords) : Fin 3 → Nat :=
  let arg2 : BitVec 32 := BitVec.ofNat 32 (i 2).val
  let v59 : Index := Scalar.indexCast arg2
  let c0_39 : Index := 0#32
  let c0_40 : Index := 0#32
  ![v59.toNat, 0, 0]
def k0_off3 (i : grid0.Coords) : Fin 3 → Nat :=
  let arg2 : BitVec 32 := BitVec.ofNat 32 (i 2).val
  let v78 : Index := Scalar.indexCast arg2
  let c128 : Index := 128#32
  let c0_49 : Index := 0#32
  ![v78.toNat, 128, 0]
def k0_off4 (i : grid0.Coords) : Fin 3 → Nat :=
  let arg2 : BitVec 32 := BitVec.ofNat 32 (i 2).val
  let v97 : Index := Scalar.indexCast arg2
  let c256_62 : Index := 256#32
  let c0_63 : Index := 0#32
  ![v97.toNat, 256, 0]
def k0_off5 (i : grid0.Coords) : Fin 3 → Nat :=
  let arg2 : BitVec 32 := BitVec.ofNat 32 (i 2).val
  let v116 : Index := Scalar.indexCast arg2
  let c384 : Index := 384#32
  let c0_76 : Index := 0#32
  ![v116.toNat, 384, 0]
def k0_off6 (i : grid0.Coords) : Fin 3 → Nat :=
  let arg2 : BitVec 32 := BitVec.ofNat 32 (i 2).val
  let v135 : Index := Scalar.indexCast arg2
  let c512 : Index := 512#32
  let c0_89 : Index := 0#32
  ![v135.toNat, 512, 0]
def k0_off7 (i : grid0.Coords) : Fin 3 → Nat :=
  let arg2 : BitVec 32 := BitVec.ofNat 32 (i 2).val
  let v154 : Index := Scalar.indexCast arg2
  let c640 : Index := 640#32
  let c0_102 : Index := 0#32
  ![v154.toNat, 640, 0]
def k0_off8 (i : grid0.Coords) : Fin 3 → Nat :=
  let arg2 : BitVec 32 := BitVec.ofNat 32 (i 2).val
  let v173 : Index := Scalar.indexCast arg2
  let c768 : Index := 768#32
  let c0_115 : Index := 0#32
  ![v173.toNat, 768, 0]
def k0_off9 (i : grid0.Coords) : Fin 3 → Nat :=
  let arg2 : BitVec 32 := BitVec.ofNat 32 (i 2).val
  let v192 : Index := Scalar.indexCast arg2
  let c896 : Index := 896#32
  let c0_128 : Index := 0#32
  ![v192.toNat, 896, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg0 c3_i32
  let v1 : BitVec 32 := Scalar.addi v0 arg2
  let c0_i32 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c14_i32 : BitVec 32 := 14#32
  let v0 : BitVec 1 := Scalar.cmpi .eq arg1 c14_i32
  let c3_i32 : BitVec 32 := 3#32
  let v1 : BitVec 32 := Scalar.muli arg0 c3_i32
  let v2 : BitVec 32 := Scalar.addi v1 arg2
  let c3_i32_0 : BitVec 32 := 3#32
  let v3 : BitVec 32 := Scalar.muli arg0 c3_i32_0
  let v4 : BitVec 32 := Scalar.select v0 v2 v3
  let c0_i32 : BitVec 32 := 0#32
  let c0_i32_1 : BitVec 32 := 0#32
  ![v4.toNat, c0_i32.toNat]

abbrev stage0_0 : Fin 2 → Memref sig .tc .vmem S64x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x960 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]
-- ==== ScaleReferenceIdeal.lean ====
abbrev S960x1152 : Shape := ⟨2, ![960, 1152]⟩
abbrev S960x9x128 : Shape := ⟨3, ![960, 9, 128]⟩
abbrev S9x128x960 : Shape := ⟨3, ![9, 128, 960]⟩
abbrev S2 : Shape := ⟨1, ![2]⟩
abbrev S1x2x1x1x1 : Shape := ⟨5, ![1, 2, 1, 1, 1]⟩
abbrev S1x1x1x2x1 : Shape := ⟨5, ![1, 1, 1, 2, 1]⟩
abbrev S9x1x128x1x960 : Shape := ⟨5, ![9, 1, 128, 1, 960]⟩
abbrev S_ : Shape := ⟨0, ![]⟩
abbrev S1x2x1x2x1 : Shape := ⟨5, ![1, 2, 1, 2, 1]⟩
abbrev S9x2x128x2x960 : Shape := ⟨5, ![9, 2, 128, 2, 960]⟩
abbrev S4608x960 : Shape := ⟨2, ![4608, 960]⟩

abbrev nBuf : Space → Nat
  | .hbm => 23
  | .vmem => 0
  | .smem => 0
  | _ => 0

abbrev bufTy : (tb : Table) → Fin (tcTables nBuf tb) → BufTy
  | .hbm, ⟨0, _⟩ => ⟨S960x1152, .i32⟩
  | .hbm, ⟨1, _⟩ => ⟨S960x9x128, .i32⟩
  | .hbm, ⟨2, _⟩ => ⟨S9x128x960, .i32⟩
  | .hbm, ⟨3, _⟩ => ⟨S2, .i32⟩
  | .hbm, ⟨4, _⟩ => ⟨S1x2x1x1x1, .i32⟩
  | .hbm, ⟨5, _⟩ => ⟨S2, .i32⟩
  | .hbm, ⟨6, _⟩ => ⟨S1x1x1x2x1, .i32⟩
  | .hbm, ⟨7, _⟩ => ⟨S9x1x128x1x960, .i32⟩
  | .hbm, ⟨8, _⟩ => ⟨S_, .i32⟩
  | .hbm, ⟨9, _⟩ => ⟨S1x2x1x1x1, .i32⟩
  | .hbm, ⟨10, _⟩ => ⟨S1x2x1x1x1, .i32⟩
  | .hbm, ⟨11, _⟩ => ⟨S_, .i32⟩
  | .hbm, ⟨12, _⟩ => ⟨S1x1x1x2x1, .i32⟩
  | .hbm, ⟨13, _⟩ => ⟨S1x1x1x2x1, .i32⟩
  | .hbm, ⟨14, _⟩ => ⟨S1x2x1x2x1, .i32⟩
  | .hbm, ⟨15, _⟩ => ⟨S1x2x1x2x1, .i32⟩
  | .hbm, ⟨16, _⟩ => ⟨S1x2x1x2x1, .i32⟩
  | .hbm, ⟨17, _⟩ => ⟨S9x2x128x2x960, .i32⟩
  | .hbm, ⟨18, _⟩ => ⟨S9x2x128x2x960, .i32⟩
  | .hbm, ⟨19, _⟩ => ⟨S9x2x128x2x960, .i32⟩
  | .hbm, ⟨20, _⟩ => ⟨S9x2x128x2x960, .i8⟩
  | .hbm, ⟨21, _⟩ => ⟨S9x2x128x2x960, .fp8e4m3⟩
  | .hbm, ⟨22, _⟩ => ⟨S4608x960, .fp8e4m3⟩
  | _, _ => ⟨S960x1152, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_c : Ref sig .tc := ⟨.hbm, 8, rfl⟩
abbrev main_v7 : Ref sig .tc := ⟨.hbm, 9, rfl⟩
abbrev main_v8 : Ref sig .tc := ⟨.hbm, 10, rfl⟩
abbrev main_c_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩

abbrev nD : Nat := 1
abbrev τ : Topo := Topo.v7x

variable {F : FTy → Type} [FloatOps F]
-- ==== Proof.Pieces.lean ====
/- The 768 stores of one grid step of the weight preparation, written as one function of the output tile,
   the row block inside it, the byte of the packed words and the nibble of the byte. -/
module

public import proofs.«01_k».proof.Proof.Gen.KernelIdeal.Value

@[expose] public section

noncomputable section

namespace Cert.KernelIdeal.Pieces

open Cert.KernelIdeal Cert.KernelIdeal.Gen Idealize.ShloMosaic Idealize.ShloMosaic.TcCoe Idealize.SL.Sem

variable {F : FTy → Type} [FloatOps F]

/-- The transposed 32-bit words of output tile `ot`. -/
def words (x : Vec F S512x128 .i8) : IVec S128x128 32 := k0_pay3 x

/-- The stores into the word scratch up to tile `n`, the last first. -/
def wordStores (arg1 : Memref sig .tc .vmem S512x3072 .i8) (harg1 : arg1.IsWhole) (x0 : Vec F S512x3072 .i8) :
    (n : Nat) → n < 24 → List (View.Piece (Elt F) S128x128 .i32)
  | 0, _ => [⟨Rect.unit ![0, 0] S128x128.size inb_S128x128_S128x128_0_0,
      k0_pay3 (View.readAt (Elt F) arg1.view (Rect.unit (s := S512x3072) ![0, 0] S512x128.size inb_S512x3072_S512x128_0_0).toLoadRect (harg1.unread x0))⟩]
  | n + 1, h => ⟨Rect.unit ![0, 0] S128x128.size inb_S128x128_S128x128_0_0,
      k0_pay3 (View.readAt (Elt F) arg1.view (Rect.unit (s := S512x3072) ![0, 128 * (n + 1)] S512x128.size
        (fun a => by fin_cases a <;> simp [S512x128, S512x3072] <;> omega)).toLoadRect (harg1.unread x0))⟩
      :: wordStores arg1 harg1 x0 n (by omega)

/-- The stores into the scale scratch up to tile `n`, the last first: the odd rows, then the even rows. -/
def scaleStores (arg2 : Memref sig .tc .vmem S64x3072 .fp8e4m3) (harg2 : arg2.IsWhole) (x1 : Vec F S64x3072 .fp8e4m3) :
    (n : Nat) → n < 25 → List (View.Piece (Elt F) S128x128 .f32)
  | 0, _ => []
  | n + 1, h =>
    ⟨⟨(⟨![1, 0], S64x128.size, ![2, 1], inb_S128x128_S64x128_1_0_s_2_1⟩ : LoadRect S128x128), spos_2_1⟩,
      k0_pay6 (View.readAt (Elt F) arg2.view (Rect.unit (s := S64x3072) ![0, 128 * n] S64x128.size
        (fun a => by fin_cases a <;> simp [S64x128, S64x3072] <;> omega)).toLoadRect (harg2.unread x1))⟩
    :: ⟨⟨(⟨![0, 0], S64x128.size, ![2, 1], inb_S128x128_S64x128_0_0_s_2_1⟩ : LoadRect S128x128), spos_2_1⟩,
      k0_pay5 (View.readAt (Elt F) arg2.view (Rect.unit (s := S64x3072) ![0, 128 * n] S64x128.size
        (fun a => by fin_cases a <;> simp [S64x128, S64x3072] <;> omega)).toLoadRect (harg2.unread x1))⟩
    :: scaleStores arg2 harg2 x1 n (by omega)

/-- Byte `k` of a row of words, moved to the bottom. -/
def byteOf : Nat → IVec S8x128 32 → IVec S8x128 32
  | 0, w => w
  | k + 1, w => shrui w (broadcast S8x128 (BitVec.ofNat 32 (8 * (k + 1))))

/-- Nibble `p` of every byte of a word, put into the code positions of the 8-bit format: sign on top, then three bits below the exponent's top. -/
def nibOf : Nat → IVec S8x128 32 → IVec S8x128 32
  | 0, w => ori (andi (shli w (broadcast S8x128 2#32)) (broadcast S8x128 471604252#32))
      (andi (shli w (broadcast S8x128 4#32)) (broadcast S8x128 2155905152#32))
  | _ + 1, w => ori (andi (shrui w (broadcast S8x128 2#32)) (broadcast S8x128 471604252#32))
      (andi w (broadcast S8x128 2155905152#32))

/-- One store's payload from the word scratch and the scale scratch as loaded. -/
def payload (byte p : Nat) (w0 w1 w2 w3 : IVec S8x128 32) (sc : FVec F S32x128 .bf16) : FVec F S1x32x128 .bf16 :=
  shapeCast S1x32x128
    (mulf (extf .bf16 (bitcastToFloat .fp8e4m3 (bitcast S32x128 8
      (nibOf p (packElementwiseInt 8 ![byteOf byte w0, byteOf byte w1, byteOf byte w2, byteOf byte w3]))
      bitcasts_S8x128_w32_S32x128_w8)) bitsLt_fp8e4m3_bf16) sc) shapeCasts_S32x128_S1x32x128

theorem row_inb (b c : Nat) (hb : b < 4) (hc : c < 4) :
    ∀ a, S8x128.size a = 0 ∨ (![32 * b + c, 0] : Fin 2 → Nat) a + (![4, 1] : Fin 2 → Nat) a * (S8x128.size a - 1) < S128x128.size a := by
  intro a; fin_cases a <;> simp [S8x128, S128x128] <;> omega

/-- Row `c` of every group of four of block `b` of the word scratch. -/
def rowLoad (v : View sig .tc .vmem S128x128 .i32) (L : List (View.Piece (Elt F) S128x128 .i32)) (b c : Nat) (hb : b < 4) (hc : c < 4) :
    IVec S8x128 32 :=
  v.readCov L (⟨![32 * b + c, 0], S8x128.size, ![4, 1], row_inb b c hb hc⟩ : LoadRect S128x128)

theorem slices_b (b : Nat) (hb : b < 4) : S128x128.Slices ![32 * b, 0] S32x128 :=
  ⟨rfl, fun a => by fin_cases a <;> simp [S32x128, S128x128] <;> omega⟩

/-- Rows `32 b` to `32 b + 31` of the transposed scales. -/
def scaleLoad (v : View sig .tc .vmem S128x128 .f32) (L : List (View.Piece (Elt F) S128x128 .f32)) (b : Nat) (hb : b < 4) :
    FVec F S32x128 .bf16 :=
  extractStridedSlice S32x128 ![32 * b, 0]
    (k0_pay7 (v.readCov L (Rect.unit ![0, 0] S128x128.size inb_S128x128_S128x128_0_0).toLoadRect)) (slices_b b hb)

section
variable (arg1 : Memref sig .tc .vmem S512x3072 .i8) (harg1 : arg1.IsWhole) (arg2 : Memref sig .tc .vmem S64x3072 .fp8e4m3) (harg2 : arg2.IsWhole)
  (arg4 : Memref sig .tc .vmem S128x128 .i32) (arg5 : Memref sig .tc .vmem S128x128 .f32)
  (x0 : Vec F S512x3072 .i8) (x1 : Vec F S64x3072 .fp8e4m3)

theorem piece_inb (ot b byte p : Nat) (ho : ot < 24) (hb : b < 4) (hy : byte < 4) (hp : p < 2) :
    ∀ a, (![0, 128 * ot + 32 * b, 128 * (2 * byte + p)] : Fin 3 → Nat) a + S1x32x128.size a ≤ S1x3072x1024.size a := by
  intro a; fin_cases a <;> simp [S1x32x128, S1x3072x1024] <;> omega

/-- The store of nibble `p` of byte `byte` of block `b` of tile `ot`. -/
def piece (ot b byte p : Nat) (ho : ot < 24) (hb : b < 4) (hy : byte < 4) (hp : p < 2) : View.Piece (Elt F) S1x3072x1024 .bf16 :=
  ⟨Rect.unit ![0, 128 * ot + 32 * b, 128 * (2 * byte + p)] S1x32x128.size (piece_inb ot b byte p ho hb hy hp),
    payload byte p
      (rowLoad arg4.view (wordStores arg1 harg1 x0 ot ho) b 0 hb (by decide))
      (rowLoad arg4.view (wordStores arg1 harg1 x0 ot ho) b 1 hb (by decide))
      (rowLoad arg4.view (wordStores arg1 harg1 x0 ot ho) b 2 hb (by decide))
      (rowLoad arg4.view (wordStores arg1 harg1 x0 ot ho) b 3 hb (by decide))
      (scaleLoad arg5.view (scaleStores arg2 harg2 x1 (ot + 1) (by omega)) b hb)⟩

/-- The eight stores of a block, before the list `L`. -/
def blockPieces (ot b : Nat) (ho : ot < 24) (hb : b < 4) (L : List (View.Piece (Elt F) S1x3072x1024 .bf16)) :
    List (View.Piece (Elt F) S1x3072x1024 .bf16) :=
  piece arg1 harg1 arg2 harg2 arg4 arg5 x0 x1 ot b 3 1 ho hb (by decide) (by decide) ::
  piece arg1 harg1 arg2 harg2 arg4 arg5 x0 x1 ot b 3 0 ho hb (by decide) (by decide) ::
  piece arg1 harg1 arg2 harg2 arg4 arg5 x0 x1 ot b 2 1 ho hb (by decide) (by decide) ::
  piece arg1 harg1 arg2 harg2 arg4 arg5 x0 x1 ot b 2 0 ho hb (by decide) (by decide) ::
  piece arg1 harg1 arg2 harg2 arg4 arg5 x0 x1 ot b 1 1 ho hb (by decide) (by decide) ::
  piece arg1 harg1 arg2 harg2 arg4 arg5 x0 x1 ot b 1 0 ho hb (by decide) (by decide) ::
  piece arg1 harg1 arg2 harg2 arg4 arg5 x0 x1 ot b 0 1 ho hb (by decide) (by decide) ::
  piece arg1 harg1 arg2 harg2 arg4 arg5 x0 x1 ot b 0 0 ho hb (by decide) (by decide) :: L

/-- The stores of the first `n` tiles, the last first. -/
def allPieces : (n : Nat) → n ≤ 24 → List (View.Piece (Elt F) S1x3072x1024 .bf16)
  | 0, _ => []
  | n + 1, h =>
    blockPieces arg1 harg1 arg2 harg2 arg4 arg5 x0 x1 n 3 h (by decide) <|
    blockPieces arg1 harg1 arg2 harg2 arg4 arg5 x0 x1 n 2 h (by decide) <|
    blockPieces arg1 harg1 arg2 harg2 arg4 arg5 x0 x1 n 1 h (by decide) <|
    blockPieces arg1 harg1 arg2 harg2 arg4 arg5 x0 x1 n 0 h (by decide) <| allPieces n (by omega)

/-- The stores the step makes are these. -/
theorem run_pieces (c : Dev nD) (i : grid0.Coords) (arg3 : Memref sig .tc .vmem S1x3072x1024 .bf16) (harg3 : arg3.IsWhole)
    (harg4 : arg4.IsWhole) (harg5 : arg5.IsWhole) :
    (kernelRun0_A c i arg1 harg1 arg2 harg2 arg3 harg3 arg4 harg4 arg5 harg5 x0 x1).1
      = allPieces arg1 harg1 arg2 harg2 arg4 arg5 x0 x1 24 (by decide) := by
  sl_kernel_rfl
end

end Cert.KernelIdeal.Pieces
end
-- ==== Proof.StepValue.lean ====
/- One grid step of the weight preparation, read at an index: the decoded nibble times its group scale. -/
module

public import proofs.«01_k».proof.Proof.Pieces
public import Idealize.ShloMosaic.Lib.BitcastFour
public import Idealize.ShloMosaic.Lib.WholeRead
public import Idealize.ShloMosaic.Lib.Pipeline.ReadBack
public import Idealize.ShloMosaic.Lib.Pointwise

@[expose] public section

noncomputable section

namespace Cert.KernelIdeal.Pieces

open Cert.KernelIdeal Cert.KernelIdeal.Gen Idealize.ShloMosaic Idealize.ShloMosaic.TcCoe Idealize.SL.Sem

/-- Nibble `p` of a byte, put into the code positions of the 8-bit format. -/
def nib8 : Nat → BitVec 8 → BitVec 8
  | 0, c => ((c <<< 2) &&& 0x1C#8) ||| ((c <<< 4) &&& 0x80#8)
  | _ + 1, c => ((c >>> 2) &&& 0x1C#8) ||| (c &&& 0x80#8)

/-- Byte `q` of a word. -/
def byteAt (w : BitVec 32) (q : Nat) : BitVec 8 := w.extractLsb' (8 * q) 8

theorem mask_1c (i : Nat) : (471604252#32).getLsbD i = decide (i < 32 ∧ (i % 8 = 2 ∨ i % 8 = 3 ∨ i % 8 = 4)) := by
  by_cases h : i < 32
  · interval_cases i <;> rfl
  · rw [BitVec.getLsbD_of_ge _ _ (by omega)]; simp [h]

theorem mask_80 (i : Nat) : (2155905152#32).getLsbD i = decide (i < 32 ∧ i % 8 = 7) := by
  by_cases h : i < 32
  · interval_cases i <;> rfl
  · rw [BitVec.getLsbD_of_ge _ _ (by omega)]; simp [h]

theorem mask8_1c (i : Nat) : (0x1C#8).getLsbD i = decide (i = 2 ∨ i = 3 ∨ i = 4) := by
  by_cases h : i < 8
  · interval_cases i <;> rfl
  · rw [BitVec.getLsbD_of_ge _ _ (by omega)]; simp; omega

theorem mask8_80 (i : Nat) : (0x80#8).getLsbD i = decide (i = 7) := by
  by_cases h : i < 8
  · interval_cases i <;> rfl
  · rw [BitVec.getLsbD_of_ge _ _ (by omega)]; simp; omega

/-- The word operation on a whole row of words is the byte operation on each byte. -/
theorem byteAt_nib (p : Nat) (w : BitVec 32) (q : Nat) (hq : q < 4) :
    byteAt (match p with
      | 0 => ((w <<< 2) &&& 471604252#32) ||| ((w <<< 4) &&& 2155905152#32)
      | _ + 1 => ((w >>> 2) &&& 471604252#32) ||| (w &&& 2155905152#32)) q = nib8 p (byteAt w q) := by
  apply BitVec.eq_of_getLsbD_eq
  intro i hi
  cases p with
  | zero =>
    simp only [byteAt, nib8, BitVec.getLsbD_extractLsb', BitVec.getLsbD_or, BitVec.getLsbD_and, BitVec.getLsbD_shiftLeft, mask_1c, mask_80, mask8_1c, mask8_80]
    interval_cases q <;> interval_cases i <;> simp
  | succ p =>
    simp only [byteAt, nib8, BitVec.getLsbD_extractLsb', BitVec.getLsbD_or, BitVec.getLsbD_and, BitVec.getLsbD_ushiftRight, mask_1c, mask_80, mask8_1c, mask8_80]
    interval_cases q <;> interval_cases i <;> simp

/-- Words read as bytes: the byte at row `r` is byte `r % 4` of the word in row `r / 4`. -/
theorem bitcast_bytes (W : S8x128.Idx → BitVec 32) (h : S8x128.Bitcasts 32 S32x128 8) (r : Fin 32) (l : Fin 128) :
    bitcast S32x128 8 W h (ix2 r l) = byteAt (W (ix2 (⟨r.val / 4, by omega⟩ : Fin 8) l)) (r.val % 4) := by
  apply BitVec.eq_of_getLsbD_eq
  intro i hi
  have hr := r.isLt
  have hrow : S32x128.row (ix2 r l) = r.val := rfl
  rw [bitcast_getLsbD _ _ _ i hi (by decide)]
  unfold byteAt
  rw [BitVec.getLsbD_extractLsb']
  simp only [hi, decide_true, Bool.true_and]
  have e : (S32x128.row (ix2 r l) * 8 + i) % 32 = 8 * (r.val % 4) + i := by rw [hrow]; omega
  rw [e]
  congr 2
  funext c
  match c with
  | ⟨0, _⟩ =>
    refine Fin.ext ((h.srcIdx_row _ _ _ ⟨0, Nat.zero_lt_two⟩ rfl).trans ?_)
    show (S32x128.row (ix2 r l) * 8 + i) / 32 = r.val / 4
    rw [hrow]; omega
  | ⟨1, _⟩ => exact Fin.ext (h.srcIdx_other _ _ _ ⟨1, Nat.one_lt_two⟩ (by show ¬ 1 + 2 = 2; omega))

/-- Byte `q` of a packed word is the low byte of its operand `q`. -/
theorem byteAt_pack (x : Fin 4 → BitVec 32) (q : Fin 4) :
    byteAt ((x 3).setWidth 8 ++ (x 2).setWidth 8 ++ (x 1).setWidth 8 ++ (x 0).setWidth 8) q.val = (x q).setWidth 8 := by
  apply BitVec.eq_of_getLsbD_eq
  intro i hi
  unfold byteAt
  rw [BitVec.getLsbD_extractLsb']
  simp only [hi, decide_true, Bool.true_and, BitVec.getLsbD_append, BitVec.getLsbD_setWidth]
  fin_cases q
  · simp [hi]
  · simp [show ¬ (8 + i < 8) by omega, show 8 + i - 8 = i by omega, hi]
  · simp [show ¬ (16 + i < 8) by omega, show ¬ (16 + i - 8 < 8) by omega, show 16 + i - 8 - 8 = i by omega, hi]
  · simp [show ¬ (24 + i < 8) by omega, show ¬ (24 + i - 8 < 8) by omega, show ¬ (24 + i - 8 - 8 < 8) by omega, show 24 + i - 8 - 8 - 8 = i by omega]
    exact fun _ => hi

/-- Byte `k` of a word of four byte rows is the byte of row `k`. -/
theorem byte_of_word (x : S512x128.Idx → BitVec 8) (h : S512x128.Bitcasts 8 S128x128 32) (a l : Fin 128) (k : Nat) (hk : k < 4) :
    byteAt (bitcast S128x128 32 x h (ix2 a l)) k = x (ix2 (⟨4 * a.val + k, by omega⟩ : Fin 512) l) := by
  apply BitVec.eq_of_getLsbD_eq
  intro i hi
  unfold byteAt
  rw [BitVec.getLsbD_extractLsb']
  simp only [hi, decide_true, Bool.true_and]
  have ha := a.isLt
  have e := bitcast_8_32_getLsbD_ix2 x h a l (8 * k + i) (by omega) ⟨4 * a.val + k, by omega⟩ (by simp; omega)
  refine e.trans ?_
  rw [show (8 * k + i) % 8 = i by omega]
  rfl

/-! ## The two scratches as loaded -/

/-- A load of the slice at lane `128 n` of the packed weight block. -/
theorem readAt_words (arg1 : Memref sig .tc .vmem S512x3072 .i8) (harg1 : arg1.IsWhole) (x0 : Vec Ideal S512x3072 .i8) (off : Nat)
    (inb : ∀ a, (![0, off] : Fin 2 → Nat) a + S512x128.size a ≤ S512x3072.size a) (a : Fin 512) (l : Fin 128) (k : Fin 3072) (hk : k.val = off + l.val) :
    View.readAt (Elt Ideal) arg1.view (Rect.unit (s := S512x3072) ![0, off] S512x128.size inb).toLoadRect (harg1.unread x0) (ix2 a l)
      = x0 (ix2 a k) := by
  rw [harg1.readAt_unread]
  congr 1
  funext c
  match c with
  | ⟨0, _⟩ => exact Fin.ext (show 0 + 1 * a.val = a.val by omega)
  | ⟨1, _⟩ => exact Fin.ext (show off + 1 * l.val = k.val by omega)

theorem readAt_scales (arg2 : Memref sig .tc .vmem S64x3072 .fp8e4m3) (harg2 : arg2.IsWhole) (x1 : Vec Ideal S64x3072 .fp8e4m3) (off : Nat)
    (inb : ∀ a, (![0, off] : Fin 2 → Nat) a + S64x128.size a ≤ S64x3072.size a) (a : Fin 64) (l : Fin 128) (k : Fin 3072) (hk : k.val = off + l.val) :
    View.readAt (Elt Ideal) arg2.view (Rect.unit (s := S64x3072) ![0, off] S64x128.size inb).toLoadRect (harg2.unread x1) (ix2 a l)
      = x1 (ix2 a k) := by
  rw [harg2.readAt_unread]
  congr 1
  funext c
  match c with
  | ⟨0, _⟩ => exact Fin.ext (show 0 + 1 * a.val = a.val by omega)
  | ⟨1, _⟩ => exact Fin.ext (show off + 1 * l.val = k.val by omega)

/-- The transposed words at an index. -/
theorem pay3_apply (X : Vec Ideal S512x128 .i8) (a l : Fin 128) :
    k0_pay3 (F := Ideal) X (ix2 a l) = bitcast S128x128 32 X bitcasts_S512x128_w8_S128x128_w32 (ix2 l a) := by
  unfold k0_pay3
  dsimp only
  pointwise

theorem hz : ∀ a, (![0, 0] : Fin 2 → Nat) a = 0 := fun a => by fin_cases a <;> rfl

/-- The word scratch while tile `n` is expanded: at (a, l), the word of the four bytes 4 l, …, 4 l + 3 of column `128 n + a`. -/
theorem canon_words (arg1 : Memref sig .tc .vmem S512x3072 .i8) (harg1 : arg1.IsWhole) (x0 : Vec Ideal S512x3072 .i8) (n : Nat) (hn : n < 24)
    (a l : Fin 128) (k : Nat) (hk : k < 4) (o : Fin 3072) (ho : o.val = 128 * n + a.val) :
    byteAt (View.canon (wordStores arg1 harg1 x0 n hn) (ix2 a l)) k = x0 (ix2 (⟨4 * l.val + k, by omega⟩ : Fin 512) o) := by
  cases n with
  | zero =>
    unfold wordStores
    rw [View.canon_cons_unit_lit inb_S128x128_S128x128_0_0 _ _ hz, pay3_apply, byte_of_word _ _ _ _ _ hk]
    exact readAt_words arg1 harg1 x0 0 _ _ _ _ (by omega)
  | succ n =>
    unfold wordStores
    rw [View.canon_cons_unit_lit inb_S128x128_S128x128_0_0 _ _ hz, pay3_apply, byte_of_word _ _ _ _ _ hk]
    exact readAt_words arg1 harg1 x0 (128 * (n + 1)) _ _ _ _ (by omega)

/-- A strided row load of the word scratch. -/
theorem rowLoad_apply (v : View sig .tc .vmem S128x128 .i32) (L : List (View.Piece (Elt Ideal) S128x128 .i32)) (b c : Nat) (hb : b < 4) (hc : c < 4)
    (a : Fin 8) (l : Fin 128) :
    rowLoad v L b c hb hc (ix2 a l) = View.canon L (ix2 (⟨32 * b + c + 4 * a.val, by omega⟩ : Fin 128) l) := by
  unfold rowLoad
  rw [View.readCov_eq_canon']
  refine congrArg (View.canon L) ?_
  funext d
  match d with
  | ⟨0, _⟩ => exact Fin.ext rfl
  | ⟨1, _⟩ => exact Fin.ext (show 0 + 1 * l.val = l.val by omega)

/-- The scale scratch while tile `n` is expanded: at (l, a), the scale of group `l / 2` of column `128 n + a`, times 64. -/
theorem canon_scales (arg2 : Memref sig .tc .vmem S64x3072 .fp8e4m3) (harg2 : arg2.IsWhole) (x1 : Vec Ideal S64x3072 .fp8e4m3) (n : Nat) (hn : n + 1 < 25)
    (l a : Fin 128) (o : Fin 3072) (ho : o.val = 128 * n + a.val) :
    View.canon (scaleStores arg2 harg2 x1 (n + 1) hn) (ix2 l a)
      = x1 (ix2 (⟨l.val / 2, by omega⟩ : Fin 64) o) * Ideal.ofBits .f32 0x42800000#32 := by
  have p5 (X : Vec Ideal S64x128 .fp8e4m3) (g : Fin 64) : k0_pay5 (F := Ideal) X (ix2 g a) = X (ix2 g a) * Ideal.ofBits .f32 0x42800000#32 := by
    unfold k0_pay5 k0_pay4; dsimp only; pointwise
  have p6 (X : Vec Ideal S64x128 .fp8e4m3) (g : Fin 64) : k0_pay6 (F := Ideal) X (ix2 g a) = X (ix2 g a) * Ideal.ofBits .f32 0x42800000#32 := by
    unfold k0_pay6 k0_pay4; dsimp only; pointwise
  unfold scaleStores
  rcases Nat.mod_two_eq_zero_or_one l.val with h | h
  · rw [View.canon_cons_of_not_mem]
    · have e : (ix2 l a : S128x128.Idx) = (⟨(⟨![0, 0], S64x128.size, ![2, 1], inb_S128x128_S64x128_0_0_s_2_1⟩ : LoadRect S128x128), spos_2_1⟩ : Rect S128x128).emb
          (ix2 (⟨l.val / 2, by omega⟩ : Fin 64) a) := by
        funext d
        match d with
        | ⟨0, _⟩ => exact Fin.ext (show l.val = 0 + 2 * (l.val / 2) by omega)
        | ⟨1, _⟩ => exact Fin.ext (show a.val = 0 + 1 * a.val by omega)
      rw [e, View.canon_cons_emb, p5, readAt_scales _ _ _ _ _ _ _ o ho]
    · rw [LoadRect.mem_set]
      intro hm
      obtain ⟨q, hq, e⟩ := hm 0
      have e' : l.val = 1 + 2 * q := e
      omega
  · have e : (ix2 l a : S128x128.Idx) = (⟨(⟨![1, 0], S64x128.size, ![2, 1], inb_S128x128_S64x128_1_0_s_2_1⟩ : LoadRect S128x128), spos_2_1⟩ : Rect S128x128).emb
          (ix2 (⟨l.val / 2, by omega⟩ : Fin 64) a) := by
      funext d
      match d with
      | ⟨0, _⟩ => exact Fin.ext (show l.val = 1 + 2 * (l.val / 2) by omega)
      | ⟨1, _⟩ => exact Fin.ext (show a.val = 0 + 1 * a.val by omega)
    rw [e, View.canon_cons_emb, p6, readAt_scales _ _ _ _ _ _ _ o ho]

/-- The scale rows of block `b`, as a store uses them. -/
theorem scaleLoad_apply (v : View sig .tc .vmem S128x128 .f32) (L : List (View.Piece (Elt Ideal) S128x128 .f32)) (b : Nat) (hb : b < 4)
    (r : Fin 32) (l : Fin 128) :
    scaleLoad v L b hb (ix2 r l) = View.canon L (ix2 l (⟨32 * b + r.val, by omega⟩ : Fin 128)) := by
  unfold scaleLoad
  rw [extractStridedSlice_apply ![32 * b, 0] _ (slices_b b hb) (ix2 r l) (ix2 (⟨32 * b + r.val, by omega⟩ : Fin 128) l)
    (fun d => by match d with
      | ⟨0, _⟩ => rfl
      | ⟨1, _⟩ => exact (Nat.zero_add _).symm)]
  have h7 (X : Vec Ideal S128x128 .f32) (q l : Fin 128) : k0_pay7 (F := Ideal) X (ix2 q l) = X (ix2 l q) := by
    unfold k0_pay7; dsimp only; pointwise
  rw [h7, View.readCov_eq_canon']
  refine congrArg (View.canon L) ?_
  funext d
  match d with
  | ⟨0, _⟩ => exact Fin.ext (show 0 + 1 * l.val = l.val by omega)
  | ⟨1, _⟩ => exact Fin.ext (show 0 + 1 * (32 * b + r.val) = 32 * b + r.val by omega)

/-! ## A store's payload, and the whole step -/

/-- What stands at row `o`, lane `j` of the step's block: the decoded code of the nibble times the scaled group scale. -/
def stepAt (x0 : Vec Ideal S512x3072 .i8) (x1 : Vec Ideal S64x3072 .fp8e4m3) (o : Fin 3072) (j : Fin 1024) : EReal :=
  Ideal.ofBits .fp8e4m3 (nib8 (j.val / 128 % 2) (x0 (ix2 (⟨4 * (j.val % 128) + j.val / 256, by omega⟩ : Fin 512) o)))
    * (x1 (ix2 (⟨j.val % 128 / 2, by omega⟩ : Fin 64) o) * Ideal.ofBits .f32 0x42800000#32)

theorem byteOf_low (k : Nat) (hk : k < 4) (w : IVec S8x128 32) (i : S8x128.Idx) : (byteOf k w i).setWidth 8 = byteAt (w i) k := by
  apply BitVec.eq_of_getLsbD_eq
  intro q hq
  unfold byteAt
  rw [BitVec.getLsbD_extractLsb']
  cases k with
  | zero => simp [byteOf, hq]
  | succ k =>
    have hk3 : k < 3 := by omega
    have e : byteOf (k + 1) w i = w i >>> (8 * (k + 1)) := by
      interval_cases k <;> rfl
    rw [e]
    simp [hq]

theorem nibOf_byte (p : Nat) (w : IVec S8x128 32) (i : S8x128.Idx) (q : Nat) (hq : q < 4) : byteAt (nibOf p w i) q = nib8 p (byteAt (w i) q) := by
  rw [← byteAt_nib p (w i) q hq]
  cases p <;> rfl

/-- A store's payload at an index, from its loads. -/
theorem payload_apply (byte p : Nat) (hy : byte < 4) (w : Fin 4 → IVec S8x128 32) (sc : FVec Ideal S32x128 .bf16) (r : Fin 32) (l : Fin 128) :
    payload (F := Ideal) byte p (w 0) (w 1) (w 2) (w 3) sc (ix3 (0 : Fin 1) r l)
      = Ideal.ofBits .fp8e4m3 (nib8 p (byteAt (w (⟨r.val % 4, by omega⟩ : Fin 4) (ix2 (⟨r.val / 4, by omega⟩ : Fin 8) l)) byte)) * sc (ix2 r l) := by
  have hs (X : FVec Ideal S32x128 .bf16) : shapeCast S1x32x128 X shapeCasts_S32x128_S1x32x128 (ix3 (0 : Fin 1) r l) = X (ix2 r l) := by pointwise
  unfold payload
  rw [hs]
  show Ideal.ofBits .fp8e4m3 (bitcast S32x128 8 _ _ (ix2 r l)) * sc (ix2 r l) = _
  rw [bitcast_bytes, nibOf_byte _ _ _ _ (Nat.mod_lt _ (by decide)), packElementwiseInt8_apply]
  have h := byteAt_pack (fun q => byteOf byte (w q) (ix2 (⟨r.val / 4, by omega⟩ : Fin 8) l)) ⟨r.val % 4, by omega⟩
  refine congrArg (fun z => Ideal.ofBits .fp8e4m3 (nib8 p z) * sc (ix2 r l)) (h.trans ?_)
  exact byteOf_low byte hy _ _

section
variable (arg1 : Memref sig .tc .vmem S512x3072 .i8) (harg1 : arg1.IsWhole) (arg2 : Memref sig .tc .vmem S64x3072 .fp8e4m3) (harg2 : arg2.IsWhole)
  (arg4 : Memref sig .tc .vmem S128x128 .i32) (arg5 : Memref sig .tc .vmem S128x128 .f32)
  (x0 : Vec Ideal S512x3072 .i8) (x1 : Vec Ideal S64x3072 .fp8e4m3)

/-- Every store writes `stepAt` at its own indices. -/
theorem piece_value (ot b byte p : Nat) (ho : ot < 24) (hb : b < 4) (hy : byte < 4) (hp : p < 2)
    (x : (piece arg1 harg1 arg2 harg2 arg4 arg5 x0 x1 ot b byte p ho hb hy hp).1.shape.Idx) :
    (piece arg1 harg1 arg2 harg2 arg4 arg5 x0 x1 ot b byte p ho hb hy hp).2 x
      = stepAt x0 x1 ((piece arg1 harg1 arg2 harg2 arg4 arg5 x0 x1 ot b byte p ho hb hy hp).1.emb x 1)
          ((piece arg1 harg1 arg2 harg2 arg4 arg5 x0 x1 ot b byte p ho hb hy hp).1.emb x 2) := by
  obtain ⟨z, r, l, rfl⟩ : ∃ (z : Fin 1) (r : Fin 32) (l : Fin 128), x = (ix3 z r l : S1x32x128.Idx) :=
    ⟨x 0, x 1, x 2, by funext d; match d with | ⟨0, _⟩ => rfl | ⟨1, _⟩ => rfl | ⟨2, _⟩ => rfl⟩
  obtain rfl : z = 0 := Subsingleton.elim _ _
  have hr := r.isLt
  have hl := l.isLt
  have e1 : (piece arg1 harg1 arg2 harg2 arg4 arg5 x0 x1 ot b byte p ho hb hy hp).1.emb (ix3 0 r l : S1x32x128.Idx) 1
      = (⟨128 * ot + 32 * b + r.val, by omega⟩ : Fin 3072) := Fin.ext (show 128 * ot + 32 * b + 1 * r.val = _ by simp)
  have e2 : (piece arg1 harg1 arg2 harg2 arg4 arg5 x0 x1 ot b byte p ho hb hy hp).1.emb (ix3 0 r l : S1x32x128.Idx) 2
      = (⟨128 * (2 * byte + p) + l.val, by omega⟩ : Fin 1024) := Fin.ext (show 128 * (2 * byte + p) + 1 * l.val = _ by simp)
  rw [e1, e2]
  have hq : r.val % 4 < 4 := Nat.mod_lt _ (by decide)
  refine (payload_apply byte p hy (fun q : Fin 4 => rowLoad arg4.view (wordStores arg1 harg1 x0 ot ho) b q.val hb q.isLt) _ r l).trans ?_
  rw [rowLoad_apply, scaleLoad_apply,
    canon_words arg1 harg1 x0 ot ho _ l byte hy (⟨128 * ot + 32 * b + r.val, by omega⟩ : Fin 3072) (by simp; omega),
    canon_scales arg2 harg2 x1 ot _ l _ (⟨128 * ot + 32 * b + r.val, by omega⟩ : Fin 3072) (by simp; omega)]
  unfold stepAt
  have f1 : (128 * (2 * byte + p) + l.val) / 128 % 2 = p := by omega
  have f2 : (128 * (2 * byte + p) + l.val) / 256 = byte := by omega
  have f3 : (128 * (2 * byte + p) + l.val) % 128 = l.val := by omega
  simp only [f1, f2, f3]

theorem block_all (P : View.Piece (Elt Ideal) S1x3072x1024 .bf16 → Prop) (ot b : Nat) (ho : ot < 24) (hb : b < 4) (L : List (View.Piece (Elt Ideal) S1x3072x1024 .bf16))
    (hP : ∀ byte p (hy : byte < 4) (hp : p < 2), P (piece arg1 harg1 arg2 harg2 arg4 arg5 x0 x1 ot b byte p ho hb hy hp))
    (hL : ∀ q ∈ L, P q) : ∀ q ∈ blockPieces arg1 harg1 arg2 harg2 arg4 arg5 x0 x1 ot b ho hb L, P q := by
  intro q hq
  simp only [blockPieces, List.mem_cons] at hq
  rcases hq with rfl | rfl | rfl | rfl | rfl | rfl | rfl | rfl | hq
  all_goals first | exact hP _ _ _ _ | exact hL q hq

theorem all_pieces (P : View.Piece (Elt Ideal) S1x3072x1024 .bf16 → Prop)
    (hP : ∀ ot b byte p (ho : ot < 24) (hb : b < 4) (hy : byte < 4) (hp : p < 2), P (piece arg1 harg1 arg2 harg2 arg4 arg5 x0 x1 ot b byte p ho hb hy hp)) :
    ∀ n (hn : n ≤ 24), ∀ q ∈ allPieces arg1 harg1 arg2 harg2 arg4 arg5 x0 x1 n hn, P q
  | 0, _, q, hq => absurd hq List.not_mem_nil
  | n + 1, hn, q, hq => by
    unfold allPieces at hq
    refine block_all arg1 harg1 arg2 harg2 arg4 arg5 x0 x1 P n 3 _ _ _ (fun _ _ _ _ => hP _ _ _ _ _ _ _ _) ?_ q hq
    refine block_all arg1 harg1 arg2 harg2 arg4 arg5 x0 x1 P n 2 _ _ _ (fun _ _ _ _ => hP _ _ _ _ _ _ _ _) ?_
    refine block_all arg1 harg1 arg2 harg2 arg4 arg5 x0 x1 P n 1 _ _ _ (fun _ _ _ _ => hP _ _ _ _ _ _ _ _) ?_
    refine block_all arg1 harg1 arg2 harg2 arg4 arg5 x0 x1 P n 0 _ _ _ (fun _ _ _ _ => hP _ _ _ _ _ _ _ _) ?_
    exact all_pieces P hP n _

/-- WHAT ONE STEP LEAVES in its block of the output, at row `o` and lane `j`. -/
theorem out_apply (c : Dev nD) (i : grid0.Coords) (arg3 : Memref sig .tc .vmem S1x3072x1024 .bf16) (harg3 : arg3.IsWhole)
    (harg4 : arg4.IsWhole) (harg5 : arg5.IsWhole) (y : S1x3072x1024.Idx) :
    out0_A_2 c i arg1 harg1 arg2 harg2 arg3 harg3 arg4 harg4 arg5 harg5 x0 x1 y = stepAt x0 x1 (y 1) (y 2) := by
  unfold out0_A_2
  refine View.read_writes_apply_of_pieces _ _ (fun y => stepAt x0 x1 (y 1) (y 2)) _ ?_ y
    (cover0_A_2 c i arg1 harg1 arg2 harg2 arg3 harg3 arg4 harg4 arg5 harg5 x0 x1 y)
  rw [run_pieces]
  exact all_pieces arg1 harg1 arg2 harg2 arg4 arg5 x0 x1 (fun q => ∀ x, q.2 x = stepAt x0 x1 (q.1.emb x 1) (q.1.emb x 2))
    (fun ot b byte p ho hb hy hp => piece_value arg1 harg1 arg2 harg2 arg4 arg5 x0 x1 ot b byte p ho hb hy hp) 24 _
end

end Cert.KernelIdeal.Pieces
end
-- ==== Proof.RefValue.lean ====
/- The reference of the weight preparation, read at an index. -/
module

public import proofs.«01_k».proof.Proof.Gen.ReferenceIdeal.Value
public import Idealize.ShloMosaic.Lib.Pointwise

@[expose] public section

noncomputable section

namespace Cert.ReferenceIdeal.Read

open Cert.ReferenceIdeal Cert.ReferenceIdeal.Gen Cert.ReferenceIdeal.Value Idealize.ShloMosaic Idealize.ShloMosaic.TcCoe Idealize.SL.Sem

/-- The four-bit code's value, as the reference selects it. -/
def decode (c : BitVec 32) : EReal :=
  let z (k : BitVec 32) : BitVec 1 := IntOp.cmpi .ne (IntOp.andi (IntOp.shrsi .vector c k) 1#32) 0#32
  let b0 : BitVec 1 := IntOp.cmpi .ne (IntOp.andi c 1#32) 0#32
  let q (b : BitVec 32) : EReal := Ideal.ofBits .f32 b
  let mag := Scalar.select (z 2#32)
    (Scalar.select (z 1#32) (Scalar.select b0 (q 0x40C00000#32) (q 0x40800000#32)) (Scalar.select b0 (q 0x40400000#32) (q 0x40000000#32)))
    (Scalar.select (z 1#32) (Scalar.select b0 (q 0x3FC00000#32) (q 0x3F800000#32)) (Scalar.select b0 (q 0x3F000000#32) (q 0x00000000#32)))
  Scalar.select (z 3#32) (q 0x00000000#32 - mag) mag

/-- The scale of a weight row's group. -/
theorem scale_apply (a1 : Vec Ideal S960x3072 .fp8e4m3) (r : Fin 7680) (o : Fin 3072) :
    k0_pay3 (F := Ideal) a1 (ix2 r o) = a1 (ix2 (⟨r.val / 8, by omega⟩ : Fin 960) o) := by
  have hr := r.isLt
  unfold k0_pay3
  rw [shapeCast_apply _ shapeCasts_S960x8x3072_S7680x3072 (ix2 r o)
    (ix3 (⟨r.val / 8, by omega⟩ : Fin 960) (⟨r.val % 8, by omega⟩ : Fin 8) o : S960x8x3072.Idx) (by
      rw [Shape.rowMajor_val_three, Shape.rowMajor_val_two]
      show (r.val / 8 * 8 + r.val % 8) * 3072 + o.val = r.val * 3072 + o.val
      omega)]
  rw [broadcastTo_apply _ broadcasts_S960x1x3072_S960x8x3072 _ (ix3 (⟨r.val / 8, by omega⟩ : Fin 960) (0 : Fin 1) o : S960x1x3072.Idx) (by
      intro d
      match d with
      | ⟨0, _⟩ => rfl
      | ⟨1, _⟩ => rfl
      | ⟨2, _⟩ => rfl)]
  rw [shapeCast_apply _ shapeCasts_S960x1x3072_S960x1x3072 _ (ix3 (⟨r.val / 8, by omega⟩ : Fin 960) (0 : Fin 1) o : S960x1x3072.Idx) rfl]
  rw [shapeCast_apply _ shapeCasts_S960x3072_S960x1x3072 _ (ix2 (⟨r.val / 8, by omega⟩ : Fin 960) o : S960x3072.Idx) (by
      rw [Shape.rowMajor_val_three, Shape.rowMajor_val_two]
      show r.val / 8 * 3072 + o.val = (r.val / 8 * 1 + 0) * 3072 + o.val
      omega)]
  rfl

/-- Both nibbles' arrays stacked and laid out as the result, at an index. -/
theorem lay_apply (lo hi : FVec Ideal S7680x3072 .bf16) (k : Fin 15) (o : Fin 3072) (j : Fin 1024) (r : Fin 7680)
    (hr : r.val = 512 * k.val + 4 * (j.val % 128) + j.val / 256) :
    shapeCast S15x3072x1024 (transpose S15x3072x8x128 [0, 3, 2, 1] (shapeCast S15x128x8x3072
        (concatenate S7680x2x3072 1 [⟨S7680x1x3072, shapeCast S7680x1x3072 lo shapeCasts_S7680x3072_S7680x1x3072⟩,
            ⟨S7680x1x3072, shapeCast S7680x1x3072 hi shapeCasts_S7680x3072_S7680x1x3072⟩] concatenates_S7680x1x3072_S7680x1x3072_S7680x2x3072_d1)
        shapeCasts_S7680x2x3072_S15x128x8x3072) transposes_S15x128x8x3072_p0_3_2_1_S15x3072x8x128) shapeCasts_S15x3072x8x128_S15x3072x1024 (ix3 k o j)
      = if j.val / 128 % 2 = 0 then lo (ix2 r o) else hi (ix2 r o) := by
  have hj := j.isLt
  have hk := k.isLt
  rw [shapeCast_apply _ shapeCasts_S15x3072x8x128_S15x3072x1024 (ix3 k o j)
    (ix4 k o (⟨j.val / 128, by omega⟩ : Fin 8) (⟨j.val % 128, by omega⟩ : Fin 128) : S15x3072x8x128.Idx) (by
      rw [Shape.rowMajor_val_four, Shape.rowMajor_val_three]
      show ((k.val * 3072 + o.val) * 8 + j.val / 128) * 128 + j.val % 128 = (k.val * 3072 + o.val) * 1024 + j.val
      omega)]
  rw [transpose_apply [0, 3, 2, 1] _ transposes_S15x128x8x3072_p0_3_2_1_S15x3072x8x128 _
    (ix4 k (⟨j.val % 128, by omega⟩ : Fin 128) (⟨j.val / 128, by omega⟩ : Fin 8) o : S15x128x8x3072.Idx) (by
      intro b
      match b with
      | ⟨0, _⟩ => rfl
      | ⟨1, _⟩ => rfl
      | ⟨2, _⟩ => rfl
      | ⟨3, _⟩ => rfl)]
  rw [shapeCast_apply _ shapeCasts_S7680x2x3072_S15x128x8x3072 _
    (ix3 r (⟨j.val / 128 % 2, by omega⟩ : Fin 2) o : S7680x2x3072.Idx) (by
      rw [Shape.rowMajor_val_four, Shape.rowMajor_val_three]
      show (r.val * 2 + j.val / 128 % 2) * 3072 + o.val = ((k.val * 128 + j.val % 128) * 8 + j.val / 128) * 3072 + o.val
      omega)]
  have hs (X : FVec Ideal S7680x3072 .bf16) : shapeCast S7680x1x3072 X shapeCasts_S7680x3072_S7680x1x3072 (ix3 r (0 : Fin 1) o) = X (ix2 r o) :=
    shapeCast_apply _ _ _ _ (by
      rw [Shape.rowMajor_val_three, Shape.rowMajor_val_two]
      show r.val * 3072 + o.val = (r.val * 1 + 0) * 3072 + o.val
      omega)
  by_cases h : j.val / 128 % 2 = 0
  · rw [if_pos h, concatenate_pair_apply_left 1 _ _ concatenates_S7680x1x3072_S7680x1x3072_S7680x2x3072_d1 _ rfl (ix3 r (0 : Fin 1) o : S7680x1x3072.Idx) (by
      intro b
      match b with
      | ⟨0, _⟩ => rfl
      | ⟨1, _⟩ => exact h.symm
      | ⟨2, _⟩ => rfl), hs]
  · rw [if_neg h, concatenate_pair_apply_right 1 _ _ concatenates_S7680x1x3072_S7680x1x3072_S7680x2x3072_d1 (ix3 r (⟨j.val / 128 % 2, by omega⟩ : Fin 2) o : S7680x2x3072.Idx) rfl rfl (ix3 r (0 : Fin 1) o : S7680x1x3072.Idx) (by
      intro b hb
      match b with
      | ⟨0, _⟩ => rfl
      | ⟨1, _⟩ => exact absurd rfl hb
      | ⟨2, _⟩ => rfl) (show 0 + 1 = j.val / 128 % 2 by omega), hs]

/-- The low nibbles, decoded and scaled. -/
theorem lo_apply (a0 : Vec Ideal S7680x3072 .i8) (v7 : FVec Ideal S7680x3072 .bf16) (i : S7680x3072.Idx) :
    k0_pay10 (F := Ideal) v7 (k0_pay5 (F := Ideal) a0) (k0_pay6 (F := Ideal) a0) (k0_pay7 (F := Ideal) a0) (k0_pay8 (F := Ideal) a0)
        (k0_pay9 (F := Ideal) a0) (Scalar.ofBits .f32 0x3FC00000#32) i
      = decode (IntOp.andi ((a0 i).setWidth 32) 15#32) * v7 i := rfl

/-- THE REFERENCE at an index: the decoded nibble times its group's scale. -/
theorem out_apply (a0 : Vec Ideal S7680x3072 .i8) (a1 : Vec Ideal S960x3072 .fp8e4m3) (k : Fin 15) (o : Fin 3072) (j : Fin 1024) (r : Fin 7680)
    (hr : r.val = 512 * k.val + 4 * (j.val % 128) + j.val / 256) :
    G2 (F := Ideal) a0 a1 (ix3 k o j)
      = (if j.val / 128 % 2 = 0 then decode (IntOp.andi ((a0 (ix2 r o)).setWidth 32) 15#32)
          else decode (IntOp.shrsi .vector ((a0 (ix2 r o)).setWidth 32) 4#32)) * a1 (ix2 (⟨r.val / 8, by omega⟩ : Fin 960) o) := by
  have e18 : k0_pay18 (F := Ideal) a0 a1 = k0_pay3 (F := Ideal) a1 := congrArg _ (View.ld_unit_zero (S := S960x3072) hz1 _ a1)
  have e17 : k0_pay17 (F := Ideal) a0 a1 = k0_pay2 (F := Ideal) a0 := congrArg _ (View.ld_unit_zero (S := S7680x3072) hz0 _ a0)
  unfold G2
  rw [e18, e17]
  refine (lay_apply _ _ k o j r hr).trans ?_
  split
  · rw [lo_apply, scale_apply]
  · rw [← scale_apply a1 r o]
    rfl

end Cert.ReferenceIdeal.Read
end
-- ==== Proof.Value.lean ====
/- The weight preparation's result array is the reference's: the two formulas agree at every index. -/
module

public import proofs.«01_k».proof.Proof.StepValue
public import proofs.«01_k».proof.Proof.RefValue
public import proofs.«01_k».proof.Proof.Gen.KernelIdeal.Value
public import Idealize.ShloMosaic.Lib.Pipeline.ValueKit

@[expose] public section

set_option maxRecDepth 16384

noncomputable section

namespace Cert.KernelIdeal.Final

open Cert.KernelIdeal Cert.KernelIdeal.Gen Cert.KernelIdeal.Pieces Idealize.ShloMosaic Idealize.ShloMosaic.TcCoe Idealize.SL.Sem
open Idealize.ShloMosaic.Pipeline (Dat)

/-! ## One code: the shifted byte, read as an 8-bit float and multiplied by 64, is the four-bit value -/

/-- The value of the four-bit code `c`. -/
def codeVal (c : BitVec 4) : EReal := Cert.ReferenceIdeal.Read.decode (c.setWidth 32)

/-- The eight codes of a nibble's byte: the code's low three bits in the exponent and mantissa, its high bit the sign. -/
def spread (c : BitVec 4) : BitVec 8 := (((c.setWidth 8) &&& 7#8) <<< 2) ||| (((c.setWidth 8) &&& 8#8) <<< 4)

theorem nib8_low (b : BitVec 8) : nib8 0 b = spread (b.setWidth 4) := by
  revert b; decide +kernel

theorem nib8_high (b : BitVec 8) : nib8 1 b = spread ((b >>> 4).setWidth 4) := by
  revert b; decide +kernel

theorem ofBits_64 : Ideal.ofBits .f32 0x42800000#32 = ((64 : ℝ) : EReal) := by
  simp [Ideal.ofBits, Ideal.ieee, -EReal.coe_mul]; norm_num

/-- Twice the magnitude of a code. -/
def mag2 : Fin 8 → Nat := ![0, 1, 2, 3, 4, 6, 8, 12]

/-- The decoder's eight magnitudes as reals. -/
theorem codeVal_pos (q : Fin 8) : codeVal (BitVec.ofNat 4 q.val) = ((mag2 q / 2 : ℝ) : EReal) := by
  fin_cases q
  · show Ideal.ofBits .f32 0x00000000#32 = _; simp [Ideal.ofBits, Ideal.ieee, -EReal.coe_mul, mag2]
  · show Ideal.ofBits .f32 0x3F000000#32 = _; simp [Ideal.ofBits, Ideal.ieee, -EReal.coe_mul, mag2]; norm_num
  · show Ideal.ofBits .f32 0x3F800000#32 = _; simp [Ideal.ofBits, Ideal.ieee, -EReal.coe_mul, mag2]; norm_num
  · show Ideal.ofBits .f32 0x3FC00000#32 = _; simp [Ideal.ofBits, Ideal.ieee, -EReal.coe_mul, mag2]; norm_num
  · show Ideal.ofBits .f32 0x40000000#32 = _; simp [Ideal.ofBits, Ideal.ieee, -EReal.coe_mul, mag2]; norm_num
  · show Ideal.ofBits .f32 0x40400000#32 = _; simp [Ideal.ofBits, Ideal.ieee, -EReal.coe_mul, mag2]; norm_num
  · show Ideal.ofBits .f32 0x40800000#32 = _; simp [Ideal.ofBits, Ideal.ieee, -EReal.coe_mul, mag2]; norm_num
  · show Ideal.ofBits .f32 0x40C00000#32 = _; simp [Ideal.ofBits, Ideal.ieee, -EReal.coe_mul, mag2]; norm_num

/-- With the sign bit, the decoder subtracts from zero. -/
theorem codeVal_neg (q : Fin 8) : codeVal (BitVec.ofNat 4 (q.val + 8)) = ((-(mag2 q / 2) : ℝ) : EReal) := by
  have h : codeVal (BitVec.ofNat 4 (q.val + 8)) = Ideal.ofBits .f32 0x00000000#32 - codeVal (BitVec.ofNat 4 q.val) := by
    fin_cases q <;> rfl
  rw [h, codeVal_pos, Ideal.ofBits_zero_f32, zero_sub, EReal.coe_neg]

/-- The 8-bit value of a spread code is a 64th of its magnitude. -/
theorem spread_pos (q : Fin 8) : Ideal.ofBits .fp8e4m3 (spread (BitVec.ofNat 4 q.val)) = ((mag2 q / 128 : ℝ) : EReal) := by
  fin_cases q <;> (simp [spread, Ideal.ofBits, Ideal.e4m3fn, -EReal.coe_mul, mag2]; try norm_num)

theorem spread_neg (q : Fin 8) : Ideal.ofBits .fp8e4m3 (spread (BitVec.ofNat 4 (q.val + 8))) = ((-(mag2 q / 128) : ℝ) : EReal) := by
  fin_cases q <;> (simp [spread, Ideal.ofBits, Ideal.e4m3fn, -EReal.coe_mul, -EReal.coe_neg, mag2]; try norm_num)

theorem spread_value (c : BitVec 4) : Ideal.ofBits .fp8e4m3 (spread c) * Ideal.ofBits .f32 0x42800000#32 = codeVal c := by
  have hc : c = BitVec.ofNat 4 c.toNat := (BitVec.ofNat_toNat 4 c).symm ▸ (by simp)
  have hl := c.isLt
  rw [ofBits_64]
  by_cases h : c.toNat < 8
  · have e := spread_pos ⟨c.toNat, h⟩
    have e' := codeVal_pos ⟨c.toNat, h⟩
    dsimp only at e e'
    rw [← hc] at e e'
    rw [e, e', ← EReal.coe_mul]
    congr 1; ring
  · have e := spread_neg ⟨c.toNat - 8, by omega⟩
    have e' := codeVal_neg ⟨c.toNat - 8, by omega⟩
    dsimp only at e e'
    rw [show c.toNat - 8 + 8 = c.toNat by omega, ← hc] at e e'
    rw [e, e', ← EReal.coe_mul]
    congr 1; ring

theorem low_code (b : BitVec 8) : IntOp.andi (b.setWidth 32) 15#32 = (b.setWidth 4).setWidth 32 := by
  revert b; decide +kernel

theorem high_code (b : BitVec 8) : IntOp.shrsi .vector (b.setWidth 32) 4#32 = ((b >>> 4).setWidth 4).setWidth 32 := by
  revert b; decide +kernel

/-- A decoded nibble times the scaled scale is the reference's decoded nibble times the scale. -/
theorem nib_value (p : Nat) (hp : p < 2) (b : BitVec 8) (s : EReal) :
    Ideal.ofBits .fp8e4m3 (nib8 p b) * (s * Ideal.ofBits .f32 0x42800000#32)
      = (if p = 0 then Cert.ReferenceIdeal.Read.decode (IntOp.andi (b.setWidth 32) 15#32)
          else Cert.ReferenceIdeal.Read.decode (IntOp.shrsi .vector (b.setWidth 32) 4#32)) * s := by
  rw [mul_comm s, ← mul_assoc]
  congr 1
  interval_cases p
  · rw [if_pos rfl, nib8_low, spread_value, low_code]; rfl
  · rw [if_neg (by decide), nib8_high, spread_value, high_code]; rfl

/-! ## The result array -/

variable (m : (ℓ : Loc nD τ sig) → Buf (Elt Ideal) ℓ)

theorem idx : ∀ t : Fin cfg0.N, win0_0.index t = ![t.val, 0] ∧ win0_1.index t = ![t.val, 0] ∧ win0_2.index t = ![t.val, 0, 0] :=
  (by decide +kernel : ∀ t : Fin grid0.N, _)

/-- The whole reference array: the reference's formula of the two argument arrays. -/
abbrev target (c : Dev nD) : Vec Ideal S15x3072x1024 .bf16 :=
  Cert.ReferenceIdeal.Value.G2 (F := Ideal) (m ((c : Thread nD τ).loc main_arg0)) (m ((c : Thread nD τ).loc main_arg1))

theorem point (c : Dev nD) (t : Fin cfg0.N) (z : Fin 1) (o : Fin 3072) (j : Fin 1024) :
    stepAt (iblk m c 0 t) (iblk m c 1 t) o j = target m c (ix3 (⟨t.val, by have := t.isLt; have hN : cfg0.N = 15 := N_0; omega⟩ : Fin 15) o j) := by
  have ht := t.isLt
  have hN : cfg0.N = 15 := N_0
  have hj := j.isLt
  rw [target, Cert.ReferenceIdeal.Read.out_apply _ _ (⟨t.val, by omega⟩ : Fin 15) o j (⟨512 * t.val + 4 * (j.val % 128) + j.val / 256, by omega⟩ : Fin 7680) rfl]
  unfold stepAt
  rw [nib_value _ (by omega)]
  blk_point [iblk, V, idx t]

theorem final (c : Dev nD) : (dats m 0 c).arrAt 2 (cfgs 0).N = target m c := by
  refine (dats m 0 c).arrAt_eq_of_covers 2 _ (by decide +kernel) fun t _ y => ?_
  blk_simp
  rw [after0_2]
  show out0_A_2 _ _ _ _ _ _ _ _ _ _ _ _ _ _ _ = _
  rw [out_apply]
  refine (point m c t 0 _ _).trans ?_
  blk_ext [idx t]

end Cert.KernelIdeal.Final
end
-- ==== Proof.Main.Runs.lean ====
/- What the runs of the kernel body share: the branch conditions in closed form over the grid points, where the output window is idle, and the buffers the body is called with. -/
module

public import proofs.«01_k».proof.Proof.Gen.Main.Frame
public import proofs.«01_k».proof.Proof.Gen.Main.Skeleton
public import Idealize.ShloMosaic.Lib.Tactic
public import Idealize.ShloMosaic.Lib.WordCmp

@[expose] public section

set_option maxRecDepth 16384

noncomputable section

namespace Cert.Main.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

variable (m : (ℓ : Loc nD τ sig) → Buf (Elt F) ℓ) (ρ : Dev nD → PrngReg)

/-! ## The body's branch conditions, and where the output is idle -/

/-- The first condition: the point starts a new sum over the contraction blocks. -/
abbrev cond0_0 (i : grid0.Coords) : Prop := k0_cond1 i = 1#1
/-- It holds at the first three points of each pass. -/
theorem hcond0_0 : ∀ t : Fin cfg0.N, cond0_0 (grid0.coords t) ↔ t.val / 3 % 15 = 0 :=
  (fun t => by
    have ht : t.val < 135 := Nat.lt_of_lt_of_eq t.isLt N_0
    have e0 : (grid0.coords t 0).val = t.val / 45 % 3 := Pipeline.Grid.coords_val t 0 (by decide) rfl
    have e1 : (grid0.coords t 1).val = t.val / 3 % 15 := Pipeline.Grid.coords_val t 1 (by decide) rfl
    have e2 : (grid0.coords t 2).val = t.val / 1 % 3 := Pipeline.Grid.coords_val t 2 (by decide) rfl
    simp only [cond0_0, k0_cond1, e0, e1, e2]
    word_cmp
   : ∀ t : Fin grid0.N, cond0_0 (grid0.coords t) ↔ t.val / 3 % 15 = 0)

/-- The second condition: the point ends a sum and stores the output block. -/
abbrev cond0_1 (i : grid0.Coords) : Prop := k0_cond2 i = 1#1
/-- It holds at the last three points of each pass. -/
theorem hcond0_1 : ∀ t : Fin cfg0.N, cond0_1 (grid0.coords t) ↔ t.val / 3 % 15 = 14 :=
  (fun t => by
    have ht : t.val < 135 := Nat.lt_of_lt_of_eq t.isLt N_0
    have e0 : (grid0.coords t 0).val = t.val / 45 % 3 := Pipeline.Grid.coords_val t 0 (by decide) rfl
    have e1 : (grid0.coords t 1).val = t.val / 3 % 15 := Pipeline.Grid.coords_val t 1 (by decide) rfl
    have e2 : (grid0.coords t 2).val = t.val / 1 % 3 := Pipeline.Grid.coords_val t 2 (by decide) rfl
    simp only [cond0_1, k0_cond2, e0, e1, e2]
    word_cmp
   : ∀ t : Fin grid0.N, cond0_1 (grid0.coords t) ↔ t.val / 3 % 15 = 14)

/-- No input window is ever idle. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
/-- The output window is idle where the second condition fails, -/
theorem idleAt0_8 : ∀ t : Fin cfg0.N, ¬cond0_1 (grid0.coords t) → cfg0.idle 8 (grid0.coords t) = true := by decide +kernel
/-- is not written back there, -/
theorem noFlush0_8 : ∀ t : Fin cfg0.N, ¬cond0_1 (grid0.coords t) → (cfg0.win 8).flush t = false := by decide +kernel
/-- and is live where it holds. -/
theorem liveAt0_8 : ∀ t : Fin cfg0.N, cond0_1 (grid0.coords t) → cfg0.idle 8 (grid0.coords t) = false := by decide +kernel

/-! ## The memrefs the body is run on -/

/-- Each window's current staging memref at point `t`, spelled as the pipeline passes it (`bodyAt0`), and its wholeness. -/
abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x3072x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x64x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S3072x64 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S3072x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x3072 .bf16 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S3x3072x512 .f32 := Memref.whole cc0_scratch0
abbrev scM0_1 : Memref sig .tc .vmem S3x64x512 .f32 := Memref.whole cc0_scratch1
/-- One staging buffer of the output window and the two accumulators, as views: what they hold is stated through them. -/
abbrev VO0_8 : View sig .tc .vmem S512x3072 .bf16 := (Memref.whole cc0_stg8_0 : Memref sig .tc .vmem S512x3072 .bf16).view
abbrev VS0_0 : View sig .tc .vmem S3x3072x512 .f32 := scM0_0.view
abbrev VS0_1 : View sig .tc .vmem S3x64x512 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Main.Gen

end
-- ==== Proof.Main.RunA.lean ====
/- The kernel body at a point that starts a sum over the contraction blocks. -/
module

public import proofs.«01_k».proof.Proof.Main.Runs

@[expose] public section

set_option maxRecDepth 16384

noncomputable section

namespace Cert.Main.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

variable (m : (ℓ : Loc nD τ sig) → Buf (Elt F) ℓ) (ρ : Dev nD → PrngReg)

-- (the run's proof term is large: the definition's epilogue — `abstractNestedProofs` — walks it past the default budget)
set_option maxHeartbeats 1000000 in
/-- The body at a point that starts a sum: what it stores into the two accumulators (last first), and that it runs to that. -/
noncomputable def kernelRun0_A (c : Dev nD) (i : grid0.Coords) (arg3 : Memref sig .tc .smem S1 .f32) (harg3 : arg3.IsWhole) (arg4 : Memref sig .tc .smem S1 .f32) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1x3072x1024 .bf16) (harg7 : arg7.IsWhole) (arg8 : Memref sig .tc .vmem S1x64x1024 .bf16) (harg8 : arg8.IsWhole) (arg9 : Memref sig .tc .vmem S3072x64 .bf16) (harg9 : arg9.IsWhole) (arg10 : Memref sig .tc .vmem S3072x128 .f32) (harg10 : arg10.IsWhole) (arg11 : Memref sig .tc .vmem S512x3072 .bf16) (harg11 : arg11.IsWhole) (arg12 : Memref sig .tc .vmem S3x3072x512 .f32) (harg12 : arg12.IsWhole) (arg13 : Memref sig .tc .vmem S3x64x512 .f32) (harg13 : arg13.IsWhole) (hc0 : cond0_0 i) (hc1 : ¬cond0_1 i)
    (x0 : Vec F S1 .f32) (x1 : Vec F S1 .f32) (x2 : Vec F S1024x512 .bf16) (x3 : Vec F S1024x512 .bf16) (x4 : Vec F S1x3072x1024 .bf16) (x5 : Vec F S1x64x1024 .bf16) (x6 : Vec F S3072x64 .bf16) (x7 : Vec F S3072x128 .f32) (xs0 : Vec F S3x3072x512 .f32) (xs1 : Vec F S3x64x512 .f32) :
    Σ' (L8 : List (View.Piece (Elt F) S512x3072 .bf16)), Σ' (LS0 : List (View.Piece (Elt F) S3x3072x512 .f32)), { LS1 : List (View.Piece (Elt F) S3x64x512 .f32) //
      ∀ (xi8 : Vec F S512x3072 .bf16) (E : Set ℕ) (K : PUnit → sProp (MT nD τ sig Unit (Elt F) ℕ (UR sig nD τ) ℕ)),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare xi8 ∗ owns (c : Thread nD τ) arg12 fullShare xs0 ∗ owns (c : Thread nD τ) arg13 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare xi8 ∗ (arg12.view.loc (c : Thread nD τ) ↦[arg12.view.set]{fullShare} arg12.view.writes (Elt F) (harg12.unread xs0) LS0) ∗ (arg13.view.loc (c : Thread nD τ) ↦[arg13.view.set]{fullShare} arg13.view.writes (Elt F) (harg13.unread xs1) LS1)) -∗ K ⟨⟩))
          ⊢ wp frame (wpE (defs₀ (F := F)) Variants.none c none) E (cc0_main i arg3 harg3 arg4 harg4 arg5 harg5 arg6 harg6 arg7 harg7 arg8 harg8 arg9 harg9 arg10 harg10 arg11 harg11 arg12 harg12 arg13 harg13) K } := by
  refine ⟨[], ?_, ?_, fun xi8 E K => ?run⟩
  case run =>
    simp only [cc0_main_eq_skeleton]; unfold cc0_main_skel
    simp only [k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hfs0; obtain rfl := harg13.eq_unread hfs1
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [HS0]; · iexact HS0
    iexact HS1

end Cert.Main.Gen

end
-- ==== Proof.Main.RunB.lean ====
/- The kernel body at a point in the middle of a sum. -/
module

public import proofs.«01_k».proof.Proof.Main.RunA

@[expose] public section

set_option maxRecDepth 16384

noncomputable section

namespace Cert.Main.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

variable (m : (ℓ : Loc nD τ sig) → Buf (Elt F) ℓ) (ρ : Dev nD → PrngReg)

-- (the run's proof term is large: the definition's epilogue — `abstractNestedProofs` — walks it past the default budget)
set_option maxHeartbeats 1000000 in
/-- The body at a point in the middle of a sum. -/
noncomputable def kernelRun0_B (c : Dev nD) (i : grid0.Coords) (arg3 : Memref sig .tc .smem S1 .f32) (harg3 : arg3.IsWhole) (arg4 : Memref sig .tc .smem S1 .f32) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1x3072x1024 .bf16) (harg7 : arg7.IsWhole) (arg8 : Memref sig .tc .vmem S1x64x1024 .bf16) (harg8 : arg8.IsWhole) (arg9 : Memref sig .tc .vmem S3072x64 .bf16) (harg9 : arg9.IsWhole) (arg10 : Memref sig .tc .vmem S3072x128 .f32) (harg10 : arg10.IsWhole) (arg11 : Memref sig .tc .vmem S512x3072 .bf16) (harg11 : arg11.IsWhole) (arg12 : Memref sig .tc .vmem S3x3072x512 .f32) (harg12 : arg12.IsWhole) (arg13 : Memref sig .tc .vmem S3x64x512 .f32) (harg13 : arg13.IsWhole) (hc0 : ¬cond0_0 i) (hc1 : ¬cond0_1 i)
    (x0 : Vec F S1 .f32) (x1 : Vec F S1 .f32) (x2 : Vec F S1024x512 .bf16) (x3 : Vec F S1024x512 .bf16) (x4 : Vec F S1x3072x1024 .bf16) (x5 : Vec F S1x64x1024 .bf16) (x6 : Vec F S3072x64 .bf16) (x7 : Vec F S3072x128 .f32) (xs0 : Vec F S3x3072x512 .f32) (xs1 : Vec F S3x64x512 .f32) :
    Σ' (L8 : List (View.Piece (Elt F) S512x3072 .bf16)), Σ' (LS0 : List (View.Piece (Elt F) S3x3072x512 .f32)), { LS1 : List (View.Piece (Elt F) S3x64x512 .f32) //
      ∀ (xi8 : Vec F S512x3072 .bf16) (E : Set ℕ) (K : PUnit → sProp (MT nD τ sig Unit (Elt F) ℕ (UR sig nD τ) ℕ)),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare xi8 ∗ owns (c : Thread nD τ) arg12 fullShare xs0 ∗ owns (c : Thread nD τ) arg13 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare xi8 ∗ (arg12.view.loc (c : Thread nD τ) ↦[arg12.view.set]{fullShare} arg12.view.writes (Elt F) (harg12.unread xs0) LS0) ∗ (arg13.view.loc (c : Thread nD τ) ↦[arg13.view.set]{fullShare} arg13.view.writes (Elt F) (harg13.unread xs1) LS1)) -∗ K ⟨⟩))
          ⊢ wp frame (wpE (defs₀ (F := F)) Variants.none c none) E (cc0_main i arg3 harg3 arg4 harg4 arg5 harg5 arg6 harg6 arg7 harg7 arg8 harg8 arg9 harg9 arg10 harg10 arg11 harg11 arg12 harg12 arg13 harg13) K } := by
  refine ⟨[], ?_, ?_, fun xi8 E K => ?run⟩
  case run =>
    simp only [cc0_main_eq_skeleton]; unfold cc0_main_skel
    simp only [k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hfs0; obtain rfl := harg13.eq_unread hfs1
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [HS0]; · iexact HS0
    iexact HS1

end Cert.Main.Gen

end
-- ==== Proof.Main.RunC.lean ====
/- The kernel body at a point that ends a sum and stores the output block. -/
module

public import proofs.«01_k».proof.Proof.Main.RunB

@[expose] public section

set_option maxRecDepth 16384

noncomputable section

namespace Cert.Main.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

variable (m : (ℓ : Loc nD τ sig) → Buf (Elt F) ℓ) (ρ : Dev nD → PrngReg)

-- (the run's proof term is large: the definition's epilogue — `abstractNestedProofs` — walks it past the default budget)
set_option maxHeartbeats 1208000 in
/-- The body at a point that ends a sum: what it stores into the output block and the accumulators (last first), and that it runs to that. -/
noncomputable def kernelRun0_C (c : Dev nD) (i : grid0.Coords) (arg3 : Memref sig .tc .smem S1 .f32) (harg3 : arg3.IsWhole) (arg4 : Memref sig .tc .smem S1 .f32) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1x3072x1024 .bf16) (harg7 : arg7.IsWhole) (arg8 : Memref sig .tc .vmem S1x64x1024 .bf16) (harg8 : arg8.IsWhole) (arg9 : Memref sig .tc .vmem S3072x64 .bf16) (harg9 : arg9.IsWhole) (arg10 : Memref sig .tc .vmem S3072x128 .f32) (harg10 : arg10.IsWhole) (arg11 : Memref sig .tc .vmem S512x3072 .bf16) (harg11 : arg11.IsWhole) (arg12 : Memref sig .tc .vmem S3x3072x512 .f32) (harg12 : arg12.IsWhole) (arg13 : Memref sig .tc .vmem S3x64x512 .f32) (harg13 : arg13.IsWhole) (hc0 : ¬cond0_0 i) (hc1 : cond0_1 i)
    (x0 : Vec F S1 .f32) (x1 : Vec F S1 .f32) (x2 : Vec F S1024x512 .bf16) (x3 : Vec F S1024x512 .bf16) (x4 : Vec F S1x3072x1024 .bf16) (x5 : Vec F S1x64x1024 .bf16) (x6 : Vec F S3072x64 .bf16) (x7 : Vec F S3072x128 .f32) (xs0 : Vec F S3x3072x512 .f32) (xs1 : Vec F S3x64x512 .f32) :
    Σ' (L8 : List (View.Piece (Elt F) S512x3072 .bf16)), Σ' (LS0 : List (View.Piece (Elt F) S3x3072x512 .f32)), { LS1 : List (View.Piece (Elt F) S3x64x512 .f32) //
      ∀ (E : Set ℕ) (K : PUnit → sProp (MT nD τ sig Unit (Elt F) ℕ (UR sig nD τ) ℕ)),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ owns (c : Thread nD τ) arg12 fullShare xs0 ∗ owns (c : Thread nD τ) arg13 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ f, arg11.view.loc (c : Thread nD τ) ↦[arg11.view.set]{fullShare} arg11.view.writes (Elt F) f L8) ∗ (arg12.view.loc (c : Thread nD τ) ↦[arg12.view.set]{fullShare} arg12.view.writes (Elt F) (harg12.unread xs0) LS0) ∗ (arg13.view.loc (c : Thread nD τ) ↦[arg13.view.set]{fullShare} arg13.view.writes (Elt F) (harg13.unread xs1) LS1)) -∗ K ⟨⟩))
          ⊢ wp frame (wpE (defs₀ (F := F)) Variants.none c none) E (cc0_main i arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0_main_eq_skeleton]; unfold cc0_main_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg12.eq_unread hfs0; obtain rfl := harg13.eq_unread hfs1
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]; · iexists _; iexact H8
    isplitl [HS0]; · iexact HS0
    iexact HS1

end Cert.Main.Gen

end
-- ==== Proof.Main.Sound.lean ====
/- The frame of the whole product as written for the machine: it ends, every argument is left as it was. What the output block holds is not
   named here: no claim about this program reads it. -/
module

public import proofs.«01_k».proof.Proof.Main.RunC
public import Idealize.ShloMosaic.Lib.Claim

@[expose] public section

set_option maxRecDepth 16384

noncomputable section

namespace Cert.Main.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

variable (m : (ℓ : Loc nD τ sig) → Buf (Elt F) ℓ) (ρ : Dev nD → PrngReg)

/-- The output window is not followed. -/
def forgets0 : Fin 9 → Bool := fun w => w.val == 8

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

/-- What the body leaves in the input windows. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- What the body is called with at point `t`, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare d))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (iblk m c 4 t)
    ∗ owns (c : Thread nD τ) (ms0_5 t) fullShare (iblk m c 5 t)
    ∗ owns (c : Thread nD τ) (ms0_6 t) fullShare (iblk m c 6 t)
    ∗ owns (c : Thread nD τ) (ms0_7 t) fullShare (iblk m c 7 t)
    ∗ (∃ d, owns (c : Thread nD τ) (ms0_8 t) fullShare d))

set_option maxHeartbeats 9600000 in
/-- The body at any point: the closed forms say which case the point is in, and the run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  iintro ⟨⟨⟨⟨%s0, HS0⟩, ⟨%s1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  by_cases h0 : t.val / 3 % 15 = 0
  · have h1 : ¬ t.val / 3 % 15 = 14 := by omega
    iapply ((kernelRun0_A c (grid0.coords t) _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) s0 s1).2.2.2 d8 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    iintro ⟨H0, H1, H2, H3, H4, H5, H6, H7, H8, HS0, HS1⟩
    isplitl [HS0 HS1 Hg]
    · isplitl [HS0 HS1]
      · isplitl [HS0]
        · iexists _; unfold owns; iexists _; isplitr
          swap; · iexact HS0
          ipureintro; rfl
        iexists _; unfold owns; iexists _; isplitr
        swap; · iexact HS1
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact H8
  by_cases h1 : t.val / 3 % 15 = 14
  · iapply ((kernelRun0_C c (grid0.coords t) _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) s0 s1).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    iintro ⟨H0, H1, H2, H3, H4, H5, H6, H7, ⟨%e8, H8⟩, HS0, HS1⟩
    isplitl [HS0 HS1 Hg]
    · isplitl [HS0 HS1]
      · isplitl [HS0]
        · iexists _; unfold owns; iexists _; isplitr
          swap; · iexact HS0
          ipureintro; rfl
        iexists _; unfold owns; iexists _; isplitr
        swap; · iexact HS1
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; unfold owns; iexists _; isplitr
    swap; · iexact H8
    ipureintro; rfl
  · iapply ((kernelRun0_B c (grid0.coords t) _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) s0 s1).2.2.2 d8 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    iintro ⟨H0, H1, H2, H3, H4, H5, H6, H7, H8, HS0, HS1⟩
    isplitl [HS0 HS1 Hg]
    · isplitl [HS0 HS1]
      · isplitl [HS0]
        · iexists _; unfold owns; iexists _; isplitr
          swap; · iexact HS0
          ipureintro; rfl
        iexists _; unfold owns; iexists _; isplitr
        swap; · iexact HS1
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      (Pipeline.RDat.FramePost.arr_in h.1 c 2 rfl).trans ((A_eq m c 2).trans (V_main_arg2 m c)),
      (Pipeline.RDat.FramePost.arr_in h.1 c 3 rfl).trans ((A_eq m c 3).trans (V_main_arg3 m c)),
      (Pipeline.RDat.FramePost.arr_in h.1 c 4 rfl).trans ((A_eq m c 4).trans (V_main_arg4 m c)),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c)⟩, h.2⟩) (run_main_quiescent m ρ)

end Cert.Main.Gen

end
-- ==== Proof.MainIdeal.Runs.lean ====
/- What the runs of the kernel body share: the branch conditions in closed form over the grid points, where the output window is idle, and the buffers the body is called with. -/
module

public import proofs.«01_k».proof.Proof.Gen.MainIdeal.Frame
public import proofs.«01_k».proof.Proof.Gen.MainIdeal.Skeleton
public import Idealize.ShloMosaic.Lib.Tactic
public import Idealize.ShloMosaic.Lib.WordCmp

@[expose] public section

set_option maxRecDepth 16384

noncomputable section

namespace Cert.MainIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The body's branch conditions, and where the output is idle -/

/-- The first condition: the point starts a new sum over the contraction blocks. -/
abbrev cond0_0 (i : grid0.Coords) : Prop := k0_cond1 i = 1#1
/-- It holds at the first three points of each pass. -/
theorem hcond0_0 : ∀ t : Fin cfg0.N, cond0_0 (grid0.coords t) ↔ t.val / 3 % 15 = 0 :=
  (fun t => by
    have ht : t.val < 135 := Nat.lt_of_lt_of_eq t.isLt N_0
    have e0 : (grid0.coords t 0).val = t.val / 45 % 3 := Pipeline.Grid.coords_val t 0 (by decide) rfl
    have e1 : (grid0.coords t 1).val = t.val / 3 % 15 := Pipeline.Grid.coords_val t 1 (by decide) rfl
    have e2 : (grid0.coords t 2).val = t.val / 1 % 3 := Pipeline.Grid.coords_val t 2 (by decide) rfl
    simp only [cond0_0, k0_cond1, e0, e1, e2]
    word_cmp
   : ∀ t : Fin grid0.N, cond0_0 (grid0.coords t) ↔ t.val / 3 % 15 = 0)

/-- The second condition: the point ends a sum and stores the output block. -/
abbrev cond0_1 (i : grid0.Coords) : Prop := k0_cond2 i = 1#1
/-- It holds at the last three points of each pass. -/
theorem hcond0_1 : ∀ t : Fin cfg0.N, cond0_1 (grid0.coords t) ↔ t.val / 3 % 15 = 14 :=
  (fun t => by
    have ht : t.val < 135 := Nat.lt_of_lt_of_eq t.isLt N_0
    have e0 : (grid0.coords t 0).val = t.val / 45 % 3 := Pipeline.Grid.coords_val t 0 (by decide) rfl
    have e1 : (grid0.coords t 1).val = t.val / 3 % 15 := Pipeline.Grid.coords_val t 1 (by decide) rfl
    have e2 : (grid0.coords t 2).val = t.val / 1 % 3 := Pipeline.Grid.coords_val t 2 (by decide) rfl
    simp only [cond0_1, k0_cond2, e0, e1, e2]
    word_cmp
   : ∀ t : Fin grid0.N, cond0_1 (grid0.coords t) ↔ t.val / 3 % 15 = 14)

/-- No input window is ever idle. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
/-- The output window is idle where the second condition fails, -/
theorem idleAt0_8 : ∀ t : Fin cfg0.N, ¬cond0_1 (grid0.coords t) → cfg0.idle 8 (grid0.coords t) = true := by decide +kernel
/-- is not written back there, -/
theorem noFlush0_8 : ∀ t : Fin cfg0.N, ¬cond0_1 (grid0.coords t) → (cfg0.win 8).flush t = false := by decide +kernel
/-- and is live where it holds. -/
theorem liveAt0_8 : ∀ t : Fin cfg0.N, cond0_1 (grid0.coords t) → cfg0.idle 8 (grid0.coords t) = false := by decide +kernel

/-! ## The memrefs the body is run on -/

/-- Each window's current staging memref at point `t`, spelled as the pipeline passes it (`bodyAt0`), and its wholeness. -/
abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x3072x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x64x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S3072x64 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S3072x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x3072 .bf16 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S3x3072x512 .f32 := Memref.whole cc0_scratch0
abbrev scM0_1 : Memref sig .tc .vmem S3x64x512 .f32 := Memref.whole cc0_scratch1
/-- One staging buffer of the output window and the two accumulators, as views: what they hold is stated through them. -/
abbrev VO0_8 : View sig .tc .vmem S512x3072 .bf16 := (Memref.whole cc0_stg8_0 : Memref sig .tc .vmem S512x3072 .bf16).view
abbrev VS0_0 : View sig .tc .vmem S3x3072x512 .f32 := scM0_0.view
abbrev VS0_1 : View sig .tc .vmem S3x64x512 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.MainIdeal.Gen

end
-- ==== Proof.MainIdeal.RunA.lean ====
/- The kernel body at a point that starts a sum over the contraction blocks. -/
module

public import proofs.«01_k».proof.Proof.MainIdeal.Runs

@[expose] public section

set_option maxRecDepth 16384

noncomputable section

namespace Cert.MainIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- (the run's proof term is large: the definition's epilogue — `abstractNestedProofs` — walks it past the default budget)
set_option maxHeartbeats 1000000 in
/-- The body at a point that starts a sum: what it stores into the two accumulators (last first), and that it runs to that. -/
noncomputable def kernelRun0_A (c : Dev nD) (i : grid0.Coords) (arg3 : Memref sig .tc .smem S1 .f32) (harg3 : arg3.IsWhole) (arg4 : Memref sig .tc .smem S1 .f32) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1x3072x1024 .bf16) (harg7 : arg7.IsWhole) (arg8 : Memref sig .tc .vmem S1x64x1024 .bf16) (harg8 : arg8.IsWhole) (arg9 : Memref sig .tc .vmem S3072x64 .bf16) (harg9 : arg9.IsWhole) (arg10 : Memref sig .tc .vmem S3072x128 .f32) (harg10 : arg10.IsWhole) (arg11 : Memref sig .tc .vmem S512x3072 .bf16) (harg11 : arg11.IsWhole) (arg12 : Memref sig .tc .vmem S3x3072x512 .f32) (harg12 : arg12.IsWhole) (arg13 : Memref sig .tc .vmem S3x64x512 .f32) (harg13 : arg13.IsWhole) (hc0 : cond0_0 i) (hc1 : ¬cond0_1 i)
    (x0 : Vec F S1 .f32) (x1 : Vec F S1 .f32) (x2 : Vec F S1024x512 .bf16) (x3 : Vec F S1024x512 .bf16) (x4 : Vec F S1x3072x1024 .bf16) (x5 : Vec F S1x64x1024 .bf16) (x6 : Vec F S3072x64 .bf16) (x7 : Vec F S3072x128 .f32) (xs0 : Vec F S3x3072x512 .f32) (xs1 : Vec F S3x64x512 .f32) :
    Σ' (L8 : List (View.Piece (Elt F) S512x3072 .bf16)), Σ' (LS0 : List (View.Piece (Elt F) S3x3072x512 .f32)), { LS1 : List (View.Piece (Elt F) S3x64x512 .f32) //
      ∀ (xi8 : Vec F S512x3072 .bf16) (E : Set ℕ) (K : PUnit → sProp (MT nD τ sig Unit (Elt F) ℕ (UR sig nD τ) ℕ)),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare xi8 ∗ owns (c : Thread nD τ) arg12 fullShare xs0 ∗ owns (c : Thread nD τ) arg13 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare xi8 ∗ (arg12.view.loc (c : Thread nD τ) ↦[arg12.view.set]{fullShare} arg12.view.writes (Elt F) (harg12.unread xs0) LS0) ∗ (arg13.view.loc (c : Thread nD τ) ↦[arg13.view.set]{fullShare} arg13.view.writes (Elt F) (harg13.unread xs1) LS1)) -∗ K ⟨⟩))
          ⊢ wp frame (wpE (defs₀ (F := F)) Variants.none c none) E (cc0_main i arg3 harg3 arg4 harg4 arg5 harg5 arg6 harg6 arg7 harg7 arg8 harg8 arg9 harg9 arg10 harg10 arg11 harg11 arg12 harg12 arg13 harg13) K } := by
  refine ⟨[], ?_, ?_, fun xi8 E K => ?run⟩
  case run =>
    simp only [cc0_main_eq_skeleton]; unfold cc0_main_skel
    simp only [k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hfs0; obtain rfl := harg13.eq_unread hfs1
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [HS0]; · iexact HS0
    iexact HS1

end Cert.MainIdeal.Gen

end
-- ==== Proof.MainIdeal.RunB.lean ====
/- The kernel body at a point in the middle of a sum. -/
module

public import proofs.«01_k».proof.Proof.MainIdeal.RunA

@[expose] public section

set_option maxRecDepth 16384

noncomputable section

namespace Cert.MainIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- (the run's proof term is large: the definition's epilogue — `abstractNestedProofs` — walks it past the default budget)
set_option maxHeartbeats 1000000 in
/-- The body at a point in the middle of a sum. -/
noncomputable def kernelRun0_B (c : Dev nD) (i : grid0.Coords) (arg3 : Memref sig .tc .smem S1 .f32) (harg3 : arg3.IsWhole) (arg4 : Memref sig .tc .smem S1 .f32) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1x3072x1024 .bf16) (harg7 : arg7.IsWhole) (arg8 : Memref sig .tc .vmem S1x64x1024 .bf16) (harg8 : arg8.IsWhole) (arg9 : Memref sig .tc .vmem S3072x64 .bf16) (harg9 : arg9.IsWhole) (arg10 : Memref sig .tc .vmem S3072x128 .f32) (harg10 : arg10.IsWhole) (arg11 : Memref sig .tc .vmem S512x3072 .bf16) (harg11 : arg11.IsWhole) (arg12 : Memref sig .tc .vmem S3x3072x512 .f32) (harg12 : arg12.IsWhole) (arg13 : Memref sig .tc .vmem S3x64x512 .f32) (harg13 : arg13.IsWhole) (hc0 : ¬cond0_0 i) (hc1 : ¬cond0_1 i)
    (x0 : Vec F S1 .f32) (x1 : Vec F S1 .f32) (x2 : Vec F S1024x512 .bf16) (x3 : Vec F S1024x512 .bf16) (x4 : Vec F S1x3072x1024 .bf16) (x5 : Vec F S1x64x1024 .bf16) (x6 : Vec F S3072x64 .bf16) (x7 : Vec F S3072x128 .f32) (xs0 : Vec F S3x3072x512 .f32) (xs1 : Vec F S3x64x512 .f32) :
    Σ' (L8 : List (View.Piece (Elt F) S512x3072 .bf16)), Σ' (LS0 : List (View.Piece (Elt F) S3x3072x512 .f32)), { LS1 : List (View.Piece (Elt F) S3x64x512 .f32) //
      ∀ (xi8 : Vec F S512x3072 .bf16) (E : Set ℕ) (K : PUnit → sProp (MT nD τ sig Unit (Elt F) ℕ (UR sig nD τ) ℕ)),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare xi8 ∗ owns (c : Thread nD τ) arg12 fullShare xs0 ∗ owns (c : Thread nD τ) arg13 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare xi8 ∗ (arg12.view.loc (c : Thread nD τ) ↦[arg12.view.set]{fullShare} arg12.view.writes (Elt F) (harg12.unread xs0) LS0) ∗ (arg13.view.loc (c : Thread nD τ) ↦[arg13.view.set]{fullShare} arg13.view.writes (Elt F) (harg13.unread xs1) LS1)) -∗ K ⟨⟩))
          ⊢ wp frame (wpE (defs₀ (F := F)) Variants.none c none) E (cc0_main i arg3 harg3 arg4 harg4 arg5 harg5 arg6 harg6 arg7 harg7 arg8 harg8 arg9 harg9 arg10 harg10 arg11 harg11 arg12 harg12 arg13 harg13) K } := by
  refine ⟨[], ?_, ?_, fun xi8 E K => ?run⟩
  case run =>
    simp only [cc0_main_eq_skeleton]; unfold cc0_main_skel
    simp only [k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hfs0; obtain rfl := harg13.eq_unread hfs1
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [HS0]; · iexact HS0
    iexact HS1

end Cert.MainIdeal.Gen

end
-- ==== Proof.MainIdeal.RunC.lean ====
/- The kernel body at a point that ends a sum and stores the output block. -/
module

public import proofs.«01_k».proof.Proof.MainIdeal.RunB

@[expose] public section

set_option maxRecDepth 16384

noncomputable section

namespace Cert.MainIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- (the run's proof term is large: the definition's epilogue — `abstractNestedProofs` — walks it past the default budget)
set_option maxHeartbeats 1208000 in
/-- The body at a point that ends a sum: what it stores into the output block and the accumulators (last first), and that it runs to that. -/
noncomputable def kernelRun0_C (c : Dev nD) (i : grid0.Coords) (arg3 : Memref sig .tc .smem S1 .f32) (harg3 : arg3.IsWhole) (arg4 : Memref sig .tc .smem S1 .f32) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1x3072x1024 .bf16) (harg7 : arg7.IsWhole) (arg8 : Memref sig .tc .vmem S1x64x1024 .bf16) (harg8 : arg8.IsWhole) (arg9 : Memref sig .tc .vmem S3072x64 .bf16) (harg9 : arg9.IsWhole) (arg10 : Memref sig .tc .vmem S3072x128 .f32) (harg10 : arg10.IsWhole) (arg11 : Memref sig .tc .vmem S512x3072 .bf16) (harg11 : arg11.IsWhole) (arg12 : Memref sig .tc .vmem S3x3072x512 .f32) (harg12 : arg12.IsWhole) (arg13 : Memref sig .tc .vmem S3x64x512 .f32) (harg13 : arg13.IsWhole) (hc0 : ¬cond0_0 i) (hc1 : cond0_1 i)
    (x0 : Vec F S1 .f32) (x1 : Vec F S1 .f32) (x2 : Vec F S1024x512 .bf16) (x3 : Vec F S1024x512 .bf16) (x4 : Vec F S1x3072x1024 .bf16) (x5 : Vec F S1x64x1024 .bf16) (x6 : Vec F S3072x64 .bf16) (x7 : Vec F S3072x128 .f32) (xs0 : Vec F S3x3072x512 .f32) (xs1 : Vec F S3x64x512 .f32) :
    Σ' (L8 : List (View.Piece (Elt F) S512x3072 .bf16)), Σ' (LS0 : List (View.Piece (Elt F) S3x3072x512 .f32)), { LS1 : List (View.Piece (Elt F) S3x64x512 .f32) //
      ∀ (E : Set ℕ) (K : PUnit → sProp (MT nD τ sig Unit (Elt F) ℕ (UR sig nD τ) ℕ)),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ owns (c : Thread nD τ) arg12 fullShare xs0 ∗ owns (c : Thread nD τ) arg13 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ f, arg11.view.loc (c : Thread nD τ) ↦[arg11.view.set]{fullShare} arg11.view.writes (Elt F) f L8) ∗ (arg12.view.loc (c : Thread nD τ) ↦[arg12.view.set]{fullShare} arg12.view.writes (Elt F) (harg12.unread xs0) LS0) ∗ (arg13.view.loc (c : Thread nD τ) ↦[arg13.view.set]{fullShare} arg13.view.writes (Elt F) (harg13.unread xs1) LS1)) -∗ K ⟨⟩))
          ⊢ wp frame (wpE (defs₀ (F := F)) Variants.none c none) E (cc0_main i arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0_main_eq_skeleton]; unfold cc0_main_skel
    simp only [k0_part17_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg12.eq_unread hfs0; obtain rfl := harg13.eq_unread hfs1
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]; · iexists _; iexact H8
    isplitl [HS0]; · iexact HS0
    iexact HS1

end Cert.MainIdeal.Gen

end
-- ==== Proof.MainIdeal.Tiles.lean ====
/- The 48 stores of the output block at a point that ends a sum, written as one function of the tile and the half, and their value at an index. -/
module

public import proofs.«01_k».proof.Proof.MainIdeal.RunC
public import Idealize.ShloMosaic.Lib.WholeRead
public import Idealize.ShloMosaic.Lib.Pipeline.ReadBack
public import Idealize.ShloMosaic.Lib.Pointwise

@[expose] public section

noncomputable section

namespace Cert.MainIdeal.Tiles

open Cert.MainIdeal Cert.MainIdeal.Gen Idealize.ShloMosaic Idealize.ShloMosaic.TcCoe Idealize.SL.Sem

section
variable {F : FTy → Type} [FloatOps F]

theorem slices_o (ot : Nat) (ho : ot < 24) : S3072x512.Slices ![128 * ot, 0] S128x512 :=
  ⟨rfl, fun a => by fin_cases a <;> simp [S128x512, S3072x512] <;> omega⟩

theorem slices_q (q : Nat) (hq : q < 4) : S128x512.Slices ![0, 128 * q] S128x128 :=
  ⟨rfl, fun a => by fin_cases a <;> simp [S128x512, S128x128] <;> omega⟩

/-- Rows `128 ot` to `128 ot + 127` of the result before the last rounding: the scaled sum, the low-rank part, the bias. -/
def tileSum (ot : Nat) (ho : ot < 24) (lr : FVec F S3072x512 .f32) (sc : F .f32) (acc : Vec F S1x128x512 .f32) (b : Vec F S128x1 .f32) :
    FVec F S128x512 .f32 :=
  addf (addf (mulf (shapeCast S128x512 acc shapeCasts_S1x128x512_S128x512) (broadcast S128x512 sc))
    (extractStridedSlice S128x512 ![128 * ot, 0] lr (slices_o ot ho)))
    (broadcastTo S128x512 (shapeCast S128x1 b shapeCasts_S128x1_S128x1) broadcasts_S128x1_S128x512)

/-- Half `h` of such a tile, turned to token rows and rounded: the even tokens from the first 128 columns, the odd from the next. -/
def tileHalf (h : Nat) (hh : h < 2) (O : FVec F S128x512 .f32) : Vec F S256x128 .bf16 :=
  interleaveRows S256x128
    (truncf .bf16 (transpose S128x128 [1, 0] (extractStridedSlice S128x128 ![0, 128 * (2 * h)] O (slices_q (2 * h) (by omega))) transposes_S128x128_p1_0_S128x128) : FVec F S128x128 .bf16)
    (truncf .bf16 (transpose S128x128 [1, 0] (extractStridedSlice S128x128 ![0, 128 * (2 * h + 1)] O (slices_q (2 * h + 1) (by omega))) transposes_S128x128_p1_0_S128x128) : FVec F S128x128 .bf16)
    bitcasts_S256x128_w16_S128x128_w32

theorem accRect_inb (i : grid0.Coords) (ot : Nat) (ho : ot < 24) :
    ∀ a, (![k0_off6 i 0, 128 * ot, 0] : Fin 3 → Nat) a + S1x128x512.size a ≤ S3x3072x512.size a := by
  have h2 : (i 2).val < 3 := (i 2).isLt
  rw [k0_off6_eq]
  intro a; fin_cases a <;> simp [S1x128x512, S3x3072x512] <;> omega

theorem biasRect_inb (ot : Nat) (ho : ot < 24) :
    ∀ a, (![128 * ot, 0] : Fin 2 → Nat) a + S128x1.size a ≤ S3072x128.size a := by
  intro a; fin_cases a <;> simp [S128x1, S3072x128] <;> omega

theorem outRect_inb (h ot : Nat) (hh : h < 2) (ho : ot < 24) :
    ∀ a, (![256 * h, 128 * ot] : Fin 2 → Nat) a + S256x128.size a ≤ S512x3072.size a := by
  intro a; fin_cases a <;> simp [S256x128, S512x3072] <;> omega

variable (i : grid0.Coords) (arg10 : Memref sig .tc .vmem S3072x128 .f32) (harg10 : arg10.IsWhole) (arg12 : Memref sig .tc .vmem S3x3072x512 .f32)
  (x7 : Vec F S3072x128 .f32) (lr : FVec F S3072x512 .f32) (sc : F .f32) (HA : List (View.Piece (Elt F) S3x3072x512 .f32))

/-- The store of half `h` of tile `ot`. -/
def piece (h ot : Nat) (hh : h < 2) (ho : ot < 24) : View.Piece (Elt F) S512x3072 .bf16 :=
  ⟨Rect.unit ![256 * h, 128 * ot] S256x128.size (outRect_inb h ot hh ho),
    tileHalf h hh (tileSum ot ho lr sc
      (arg12.view.readCov HA (Rect.unit (s := S3x3072x512) ![k0_off6 i 0, 128 * ot, 0] S1x128x512.size (accRect_inb i ot ho)).toLoadRect)
      (View.readAt (Elt F) arg10.view (Rect.unit (s := S3072x128) ![128 * ot, 0] S128x1.size (biasRect_inb ot ho)).toLoadRect (harg10.unread x7)))⟩

/-- The stores of the first `n` tiles, the last first. -/
def allPieces : (n : Nat) → n ≤ 24 → List (View.Piece (Elt F) S512x3072 .bf16)
  | 0, _ => []
  | n + 1, hn => piece i arg10 harg10 arg12 x7 lr sc HA 1 n (by decide) hn :: piece i arg10 harg10 arg12 x7 lr sc HA 0 n (by decide) hn
      :: allPieces n (Nat.le_of_lt hn)

end

section
variable {F : FTy → Type} [FloatOps F]
variable (c : Dev nD) (i : grid0.Coords) (arg3 : Memref sig .tc .smem S1 .f32) (harg3 : arg3.IsWhole) (arg4 : Memref sig .tc .smem S1 .f32) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1x3072x1024 .bf16) (harg7 : arg7.IsWhole) (arg8 : Memref sig .tc .vmem S1x64x1024 .bf16) (harg8 : arg8.IsWhole) (arg9 : Memref sig .tc .vmem S3072x64 .bf16) (harg9 : arg9.IsWhole) (arg10 : Memref sig .tc .vmem S3072x128 .f32) (harg10 : arg10.IsWhole) (arg11 : Memref sig .tc .vmem S512x3072 .bf16) (harg11 : arg11.IsWhole) (arg12 : Memref sig .tc .vmem S3x3072x512 .f32) (harg12 : arg12.IsWhole) (arg13 : Memref sig .tc .vmem S3x64x512 .f32) (harg13 : arg13.IsWhole)
    (x0 : Vec F S1 .f32) (x1 : Vec F S1 .f32) (x2 : Vec F S1024x512 .bf16) (x3 : Vec F S1024x512 .bf16) (x4 : Vec F S1x3072x1024 .bf16) (x5 : Vec F S1x64x1024 .bf16) (x6 : Vec F S3072x64 .bf16) (x7 : Vec F S3072x128 .f32) (xs0 : Vec F S3x3072x512 .f32) (xs1 : Vec F S3x64x512 .f32)

/-- The rectangle of the point's own plane in the main accumulator, and in the low-rank one. -/
abbrev rA : Rect S3x3072x512 := Rect.unit (s := S3x3072x512) (k0_off3 i) S1x3072x512.size (k0_off3_inb i)
abbrev rH : Rect S3x64x512 := Rect.unit (s := S3x64x512) (k0_off4 i) S1x64x512.size (k0_off4_inb i)

/-- The plane of the main accumulator one step later. -/
def stepA (a : Vec F S1x3072x512 .f32) : Vec F S1x3072x512 .f32 :=
  k0_pay97 a (View.readAt (Elt F) arg7.view (Rect.unit (s := S1x3072x1024) ![0, 0, 0] S1x3072x1024.size inb_S1x3072x1024_S1x3072x1024_0_0_0).toLoadRect (harg7.unread x4))
    (View.readAt (Elt F) arg5.view (Rect.unit (s := S1024x512) ![0, 0] S1024x512.size inb_S1024x512_S1024x512_0_0).toLoadRect (harg5.unread x2))

/-- The plane of the low-rank accumulator one step later. -/
def stepH (a : Vec F S1x64x512 .f32) : Vec F S1x64x512 .f32 :=
  k0_pay98 a (View.readAt (Elt F) arg8.view (Rect.unit (s := S1x64x1024) ![0, 0, 0] S1x64x1024.size inb_S1x64x1024_S1x64x1024_0_0_0).toLoadRect (harg8.unread x5))
    (View.readAt (Elt F) arg6.view (Rect.unit (s := S1024x512) ![0, 0] S1024x512.size inb_S1024x512_S1024x512_0_0).toLoadRect (harg6.unread x3))

/-- The stores into the main accumulator at a point that starts a sum, that continues one, that ends one. -/
theorem lists_A (hc0 : cond0_0 i) (hc1 : ¬cond0_1 i) :
    (kernelRun0_A c i arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.1
      = [⟨rA i, stepA arg5 harg5 arg7 harg7 x2 x4 (arg12.view.readCov [⟨rA i, k0_pay95⟩] (rA i).toLoadRect)⟩, ⟨rA i, k0_pay95⟩] := by
  sl_kernel_rfl

theorem listsH_A (hc0 : cond0_0 i) (hc1 : ¬cond0_1 i) :
    (kernelRun0_A c i arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.1
      = [⟨rH i, stepH arg6 harg6 arg8 harg8 x3 x5 (arg13.view.readCov [⟨rH i, k0_pay96⟩] (rH i).toLoadRect)⟩, ⟨rH i, k0_pay96⟩] := by
  sl_kernel_rfl

theorem lists_B (hc0 : ¬cond0_0 i) (hc1 : ¬cond0_1 i) :
    (kernelRun0_B c i arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.1
      = [⟨rA i, stepA arg5 harg5 arg7 harg7 x2 x4 (View.readAt (Elt F) arg12.view (rA i).toLoadRect (harg12.unread xs0))⟩] := by
  sl_kernel_rfl

theorem listsH_B (hc0 : ¬cond0_0 i) (hc1 : ¬cond0_1 i) :
    (kernelRun0_B c i arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.1
      = [⟨rH i, stepH arg6 harg6 arg8 harg8 x3 x5 (View.readAt (Elt F) arg13.view (rH i).toLoadRect (harg13.unread xs1))⟩] := by
  sl_kernel_rfl

theorem lists_C (hc0 : ¬cond0_0 i) (hc1 : cond0_1 i) :
    (kernelRun0_C c i arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.1
      = [⟨rA i, stepA arg5 harg5 arg7 harg7 x2 x4 (View.readAt (Elt F) arg12.view (rA i).toLoadRect (harg12.unread xs0))⟩] := by
  sl_kernel_rfl

theorem listsH_C (hc0 : ¬cond0_0 i) (hc1 : cond0_1 i) :
    (kernelRun0_C c i arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.1
      = [⟨rH i, stepH arg6 harg6 arg8 harg8 x3 x5 (View.readAt (Elt F) arg13.view (rH i).toLoadRect (harg13.unread xs1))⟩] := by
  sl_kernel_rfl

/-- The factor of the main sum: the product of the two global scales. -/
def scale : F .f32 :=
  k0_pay5 (View.readAt (Elt F) arg3.view (Rect.unit (s := S1) ![0] S1.size inb_S1_S1_0).toLoadRect (harg3.unread x0) (Shape.Idx.first (by decide)))
    (View.readAt (Elt F) arg4.view (Rect.unit (s := S1) ![0] S1.size inb_S1_S1_0).toLoadRect (harg4.unread x1) (Shape.Idx.first (by decide)))

/-- The low-rank part of the result. -/
def lowRank (HH : List (View.Piece (Elt F) S3x64x512 .f32)) : FVec F S3072x512 .f32 :=
  k0_pay4 (View.readAt (Elt F) arg9.view (Rect.unit (s := S3072x64) ![0, 0] S3072x64.size inb_S3072x64_S3072x64_0_0).toLoadRect (harg9.unread x6))
    (arg13.view.readCov HH (rH i).toLoadRect)

/-- The stores into the output block are these. -/
theorem run_pieces (hc0 : ¬cond0_0 i) (hc1 : cond0_1 i) :
    (kernelRun0_C c i arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).1
      = allPieces i arg10 harg10 arg12 x7
          (lowRank i arg9 harg9 arg13 x6 [⟨rH i, stepH arg6 harg6 arg8 harg8 x3 x5 (View.readAt (Elt F) arg13.view (rH i).toLoadRect (harg13.unread xs1))⟩])
          (scale arg3 harg3 arg4 harg4 x0 x1)
          [⟨rA i, stepA arg5 harg5 arg7 harg7 x2 x4 (View.readAt (Elt F) arg12.view (rA i).toLoadRect (harg12.unread xs0))⟩] 24 (by decide) := by
  sl_kernel_rfl
end

end Cert.MainIdeal.Tiles
end
-- ==== Proof.MainIdeal.Out.lean ====
/- What the body leaves in the output block and in the two accumulators, read at an index. -/
module

public import proofs.«01_k».proof.Proof.MainIdeal.Tiles
public import Idealize.ShloMosaic.Lib.WritesUnit

@[expose] public section

noncomputable section

namespace Cert.MainIdeal.Tiles

open Cert.MainIdeal Cert.MainIdeal.Gen Idealize.ShloMosaic Idealize.ShloMosaic.TcCoe Idealize.SL.Sem

/-! ## The accumulators' planes -/

section
variable {F : FTy → Type} [FloatOps F]

/-- Plane `j` of an accumulator. -/
def planeA (s : Vec F S3x3072x512 .f32) (j : Fin 3) : Vec F S1x3072x512 .f32 := fun x => s (ix3 j (x 1) (x 2))
def planeH (s : Vec F S3x64x512 .f32) (j : Fin 3) : Vec F S1x64x512 .f32 := fun x => s (ix3 j (x 1) (x 2))

variable (i : grid0.Coords)

/-- A load of the point's own plane. -/
theorem readAt_planeA (arg : Memref sig .tc .vmem S3x3072x512 .f32) (h : arg.IsWhole) (s : Vec F S3x3072x512 .f32) :
    View.readAt (Elt F) arg.view (rA i).toLoadRect (h.unread s) = planeA s (i 2) := by
  funext x
  rw [h.readAt_unread]
  unfold planeA
  congr 1
  funext a
  have e := congrFun (k0_off3_eq i) a
  have hx : (x 0).val < 1 := (x 0).isLt
  match a with
  | ⟨0, _⟩ => exact Fin.ext (show k0_off3 i 0 + 1 * (x 0).val = (i 2).val by rw [k0_off3_eq]; show (i 2).val + 1 * (x 0).val = _; omega)
  | ⟨1, _⟩ => exact Fin.ext (show k0_off3 i 1 + 1 * (x 1).val = (x 1).val by rw [k0_off3_eq]; show 0 + 1 * (x 1).val = _; omega)
  | ⟨2, _⟩ => exact Fin.ext (show k0_off3 i 2 + 1 * (x 2).val = (x 2).val by rw [k0_off3_eq]; show 0 + 1 * (x 2).val = _; omega)

theorem readAt_planeH (arg : Memref sig .tc .vmem S3x64x512 .f32) (h : arg.IsWhole) (s : Vec F S3x64x512 .f32) :
    View.readAt (Elt F) arg.view (rH i).toLoadRect (h.unread s) = planeH s (i 2) := by
  funext x
  rw [h.readAt_unread]
  unfold planeH
  congr 1
  funext a
  have hx : (x 0).val < 1 := (x 0).isLt
  match a with
  | ⟨0, _⟩ => exact Fin.ext (show k0_off4 i 0 + 1 * (x 0).val = (i 2).val by rw [k0_off4_eq]; show (i 2).val + 1 * (x 0).val = _; omega)
  | ⟨1, _⟩ => exact Fin.ext (show k0_off4 i 1 + 1 * (x 1).val = (x 1).val by rw [k0_off4_eq]; show 0 + 1 * (x 1).val = _; omega)
  | ⟨2, _⟩ => exact Fin.ext (show k0_off4 i 2 + 1 * (x 2).val = (x 2).val by rw [k0_off4_eq]; show 0 + 1 * (x 2).val = _; omega)

/-- After a store of the point's own plane, that plane is the stored one, -/
theorem planeA_write (v : View sig .tc .vmem S3x3072x512 .f32) (f : v.ty.Contents (Elt F)) (w : Vec F S1x3072x512 .f32)
    (L : List (View.Piece (Elt F) S3x3072x512 .f32)) :
    planeA (v.read (Elt F) (v.writes (Elt F) f (⟨rA i, w⟩ :: L))) (i 2) = w := by
  funext x
  unfold planeA
  have hx : (x 0).val < 1 := (x 0).isLt
  refine View.read_writes_cons_unit_of_mem v f (k0_off3_inb i) w L _ x (k0_off3_eq i) fun a => ?_
  match a with
  | ⟨0, _⟩ => show (i 2).val = (i 2).val + (x 0).val; omega
  | ⟨1, _⟩ => show (x 1).val = 0 + (x 1).val; omega
  | ⟨2, _⟩ => show (x 2).val = 0 + (x 2).val; omega

/-- and the other planes are as before. -/
theorem planeA_other (v : View sig .tc .vmem S3x3072x512 .f32) (f : v.ty.Contents (Elt F)) (w : Vec F S1x3072x512 .f32)
    (L : List (View.Piece (Elt F) S3x3072x512 .f32)) (j : Fin 3) (hj : j.val ≠ (i 2).val) :
    planeA (v.read (Elt F) (v.writes (Elt F) f (⟨rA i, w⟩ :: L))) j = planeA (v.read (Elt F) (v.writes (Elt F) f L)) j := by
  funext x
  unfold planeA
  exact View.read_writes_cons_unit_of_not_mem v f (k0_off3_inb i) w L _ (k0_off3_eq i) 0
    (show j.val < (i 2).val ∨ (i 2).val + 1 ≤ j.val by omega)

theorem planeH_write (v : View sig .tc .vmem S3x64x512 .f32) (f : v.ty.Contents (Elt F)) (w : Vec F S1x64x512 .f32)
    (L : List (View.Piece (Elt F) S3x64x512 .f32)) :
    planeH (v.read (Elt F) (v.writes (Elt F) f (⟨rH i, w⟩ :: L))) (i 2) = w := by
  funext x
  unfold planeH
  have hx : (x 0).val < 1 := (x 0).isLt
  refine View.read_writes_cons_unit_of_mem v f (k0_off4_inb i) w L _ x (k0_off4_eq i) fun a => ?_
  match a with
  | ⟨0, _⟩ => show (i 2).val = (i 2).val + (x 0).val; omega
  | ⟨1, _⟩ => show (x 1).val = 0 + (x 1).val; omega
  | ⟨2, _⟩ => show (x 2).val = 0 + (x 2).val; omega

theorem planeH_other (v : View sig .tc .vmem S3x64x512 .f32) (f : v.ty.Contents (Elt F)) (w : Vec F S1x64x512 .f32)
    (L : List (View.Piece (Elt F) S3x64x512 .f32)) (j : Fin 3) (hj : j.val ≠ (i 2).val) :
    planeH (v.read (Elt F) (v.writes (Elt F) f (⟨rH i, w⟩ :: L))) j = planeH (v.read (Elt F) (v.writes (Elt F) f L)) j := by
  funext x
  unfold planeH
  exact View.read_writes_cons_unit_of_not_mem v f (k0_off4_inb i) w L _ (k0_off4_eq i) 0
    (show j.val < (i 2).val ∨ (i 2).val + 1 ≤ j.val by omega)

theorem zero2 : (![0, 0] : Fin 2 → Nat) = fun _ => 0 := by funext a; fin_cases a <;> rfl
theorem zero3 : (![0, 0, 0] : Fin 3 → Nat) = fun _ => 0 := by funext a; fin_cases a <;> rfl
theorem zero1 : (![0] : Fin 1 → Nat) = fun _ => 0 := by funext a; fin_cases a; rfl

/-- A load of a whole buffer reads what it holds. -/
theorem readAt_all {s : Shape} {e : EltTy} {sp : Space} (arg : Memref sig .tc sp s e) (h : arg.IsWhole) (x : Vec F s e)
    (off : Fin s.rank → Nat) (hz : off = fun _ => 0) (inb : ∀ a, off a + s.size a ≤ s.size a) :
    View.readAt (Elt F) arg.view (Rect.unit (s := s) off s.size inb).toLoadRect (h.unread x) = x := by
  funext y
  rw [h.readAt_unread]
  exact congrFun (View.ld_unit_zero (S := s) hz inb x) y

theorem stepA_eq (arg5 : Memref sig .tc .vmem S1024x512 .bf16) (harg5 : arg5.IsWhole) (arg7 : Memref sig .tc .vmem S1x3072x1024 .bf16) (harg7 : arg7.IsWhole)
    (x2 : Vec F S1024x512 .bf16) (x4 : Vec F S1x3072x1024 .bf16) (a : Vec F S1x3072x512 .f32) :
    stepA arg5 harg5 arg7 harg7 x2 x4 a = k0_pay97 a x4 x2 := by
  unfold stepA
  rw [readAt_all arg7 harg7 x4 _ zero3, readAt_all arg5 harg5 x2 _ zero2]

theorem stepH_eq (arg6 : Memref sig .tc .vmem S1024x512 .bf16) (harg6 : arg6.IsWhole) (arg8 : Memref sig .tc .vmem S1x64x1024 .bf16) (harg8 : arg8.IsWhole)
    (x3 : Vec F S1024x512 .bf16) (x5 : Vec F S1x64x1024 .bf16) (a : Vec F S1x64x512 .f32) :
    stepH arg6 harg6 arg8 harg8 x3 x5 a = k0_pay98 a x5 x3 := by
  unfold stepH
  rw [readAt_all arg8 harg8 x5 _ zero3, readAt_all arg6 harg6 x3 _ zero2]

theorem scale_eq (arg3 : Memref sig .tc .smem S1 .f32) (harg3 : arg3.IsWhole) (arg4 : Memref sig .tc .smem S1 .f32) (harg4 : arg4.IsWhole)
    (x0 x1 : Vec F S1 .f32) : scale arg3 harg3 arg4 harg4 x0 x1 = k0_pay5 (x0 (ix1 0)) (x1 (ix1 0)) := by
  unfold scale
  rw [readAt_all arg3 harg3 x0 _ zero1, readAt_all arg4 harg4 x1 _ zero1]
  have e (h : 0 < S1.numel) : (Shape.Idx.first h : S1.Idx) = ix1 0 := by
    funext a
    match a with
    | ⟨0, _⟩ => exact Subsingleton.elim (α := Fin 1) _ _
  rw [e]

theorem lowRank_eq (arg9 : Memref sig .tc .vmem S3072x64 .bf16) (harg9 : arg9.IsWhole) (arg13 : Memref sig .tc .vmem S3x64x512 .f32)
    (x6 : Vec F S3072x64 .bf16) (w : Vec F S1x64x512 .f32) : lowRank i arg9 harg9 arg13 x6 [⟨rH i, w⟩] = k0_pay4 x6 w := by
  unfold lowRank
  rw [readAt_all arg9 harg9 x6 _ zero2, View.readCov_cons_toLoadRect]
end

/-! ## The output block -/

/-- The column of the block's transposed sum that lands in token row `R`. -/
def colOf (R : Fin 512) : Fin 512 := ⟨256 * (R.val / 256) + 128 * (R.val % 2) + R.val % 256 / 2, by have := R.isLt; omega⟩

/-- What stands in token row `y 0`, column `y 1` of the output block: the scaled sum, the low-rank part, the bias. -/
def outVal (a : Vec Ideal S1x3072x512 .f32) (lr : FVec Ideal S3072x512 .f32) (sc : EReal) (x7 : Vec Ideal S3072x128 .f32) : Vec Ideal S512x3072 .bf16 :=
  fun y => (a (ix3 0 (y 1) (colOf (y 0))) * sc + lr (ix2 (y 1) (colOf (y 0))) + x7 (ix2 (y 1) 0) : EReal)

theorem tileSum_apply (ot : Nat) (ho : ot < 24) (lr : FVec Ideal S3072x512 .f32) (sc : EReal) (acc : Vec Ideal S1x128x512 .f32) (b : Vec Ideal S128x1 .f32)
    (r : Fin 128) (q : Fin 512) :
    tileSum (F := Ideal) ot ho lr sc acc b (ix2 r q)
      = acc (ix3 0 r q) * sc + lr (ix2 (⟨128 * ot + r.val, by omega⟩ : Fin 3072) q) + b (ix2 r 0) := by
  have e1 : shapeCast S128x512 acc shapeCasts_S1x128x512_S128x512 (ix2 r q) = acc (ix3 0 r q) := by pointwise
  have e2 := extractStridedSlice_apply ![128 * ot, 0] lr (slices_o ot ho) (ix2 r q) (ix2 (⟨128 * ot + r.val, by omega⟩ : Fin 3072) q)
    (fun d => by match d with
      | ⟨0, _⟩ => rfl
      | ⟨1, _⟩ => exact (Nat.zero_add _).symm)
  have e3 : broadcastTo S128x512 (shapeCast S128x1 b shapeCasts_S128x1_S128x1) broadcasts_S128x1_S128x512 (ix2 r q) = b (ix2 r 0) := by pointwise
  unfold tileSum
  show shapeCast S128x512 acc _ (ix2 r q) * sc + extractStridedSlice S128x512 _ lr _ (ix2 r q) + broadcastTo S128x512 _ _ (ix2 r q) = _
  rw [e1, e2, e3]

theorem tileHalf_apply (h : Nat) (hh : h < 2) (O : FVec Ideal S128x512 .f32) (a : Fin 256) (b : Fin 128) :
    tileHalf (F := Ideal) h hh O (ix2 a b) = O (ix2 b (⟨256 * h + 128 * (a.val % 2) + a.val / 2, by have := a.isLt; omega⟩ : Fin 512)) := by
  have ha := a.isLt
  have e (q : Nat) (hq : q < 4) (r : Fin 128) :
      (truncf .bf16 (transpose S128x128 [1, 0] (extractStridedSlice S128x128 ![0, 128 * q] O (slices_q q hq)) transposes_S128x128_p1_0_S128x128) : FVec Ideal S128x128 .bf16) (ix2 r b)
        = O (ix2 b (⟨128 * q + r.val, by have := r.isLt; omega⟩ : Fin 512)) := by
    refine (transpose_apply [1, 0] (extractStridedSlice S128x128 ![0, 128 * q] O (slices_q q hq)) transposes_S128x128_p1_0_S128x128 (ix2 r b) (ix2 b r)
      (fun d => by match d with
        | ⟨0, _⟩ => rfl
        | ⟨1, _⟩ => rfl)).trans ?_
    exact extractStridedSlice_apply ![0, 128 * q] O (slices_q q hq) (ix2 b r) (ix2 b (⟨128 * q + r.val, by have := r.isLt; omega⟩ : Fin 512))
      (fun d => by match d with
        | ⟨0, _⟩ => exact (Nat.zero_add _).symm
        | ⟨1, _⟩ => rfl)
  unfold tileHalf
  rw [interleaveRows_apply]
  have hrow : S256x128.row (ix2 a b) = a.val := rfl
  rw [hrow]
  rcases Nat.mod_two_eq_zero_or_one a.val with hm | hm
  · rw [if_pos hm]
    refine Eq.trans (congrArg _ ?_) ((e (2 * h) (by omega) (⟨a.val / 2, by omega⟩ : Fin 128)).trans (congrArg (fun z => O (ix2 b z)) (Fin.ext ?_)))
    · funext d
      match d with
      | ⟨0, _⟩ => exact Fin.ext rfl
      | ⟨1, _⟩ => exact Fin.ext rfl
    · show 128 * (2 * h) + a.val / 2 = 256 * h + 128 * (a.val % 2) + a.val / 2
      omega
  · rw [if_neg (by omega)]
    refine Eq.trans (congrArg _ ?_) ((e (2 * h + 1) (by omega) (⟨a.val / 2, by omega⟩ : Fin 128)).trans (congrArg (fun z => O (ix2 b z)) (Fin.ext ?_)))
    · funext d
      match d with
      | ⟨0, _⟩ => exact Fin.ext rfl
      | ⟨1, _⟩ => exact Fin.ext rfl
    · show 128 * (2 * h + 1) + a.val / 2 = 256 * h + 128 * (a.val % 2) + a.val / 2
      omega

section
variable (i : grid0.Coords) (arg10 : Memref sig .tc .vmem S3072x128 .f32) (harg10 : arg10.IsWhole) (arg12 : Memref sig .tc .vmem S3x3072x512 .f32)
  (x7 : Vec Ideal S3072x128 .f32) (lr : FVec Ideal S3072x512 .f32) (sc : EReal) (w : Vec Ideal S1x3072x512 .f32)

/-- The rows of the point's own plane that a tile reads back. -/
theorem acc_apply (ot : Nat) (ho : ot < 24) (r : Fin 128) (q : Fin 512) :
    arg12.view.readCov [⟨rA i, w⟩] (Rect.unit (s := S3x3072x512) ![k0_off6 i 0, 128 * ot, 0] S1x128x512.size (accRect_inb i ot ho)).toLoadRect (ix3 0 r q)
      = w (ix3 0 (⟨128 * ot + r.val, by omega⟩ : Fin 3072) q) := by
  rw [View.readCov_eq_canon']
  have e : (Rect.unit (s := S3x3072x512) ![k0_off6 i 0, 128 * ot, 0] S1x128x512.size (accRect_inb i ot ho)).toLoadRect.idx (ix3 0 r q)
      = (rA i).emb (ix3 0 (⟨128 * ot + r.val, by omega⟩ : Fin 3072) q : S1x3072x512.Idx) := by
    funext d
    match d with
    | ⟨0, _⟩ => exact Fin.ext (show k0_off6 i 0 + 1 * 0 = k0_off3 i 0 + 1 * 0 by rw [k0_off6_eq, k0_off3_eq])
    | ⟨1, _⟩ => exact Fin.ext (show 128 * ot + 1 * r.val = k0_off3 i 1 + 1 * (128 * ot + r.val) by rw [k0_off3_eq]; show 128 * ot + 1 * r.val = 0 + 1 * (128 * ot + r.val); omega)
    | ⟨2, _⟩ => exact Fin.ext (show 0 + 1 * q.val = k0_off3 i 2 + 1 * q.val by rw [k0_off3_eq]; rfl)
  exact (congrArg (View.canon [⟨rA i, w⟩]) e).trans (View.canon_cons_emb (rA i) w [] _)

theorem bias_apply (ot : Nat) (ho : ot < 24) (r : Fin 128) :
    View.readAt (Elt Ideal) arg10.view (Rect.unit (s := S3072x128) ![128 * ot, 0] S128x1.size (biasRect_inb ot ho)).toLoadRect (harg10.unread x7) (ix2 r 0)
      = x7 (ix2 (⟨128 * ot + r.val, by omega⟩ : Fin 3072) 0) := by
  rw [harg10.readAt_unread]
  congr 1
  funext d
  match d with
  | ⟨0, _⟩ => exact Fin.ext (show 128 * ot + 1 * r.val = 128 * ot + r.val by omega)
  | ⟨1, _⟩ => exact Fin.ext rfl

/-- Every store writes `outVal` at its own indices. -/
theorem piece_value (h ot : Nat) (hh : h < 2) (ho : ot < 24)
    (x : (piece i arg10 harg10 arg12 x7 lr sc [⟨rA i, w⟩] h ot hh ho).1.shape.Idx) :
    (piece i arg10 harg10 arg12 x7 lr sc [⟨rA i, w⟩] h ot hh ho).2 x
      = outVal w lr sc x7 ((piece i arg10 harg10 arg12 x7 lr sc [⟨rA i, w⟩] h ot hh ho).1.emb x) := by
  obtain ⟨a, b, rfl⟩ : ∃ (a : Fin 256) (b : Fin 128), x = (ix2 a b : S256x128.Idx) :=
    ⟨x 0, x 1, by funext d; match d with | ⟨0, _⟩ => rfl | ⟨1, _⟩ => rfl⟩
  have ha := a.isLt
  have hb := b.isLt
  have e0 : (piece i arg10 harg10 arg12 x7 lr sc [⟨rA i, w⟩] h ot hh ho).1.emb (ix2 a b : S256x128.Idx) 0
      = (⟨256 * h + a.val, by omega⟩ : Fin 512) := Fin.ext (show 256 * h + 1 * a.val = _ by simp)
  have e1 : (piece i arg10 harg10 arg12 x7 lr sc [⟨rA i, w⟩] h ot hh ho).1.emb (ix2 a b : S256x128.Idx) 1
      = (⟨128 * ot + b.val, by omega⟩ : Fin 3072) := Fin.ext (show 128 * ot + 1 * b.val = _ by simp)
  unfold outVal
  rw [e0, e1]
  refine (tileHalf_apply h hh _ a b).trans ?_
  rw [tileSum_apply, acc_apply i arg12 w ot ho, bias_apply arg10 harg10 x7 ot ho]
  have ec : (⟨256 * h + 128 * (a.val % 2) + a.val / 2, by omega⟩ : Fin 512) = colOf ⟨256 * h + a.val, by omega⟩ := by
    apply Fin.ext
    show 256 * h + 128 * (a.val % 2) + a.val / 2 = 256 * ((256 * h + a.val) / 256) + 128 * ((256 * h + a.val) % 2) + (256 * h + a.val) % 256 / 2
    omega
  rw [ec]

theorem all_pieces : ∀ n (hn : n ≤ 24), ∀ q ∈ allPieces i arg10 harg10 arg12 x7 lr sc [⟨rA i, w⟩] n hn, ∀ x, q.2 x = outVal w lr sc x7 (q.1.emb x)
  | 0, _, q, hq => absurd hq List.not_mem_nil
  | n + 1, hn, q, hq => by
    unfold allPieces at hq
    simp only [List.mem_cons] at hq
    rcases hq with rfl | rfl | hq
    · exact piece_value i arg10 harg10 arg12 x7 lr sc w 1 n _ _
    · exact piece_value i arg10 harg10 arg12 x7 lr sc w 0 n _ _
    · exact all_pieces n _ q hq

theorem mem_pieces (h : Nat) (hh : h < 2) (ot : Nat) : ∀ n (hn : n ≤ 24) (ho : ot < n),
    piece i arg10 harg10 arg12 x7 lr sc [⟨rA i, w⟩] h ot hh (Nat.lt_of_lt_of_le ho hn) ∈ allPieces i arg10 harg10 arg12 x7 lr sc [⟨rA i, w⟩] n hn
  | 0, _, ho => absurd ho (Nat.not_lt_zero _)
  | n + 1, hn, ho => by
    unfold allPieces
    rcases Nat.lt_or_eq_of_le (Nat.le_of_lt_succ ho) with hlt | rfl
    · exact List.mem_cons_of_mem _ (List.mem_cons_of_mem _ (mem_pieces h hh ot n _ hlt))
    · rcases Nat.lt_or_eq_of_le (Nat.le_of_lt_succ hh) with h0 | rfl
      · obtain rfl : h = 0 := by omega
        exact List.mem_cons_of_mem _ List.mem_cons_self
      · exact List.mem_cons_self

theorem cover (y : S512x3072.Idx) : ∃ p ∈ allPieces i arg10 harg10 arg12 x7 lr sc [⟨rA i, w⟩] 24 (by decide), y ∈ p.1.set := by
  have h0 : (y 0).val < 512 := (y 0).isLt
  have h1 : (y 1).val < 3072 := (y 1).isLt
  refine ⟨_, mem_pieces i arg10 harg10 arg12 x7 lr sc w ((y 0).val / 256) (by omega) ((y 1).val / 128) 24 (by decide) (by omega), ?_⟩
  unfold piece
  rw [Rect.mem_set_unit]
  intro a
  match a with
  | ⟨0, _⟩ => exact ⟨show 256 * ((y 0).val / 256) ≤ (y 0).val by omega, show (y 0).val < 256 * ((y 0).val / 256) + 256 by omega⟩
  | ⟨1, _⟩ => exact ⟨show 128 * ((y 1).val / 128) ≤ (y 1).val by omega, show (y 1).val < 128 * ((y 1).val / 128) + 128 by omega⟩
end

/-- WHAT A POINT THAT ENDS A SUM LEAVES in its output block, whatever was there. -/
theorem out_read (c : Dev nD) (i : grid0.Coords) (arg3 : Memref sig .tc .smem S1 .f32) (harg3 : arg3.IsWhole) (arg4 : Memref sig .tc .smem S1 .f32) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1x3072x1024 .bf16) (harg7 : arg7.IsWhole) (arg8 : Memref sig .tc .vmem S1x64x1024 .bf16) (harg8 : arg8.IsWhole) (arg9 : Memref sig .tc .vmem S3072x64 .bf16) (harg9 : arg9.IsWhole) (arg10 : Memref sig .tc .vmem S3072x128 .f32) (harg10 : arg10.IsWhole) (arg11 : Memref sig .tc .vmem S512x3072 .bf16) (harg11 : arg11.IsWhole) (arg12 : Memref sig .tc .vmem S3x3072x512 .f32) (harg12 : arg12.IsWhole) (arg13 : Memref sig .tc .vmem S3x64x512 .f32) (harg13 : arg13.IsWhole)
    (x0 : Vec Ideal S1 .f32) (x1 : Vec Ideal S1 .f32) (x2 : Vec Ideal S1024x512 .bf16) (x3 : Vec Ideal S1024x512 .bf16) (x4 : Vec Ideal S1x3072x1024 .bf16) (x5 : Vec Ideal S1x64x1024 .bf16) (x6 : Vec Ideal S3072x64 .bf16) (x7 : Vec Ideal S3072x128 .f32) (xs0 : Vec Ideal S3x3072x512 .f32) (xs1 : Vec Ideal S3x64x512 .f32)
    (hc0 : ¬cond0_0 i) (hc1 : cond0_1 i) (f : arg11.view.ty.Contents (Elt Ideal)) :
    arg11.view.read (Elt Ideal) (arg11.view.writes (Elt Ideal) f (kernelRun0_C c i arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).1)
      = outVal (k0_pay97 (planeA xs0 (i 2)) x4 x2) (k0_pay4 x6 (k0_pay98 (planeH xs1 (i 2)) x5 x3)) (k0_pay5 (x0 (ix1 0)) (x1 (ix1 0))) x7 := by
  rw [run_pieces]
  simp only [readAt_planeA, readAt_planeH, stepA_eq, stepH_eq, scale_eq, lowRank_eq]
  funext y
  exact View.read_writes_apply_of_pieces _ _ _ _
    (all_pieces i arg10 harg10 arg12 x7 _ _ _ 24 _) y (cover i arg10 harg10 arg12 x7 _ _ _ y)

end Cert.MainIdeal.Tiles
end
-- ==== Proof.MainIdeal.Sound.lean ====
/- The run of the whole product: after every grid point the plane the point works on holds its partial sums, and a point that ends a
   sum leaves the finished block. -/
module

public import proofs.«01_k».proof.Proof.MainIdeal.Out
public import Idealize.ShloMosaic.Lib.Claim

@[expose] public section

set_option maxRecDepth 16384

noncomputable section

namespace Cert.MainIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MainIdeal.Tiles

variable (m : (ℓ : Loc nD τ sig) → Buf (Elt Ideal) ℓ) (ρ : Dev nD → PrngReg)

/-! ## The partial sums -/

/-- Grid point `n`. -/
def pt (n : Nat) : Fin cfg0.N := ⟨n % 135, by rw [show cfg0.N = 135 from N_0]; exact Nat.mod_lt _ (by decide)⟩

theorem pt_val (t : Fin cfg0.N) (n : Nat) (h : n = t.val) : pt n = t := by
  have ht : t.val < 135 := lt_of_lt_of_eq t.isLt (show cfg0.N = 135 from N_0)
  subst h; exact Fin.ext (Nat.mod_eq_of_lt ht)

/-- The two planes one step later: the block product of point `t` added to each. -/
def stepAt (c : Dev nD) (t : Fin cfg0.N) (s : Vec Ideal S1x3072x512 .f32 × Vec Ideal S1x64x512 .f32) :
    Vec Ideal S1x3072x512 .f32 × Vec Ideal S1x64x512 .f32 :=
  (k0_pay97 s.1 (iblk m c 4 t) (iblk m c 2 t), k0_pay98 s.2 (iblk m c 5 t) (iblk m c 3 t))

/-- The two planes that start a sum. -/
def zeros : Vec Ideal S1x3072x512 .f32 × Vec Ideal S1x64x512 .f32 := (k0_pay95 (F := Ideal), k0_pay96 (F := Ideal))

/-- The sums started at point `b`, after `k` more steps: every third point works on the same plane. -/
def sums (c : Dev nD) (b : Nat) : Nat → Vec Ideal S1x3072x512 .f32 × Vec Ideal S1x64x512 .f32
  | 0 => stepAt m c (pt b) zeros
  | k + 1 => stepAt m c (pt (b + 3 * (k + 1))) (sums c b k)

/-- What the plane of point `t` holds after it. -/
def planeAt (c : Dev nD) (t : Nat) : Vec Ideal S1x3072x512 .f32 × Vec Ideal S1x64x512 .f32 := sums m c (t - 3 * (t / 3 % 15)) (t / 3 % 15)

theorem planeAt_start (c : Dev nD) (t : Fin cfg0.N) (h : t.val / 3 % 15 = 0) : planeAt m c t.val = stepAt m c t zeros := by
  unfold planeAt; rw [h]; show stepAt m c (pt (t.val - 3 * 0)) zeros = _; rw [pt_val t _ (by omega)]

theorem planeAt_next (c : Dev nD) (t : Fin cfg0.N) (h : t.val / 3 % 15 ≠ 0) : planeAt m c t.val = stepAt m c t (planeAt m c (t.val - 3)) := by
  unfold planeAt
  obtain ⟨k, hk⟩ : ∃ k, t.val / 3 % 15 = k + 1 := ⟨t.val / 3 % 15 - 1, by omega⟩
  have hk' : (t.val - 3) / 3 % 15 = k := by omega
  rw [hk, hk']
  show stepAt m c (pt (t.val - 3 * (k + 1) + 3 * (k + 1))) (sums m c (t.val - 3 * (k + 1)) k) = _
  rw [pt_val t _ (by omega), show t.val - 3 * (k + 1) = t.val - 3 - 3 * k by omega]

/-- Before point `n`, each plane that one of the last three points worked on holds what that point left. -/
def Inv (c : Dev nD) (n : Nat) (s0 : Vec Ideal S3x3072x512 .f32) (s1 : Vec Ideal S3x64x512 .f32) : Prop :=
  ∀ t : Nat, t < n → n ≤ t + 3 → ∀ j : Fin 3, j.val = t % 3 → planeA s0 j = (planeAt m c t).1 ∧ planeH s1 j = (planeAt m c t).2

theorem coord2 (t : Fin cfg0.N) : (grid0.coords t 2).val = t.val % 3 := by
  have e2 : (grid0.coords t 2).val = t.val / 1 % 3 := Pipeline.Grid.coords_val t 2 (by decide) rfl
  rw [e2, Nat.div_one]

/-- The invariant passes to the next point when the point's own plane is stepped and the others stay. -/
theorem inv_step (c : Dev nD) (t : Fin cfg0.N) (s0 s0' : Vec Ideal S3x3072x512 .f32) (s1 s1' : Vec Ideal S3x64x512 .f32) (hI : Inv m c t.val s0 s1)
    (h0 : planeA s0' (grid0.coords t 2) = (planeAt m c t.val).1) (h1 : planeH s1' (grid0.coords t 2) = (planeAt m c t.val).2)
    (o0 : ∀ j : Fin 3, j.val ≠ (grid0.coords t 2).val → planeA s0' j = planeA s0 j)
    (o1 : ∀ j : Fin 3, j.val ≠ (grid0.coords t 2).val → planeH s1' j = planeH s1 j) : Inv m c (t.val + 1) s0' s1' := by
  intro t' h h' j hj
  have e2 := coord2 t
  rcases Nat.lt_or_eq_of_le (Nat.le_of_lt_succ h) with hlt | rfl
  · have hne : j.val ≠ (grid0.coords t 2).val := by omega
    rw [o0 j hne, o1 j hne]
    exact hI t' hlt (by omega) j hj
  · have hj2 : j = grid0.coords t 2 := Fin.ext (hj.trans e2.symm)
    subst hj2
    exact ⟨h0, h1⟩

/-- The point's own plane before a point that continues a sum. -/
theorem inv_own (c : Dev nD) (t : Fin cfg0.N) (s0 : Vec Ideal S3x3072x512 .f32) (s1 : Vec Ideal S3x64x512 .f32) (hI : Inv m c t.val s0 s1)
    (h : t.val / 3 % 15 ≠ 0) : planeA s0 (grid0.coords t 2) = (planeAt m c (t.val - 3)).1 ∧ planeH s1 (grid0.coords t 2) = (planeAt m c (t.val - 3)).2 :=
  hI (t.val - 3) (by omega) (by omega) _ (by rw [coord2]; omega)

section
variable (c : Dev nD) (i : grid0.Coords) (arg3 : Memref sig .tc .smem S1 .f32) (harg3 : arg3.IsWhole) (arg4 : Memref sig .tc .smem S1 .f32) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1x3072x1024 .bf16) (harg7 : arg7.IsWhole) (arg8 : Memref sig .tc .vmem S1x64x1024 .bf16) (harg8 : arg8.IsWhole) (arg9 : Memref sig .tc .vmem S3072x64 .bf16) (harg9 : arg9.IsWhole) (arg10 : Memref sig .tc .vmem S3072x128 .f32) (harg10 : arg10.IsWhole) (arg11 : Memref sig .tc .vmem S512x3072 .bf16) (harg11 : arg11.IsWhole) (arg12 : Memref sig .tc .vmem S3x3072x512 .f32) (harg12 : arg12.IsWhole) (arg13 : Memref sig .tc .vmem S3x64x512 .f32) (harg13 : arg13.IsWhole)
  (x0 : Vec Ideal S1 .f32) (x1 : Vec Ideal S1 .f32) (x2 : Vec Ideal S1024x512 .bf16) (x3 : Vec Ideal S1024x512 .bf16) (x4 : Vec Ideal S1x3072x1024 .bf16) (x5 : Vec Ideal S1x64x1024 .bf16) (x6 : Vec Ideal S3072x64 .bf16) (x7 : Vec Ideal S3072x128 .f32) (xs0 : Vec Ideal S3x3072x512 .f32) (xs1 : Vec Ideal S3x64x512 .f32)

/-- The two accumulators' contents after a point: its own planes are `p` and `q`, the others are as before. -/
def Steps (p : Vec Ideal S1x3072x512 .f32) (q : Vec Ideal S1x64x512 .f32) (s0' : Vec Ideal S3x3072x512 .f32) (s1' : Vec Ideal S3x64x512 .f32) : Prop :=
  planeA s0' (i 2) = p ∧ planeH s1' (i 2) = q ∧ (∀ j : Fin 3, j.val ≠ (i 2).val → planeA s0' j = planeA xs0 j) ∧ (∀ j : Fin 3, j.val ≠ (i 2).val → planeH s1' j = planeH xs1 j)

theorem steps_first (L : List (View.Piece (Elt Ideal) S3x3072x512 .f32)) (LH : List (View.Piece (Elt Ideal) S3x64x512 .f32))
    (hL : L = [⟨rA i, stepA arg5 harg5 arg7 harg7 x2 x4 (arg12.view.readCov [⟨rA i, k0_pay95 (F := Ideal)⟩] (rA i).toLoadRect)⟩, ⟨rA i, k0_pay95 (F := Ideal)⟩])
    (hLH : LH = [⟨rH i, stepH arg6 harg6 arg8 harg8 x3 x5 (arg13.view.readCov [⟨rH i, k0_pay96 (F := Ideal)⟩] (rH i).toLoadRect)⟩, ⟨rH i, k0_pay96 (F := Ideal)⟩]) :
    Steps i xs0 xs1 (k0_pay97 (k0_pay95 (F := Ideal)) x4 x2) (k0_pay98 (k0_pay96 (F := Ideal)) x5 x3)
      (arg12.view.read (Elt Ideal) (arg12.view.writes (Elt Ideal) (harg12.unread xs0) L))
      (arg13.view.read (Elt Ideal) (arg13.view.writes (Elt Ideal) (harg13.unread xs1) LH)) := by
  subst hL hLH
  simp only [stepA_eq, stepH_eq, View.readCov_cons_toLoadRect]
  refine ⟨planeA_write _ _ _ _ _, planeH_write _ _ _ _ _, fun j hj => ?_, fun j hj => ?_⟩
  · rw [planeA_other _ _ _ _ _ _ hj, planeA_other _ _ _ _ _ _ hj, View.writes_nil, harg12.read_unread]
  · rw [planeH_other _ _ _ _ _ _ hj, planeH_other _ _ _ _ _ _ hj, View.writes_nil, harg13.read_unread]

theorem steps_next (L : List (View.Piece (Elt Ideal) S3x3072x512 .f32)) (LH : List (View.Piece (Elt Ideal) S3x64x512 .f32))
    (hL : L = [⟨rA i, stepA arg5 harg5 arg7 harg7 x2 x4 (View.readAt (Elt Ideal) arg12.view (rA i).toLoadRect (harg12.unread xs0))⟩])
    (hLH : LH = [⟨rH i, stepH arg6 harg6 arg8 harg8 x3 x5 (View.readAt (Elt Ideal) arg13.view (rH i).toLoadRect (harg13.unread xs1))⟩]) :
    Steps i xs0 xs1 (k0_pay97 (planeA xs0 (i 2)) x4 x2) (k0_pay98 (planeH xs1 (i 2)) x5 x3)
      (arg12.view.read (Elt Ideal) (arg12.view.writes (Elt Ideal) (harg12.unread xs0) L))
      (arg13.view.read (Elt Ideal) (arg13.view.writes (Elt Ideal) (harg13.unread xs1) LH)) := by
  subst hL hLH
  simp only [stepA_eq, stepH_eq, readAt_planeA, readAt_planeH]
  refine ⟨planeA_write _ _ _ _ _, planeH_write _ _ _ _ _, fun j hj => ?_, fun j hj => ?_⟩
  · rw [planeA_other _ _ _ _ _ _ hj, View.writes_nil, harg12.read_unread]
  · rw [planeH_other _ _ _ _ _ _ hj, View.writes_nil, harg13.read_unread]

theorem steps_A (hc0 : cond0_0 i) (hc1 : ¬cond0_1 i) :
    Steps i xs0 xs1 (k0_pay97 (k0_pay95 (F := Ideal)) x4 x2) (k0_pay98 (k0_pay96 (F := Ideal)) x5 x3)
      (arg12.view.read (Elt Ideal) (arg12.view.writes (Elt Ideal) (harg12.unread xs0) (kernelRun0_A c i arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.1))
      (arg13.view.read (Elt Ideal) (arg13.view.writes (Elt Ideal) (harg13.unread xs1) (kernelRun0_A c i arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.1)) :=
  steps_first (i := i) (arg5 := arg5) (harg5 := harg5) (arg6 := arg6) (harg6 := harg6) (arg7 := arg7) (harg7 := harg7) (arg8 := arg8) (harg8 := harg8) (arg12 := arg12) (harg12 := harg12) (arg13 := arg13) (harg13 := harg13)
    (x2 := x2) (x3 := x3) (x4 := x4) (x5 := x5) (xs0 := xs0) (xs1 := xs1) (L := _) (LH := _) (lists_A (hc0 := hc0) (hc1 := hc1) ..) (listsH_A (hc0 := hc0) (hc1 := hc1) ..)

theorem steps_B (hc0 : ¬cond0_0 i) (hc1 : ¬cond0_1 i) :
    Steps i xs0 xs1 (k0_pay97 (planeA xs0 (i 2)) x4 x2) (k0_pay98 (planeH xs1 (i 2)) x5 x3)
      (arg12.view.read (Elt Ideal) (arg12.view.writes (Elt Ideal) (harg12.unread xs0) (kernelRun0_B c i arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.1))
      (arg13.view.read (Elt Ideal) (arg13.view.writes (Elt Ideal) (harg13.unread xs1) (kernelRun0_B c i arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.1)) :=
  steps_next (i := i) (arg5 := arg5) (harg5 := harg5) (arg6 := arg6) (harg6 := harg6) (arg7 := arg7) (harg7 := harg7) (arg8 := arg8) (harg8 := harg8) (arg12 := arg12) (harg12 := harg12) (arg13 := arg13) (harg13 := harg13)
    (x2 := x2) (x3 := x3) (x4 := x4) (x5 := x5) (xs0 := xs0) (xs1 := xs1) (L := _) (LH := _) (lists_B (hc0 := hc0) (hc1 := hc1) ..) (listsH_B (hc0 := hc0) (hc1 := hc1) ..)

theorem steps_C (hc0 : ¬cond0_0 i) (hc1 : cond0_1 i) :
    Steps i xs0 xs1 (k0_pay97 (planeA xs0 (i 2)) x4 x2) (k0_pay98 (planeH xs1 (i 2)) x5 x3)
      (arg12.view.read (Elt Ideal) (arg12.view.writes (Elt Ideal) (harg12.unread xs0) (kernelRun0_C c i arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.1))
      (arg13.view.read (Elt Ideal) (arg13.view.writes (Elt Ideal) (harg13.unread xs1) (kernelRun0_C c i arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.1)) :=
  steps_next (i := i) (arg5 := arg5) (harg5 := harg5) (arg6 := arg6) (harg6 := harg6) (arg7 := arg7) (harg7 := harg7) (arg8 := arg8) (harg8 := harg8) (arg12 := arg12) (harg12 := harg12) (arg13 := arg13) (harg13 := harg13)
    (x2 := x2) (x3 := x3) (x4 := x4) (x5 := x5) (xs0 := xs0) (xs1 := xs1) (L := _) (LH := _) (lists_C (hc0 := hc0) (hc1 := hc1) ..) (listsH_C (hc0 := hc0) (hc1 := hc1) ..)

end

/-- A point that starts a sum, -/
theorem inv_first (c : Dev nD) (t : Fin cfg0.N) (s0 s0' : Vec Ideal S3x3072x512 .f32) (s1 s1' : Vec Ideal S3x64x512 .f32) (hI : Inv m c t.val s0 s1)
    (h : t.val / 3 % 15 = 0)
    (hs : Steps (grid0.coords t) s0 s1 (stepAt m c t zeros).1 (stepAt m c t zeros).2 s0' s1') : Inv m c (t.val + 1) s0' s1' := by
  have e := planeAt_start m c t h
  exact inv_step m c t s0 s0' s1 s1' hI (by rw [e]; exact hs.1) (by rw [e]; exact hs.2.1) hs.2.2.1 hs.2.2.2

/-- and a point that continues one. -/
theorem inv_cont (c : Dev nD) (t : Fin cfg0.N) (s0 s0' : Vec Ideal S3x3072x512 .f32) (s1 s1' : Vec Ideal S3x64x512 .f32) (hI : Inv m c t.val s0 s1)
    (h : t.val / 3 % 15 ≠ 0)
    (hs : Steps (grid0.coords t) s0 s1 (stepAt m c t (planeA s0 (grid0.coords t 2), planeH s1 (grid0.coords t 2))).1 (stepAt m c t (planeA s0 (grid0.coords t 2), planeH s1 (grid0.coords t 2))).2 s0' s1') :
    Inv m c (t.val + 1) s0' s1' := by
  have e := planeAt_next m c t h
  obtain ⟨p0, p1⟩ := inv_own m c t s0 s1 hI h
  rw [p0, p1] at hs
  exact inv_step m c t s0 s0' s1 s1' hI (by rw [e]; exact hs.1) (by rw [e]; exact hs.2.1) hs.2.2.1 hs.2.2.2

/-- The output block after a point that ends a sum. -/
def blockAt (c : Dev nD) (t : Fin cfg0.N) : Vec Ideal S512x3072 .bf16 :=
  outVal (planeAt m c t.val).1 (k0_pay4 (iblk m c 6 t) (planeAt m c t.val).2) (k0_pay5 (F := Ideal) ((iblk m c 0 t : Vec Ideal S1 .f32) (ix1 0)) ((iblk m c 1 t : Vec Ideal S1 .f32) (ix1 0))) (iblk m c 7 t)

theorem out_C (c : Dev nD) (t : Fin cfg0.N) (s0 : Vec Ideal S3x3072x512 .f32) (s1 : Vec Ideal S3x64x512 .f32) (hI : Inv m c t.val s0 s1)
    (hc0 : ¬cond0_0 (grid0.coords t)) (hc1 : cond0_1 (grid0.coords t)) (f : (ms0_8 t).view.ty.Contents (Elt Ideal)) :
    (ms0_8 t).view.read (Elt Ideal) ((ms0_8 t).view.writes (Elt Ideal) f (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) hc0 hc1 (iblk m c 0 t) (iblk m c 1 t) (iblk m c 2 t) (iblk m c 3 t) (iblk m c 4 t) (iblk m c 5 t) (iblk m c 6 t) (iblk m c 7 t) s0 s1).1)
      = blockAt m c t := by
  have h : t.val / 3 % 15 ≠ 0 := fun h => hc0 ((hcond0_0 t).mpr h)
  obtain ⟨p0, p1⟩ := inv_own m c t s0 s1 hI h
  rw [out_read, p0, p1]
  unfold blockAt
  rw [planeAt_next m c t h]
  rfl

/-! ## The pipeline's proof data -/

/-- The region invariant before point `n`: the two accumulators at contents as `Inv` says, the generator register at some state. -/
def PhiS (c : Dev nD) (n : Nat) : sProp (MT nD τ sig Unit (Elt Ideal) ℕ (UR sig nD τ) ℕ) :=
  iprop(∃ s0, ∃ s1, ⌜Inv m c n s0 s1⌝ ∗ owns (c : Thread nD τ) scM0_0 fullShare s0 ∗ owns (c : Thread nD τ) scM0_1 fullShare s1 ∗ (∃ r, prngReg c r))

/-- The proof data of the one pipeline on core `c`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => blockAt m c t
  Φ t := PhiS m c t.val
  q _ := fullShare
  owed _ := 0

theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = blockAt m c t := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t`, -/
def bodyPre (c : Dev nD) (t : Fin cfg0.N) : sProp (MT nD τ sig Unit (Elt Ideal) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp (MT nD τ sig Unit (Elt Ideal) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

/-- An input window, live at every point, is left at its block. -/
theorem leaves_in (c : Dev nD) (t : Fin cfg0.N) :
    (dats m 0 c).leavesExact 0 t = owns (c : Thread nD τ) (ms0_0 t) fullShare (iblk m c 0 t)
    ∧ (dats m 0 c).leavesExact 1 t = owns (c : Thread nD τ) (ms0_1 t) fullShare (iblk m c 1 t)
    ∧ (dats m 0 c).leavesExact 2 t = owns (c : Thread nD τ) (ms0_2 t) fullShare (iblk m c 2 t)
    ∧ (dats m 0 c).leavesExact 3 t = owns (c : Thread nD τ) (ms0_3 t) fullShare (iblk m c 3 t)
    ∧ (dats m 0 c).leavesExact 4 t = owns (c : Thread nD τ) (ms0_4 t) fullShare (iblk m c 4 t)
    ∧ (dats m 0 c).leavesExact 5 t = owns (c : Thread nD τ) (ms0_5 t) fullShare (iblk m c 5 t)
    ∧ (dats m 0 c).leavesExact 6 t = owns (c : Thread nD τ) (ms0_6 t) fullShare (iblk m c 6 t)
    ∧ (dats m 0 c).leavesExact 7 t = owns (c : Thread nD τ) (ms0_7 t) fullShare (iblk m c 7 t) := by
  unfold Dat.leavesExact
  refine ⟨?_, ?_, ?_, ?_, ?_, ?_, ?_, ?_⟩ <;> rfl

set_option maxHeartbeats 9600000 in
/-- The body at any point: the closed forms say which case the point is in, the run applies, and the invariant passes on. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  obtain ⟨l0, l1, l2, l3, l4, l5, l6, l7⟩ := leaves_in m c t
  rw [l0, l1, l2, l3, l4, l5, l6, l7]
  unfold PhiS
  by_cases h0 : t.val / 3 % 15 = 0
  · have h1 : ¬ t.val / 3 % 15 = 14 := by omega
    rw [Dat.leavesExact_idle (dats m 0 c) 8 t (idleAt0_8 t (fun h => h1 ((hcond0_1 t).mp h))) (noFlush0_8 t (fun h => h1 ((hcond0_1 t).mp h)))]
    iintro ⟨⟨%s0, %s1, %hI, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_A c (grid0.coords t) _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) s0 s1).2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    iintro ⟨H0, H1, H2, H3, H4, H5, H6, H7, H8, HS0, HS1⟩
    isplitl [HS0 HS1 Hg]
    · iexists _; iexists _
      isplitr; swap
      · isplitl [HS0]
        · unfold owns; iexists _; isplitr
          swap; · iexact HS0
          ipureintro; rfl
        isplitl [HS1]
        · unfold owns; iexists _; isplitr
          swap; · iexact HS1
          ipureintro; rfl
        iexact Hg
      · ipureintro; exact inv_first m c t s0 _ s1 _ hI h0 (steps_A c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) s0 s1 ((hcond0_0 t).mpr h0) (fun h => h1 ((hcond0_1 t).mp h)))
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact H8
  by_cases h1 : t.val / 3 % 15 = 14
  · rw [show (dats m 0 c).leavesExact 8 t = owns (c : Thread nD τ) (ms0_8 t) fullShare ((dats m 0 c).after 8 t) from by
      unfold Dat.leavesExact; rw [liveAt0_8 t ((hcond0_1 t).mpr h1)], after0_8]
    iintro ⟨⟨%s0, %s1, %hI, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_C c (grid0.coords t) _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) s0 s1).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    iintro ⟨H0, H1, H2, H3, H4, H5, H6, H7, ⟨%e8, H8⟩, HS0, HS1⟩
    isplitl [HS0 HS1 Hg]
    · iexists _; iexists _
      isplitr; swap
      · isplitl [HS0]
        · unfold owns; iexists _; isplitr
          swap; · iexact HS0
          ipureintro; rfl
        isplitl [HS1]
        · unfold owns; iexists _; isplitr
          swap; · iexact HS1
          ipureintro; rfl
        iexact Hg
      · ipureintro; exact inv_cont m c t s0 _ s1 _ hI h0 (steps_C c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) s0 s1 (fun h => h0 ((hcond0_0 t).mp h)) ((hcond0_1 t).mpr h1))
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro; exact out_C m c t s0 s1 hI (fun h => h0 ((hcond0_0 t).mp h)) ((hcond0_1 t).mpr h1) e8
  · rw [Dat.leavesExact_idle (dats m 0 c) 8 t (idleAt0_8 t (fun h => h1 ((hcond0_1 t).mp h))) (noFlush0_8 t (fun h => h1 ((hcond0_1 t).mp h)))]
    iintro ⟨⟨%s0, %s1, %hI, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_B c (grid0.coords t) _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) s0 s1).2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    iintro ⟨H0, H1, H2, H3, H4, H5, H6, H7, H8, HS0, HS1⟩
    isplitl [HS0 HS1 Hg]
    · iexists _; iexists _
      isplitr; swap
      · isplitl [HS0]
        · unfold owns; iexists _; isplitr
          swap; · iexact HS0
          ipureintro; rfl
        isplitl [HS1]
        · unfold owns; iexists _; isplitr
          swap; · iexact HS1
          ipureintro; rfl
        iexact Hg
      · ipureintro; exact inv_cont m c t s0 _ s1 _ hI h0 (steps_B c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) s0 s1 (fun h => h0 ((hcond0_0 t).mp h)) (fun h => h1 ((hcond0_1 t).mp h)))
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact H8

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 from rfl, PhiA0_eq]
  unfold PhiS
  iintro ⟨⟨⟨%d0, HS0⟩, ⟨%d1, HS1⟩⟩, Hg⟩
  iexists d0; iexists d1
  isplitr; swap
  · isplitl [HS0]; · iexact HS0
    isplitl [HS1]; · iexact HS1
    iexact Hg
  · ipureintro; exact fun t h => absurd h (Nat.not_lt_zero t)

/-- The invariant gives the launch's own back: the accumulators' contents are forgotten. -/
theorem hout (c : Dev nD) : (dats m 0 c).Φ (Fin.last cfg0.N) ⊢ Pipeline.ΦA spec0 c := by
  rw [show (dats m 0 c).Φ (Fin.last cfg0.N) = PhiS m c cfg0.N from rfl, PhiA0_eq]
  unfold PhiS
  iintro ⟨%s0, %s1, -, HS0, HS1, Hg⟩
  isplitl [HS0 HS1]
  · isplitl [HS0]
    · iexists _; iexact HS0
    iexists _; iexact HS1
  iexact Hg

/-! ## The run and the frame -/

set_option backward.isDefEq.respectTransparency.types false in
theorem run_main_quiescent : θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Every array of the pipeline ends at what the proof data says. -/
theorem run_main : θ_run defs (onTc (τ := τ) (main (F := Ideal))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- The frame claim. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.MainIdeal.Gen

end
-- ==== Proof.MainIdeal.Sums.lean ====
/- The partial sums read at an index: each plane is the sum of the block products of the points that worked on it. -/
module

public import proofs.«01_k».proof.Proof.MainIdeal.Sound
public import Idealize.ShloMosaic.Lib.Pointwise
public import Idealize.ShloMosaic.Lib.MatmulPlain

@[expose] public section

set_option maxRecDepth 16384

noncomputable section

namespace Cert.MainIdeal.Sums

open Cert.MainIdeal Cert.MainIdeal.Gen Cert.MainIdeal.Tiles Idealize.ShloMosaic Idealize.ShloMosaic.TcCoe Idealize.SL.Sem

/-! ## The stored values at an index -/

theorem drop_unit {e : EltTy} (R C : Nat) (x : Vec Ideal (⟨3, ![1, R, C]⟩ : Shape) e) (h : (⟨3, ![1, R, C]⟩ : Shape).ShapeCasts (⟨2, ![R, C]⟩ : Shape)) (r : Fin R) (q : Fin C) :
    shapeCast (⟨2, ![R, C]⟩ : Shape) x h (ix2 r q) = x (ix3 0 r q) :=
  shapeCast_apply _ h _ _ (by
    rw [Shape.rowMajor_val_three, Shape.rowMajor_val_two]
    show (0 * R + r.val) * C + q.val = r.val * C + q.val
    rw [Nat.zero_mul, Nat.zero_add])

theorem add_unit {e : EltTy} (R C : Nat) (x : Vec Ideal (⟨2, ![R, C]⟩ : Shape) e) (h : (⟨2, ![R, C]⟩ : Shape).ShapeCasts (⟨3, ![1, R, C]⟩ : Shape)) (r : Fin R) (q : Fin C) :
    shapeCast (⟨3, ![1, R, C]⟩ : Shape) x h (ix3 0 r q) = x (ix2 r q) :=
  shapeCast_apply _ h _ _ (by
    rw [Shape.rowMajor_val_three, Shape.rowMajor_val_two]
    show r.val * C + q.val = (0 * R + r.val) * C + q.val
    rw [Nat.zero_mul, Nat.zero_add])

theorem zero_at (s : Shape) (j : s.Idx) : constant (F := Ideal) s .f32 0x00000000#32 j = (0 : EReal) := Ideal.ofBits_zero_f32

theorem pay97_apply (s : Vec Ideal S1x3072x512 .f32) (w : Vec Ideal S1x3072x1024 .bf16) (x : Vec Ideal S1024x512 .bf16) (o : Fin 3072) (q : Fin 512) :
    k0_pay97 (F := Ideal) s w x (ix3 0 o q) = (s (ix3 0 o q) + ∑ j : Fin 1024, w (ix3 0 o j) * x (ix2 j q) : EReal) := by
  unfold k0_pay97; refine (add_unit (e := .f32) 3072 512 _ _ o q).trans ?_
  refine congrArg₂ (fun a b : EReal => a + b) (drop_unit 3072 512 s _ o q) ?_
  refine (Ideal.matmul_plain_apply (M := 3072) (K := 1024) (N := 512) none _ _ _ o q).trans ?_
  rw [zero_at, zero_add]
  exact Finset.sum_congr rfl fun j _ => congrArg (fun a : EReal => a * x (ix2 j q)) (drop_unit 3072 1024 w _ o j)

theorem pay98_apply (s : Vec Ideal S1x64x512 .f32) (w : Vec Ideal S1x64x1024 .bf16) (x : Vec Ideal S1024x512 .bf16) (o : Fin 64) (q : Fin 512) :
    k0_pay98 (F := Ideal) s w x (ix3 0 o q) = (s (ix3 0 o q) + ∑ j : Fin 1024, w (ix3 0 o j) * x (ix2 j q) : EReal) := by
  unfold k0_pay98; refine (add_unit (e := .f32) 64 512 _ _ o q).trans ?_
  refine congrArg₂ (fun a b : EReal => a + b) (drop_unit 64 512 s _ o q) ?_
  refine (Ideal.matmul_plain_apply (M := 64) (K := 1024) (N := 512) none _ _ _ o q).trans ?_
  rw [zero_at, zero_add]
  exact Finset.sum_congr rfl fun j _ => congrArg (fun a : EReal => a * x (ix2 j q)) (drop_unit 64 1024 w _ o j)

theorem pay4_apply (u : Vec Ideal S3072x64 .bf16) (h : Vec Ideal S1x64x512 .f32) (o : Fin 3072) (q : Fin 512) :
    k0_pay4 (F := Ideal) u h (ix2 o q) = (∑ r : Fin 64, u (ix2 o r) * h (ix3 0 r q) : EReal) := by
  refine (Ideal.matmul_plain_apply (M := 3072) (K := 64) (N := 512) none _ _ _ o q).trans ?_
  rw [zero_at, zero_add]
  refine Finset.sum_congr rfl fun r _ => congrArg₂ (fun a b : EReal => a * b) ?_ (drop_unit 64 512 h _ r q)
  exact shapeCast_apply _ _ _ _ rfl

theorem pay95_apply (o : Fin 3072) (q : Fin 512) : k0_pay95 (F := Ideal) (ix3 0 o q) = (0 : EReal) := by
  unfold k0_pay95; exact (add_unit (e := .f32) 3072 512 _ _ o q).trans Ideal.ofBits_zero_f32

theorem pay96_apply (o : Fin 64) (q : Fin 512) : k0_pay96 (F := Ideal) (ix3 0 o q) = (0 : EReal) := by
  unfold k0_pay96; exact (add_unit (e := .f32) 64 512 _ _ o q).trans Ideal.ofBits_zero_f32

/-! ## The sums -/

variable (m : (ℓ : Loc nD τ sig) → Buf (Elt Ideal) ℓ)

/-- The blocks of the four product operands at a point, at their literal shapes. -/
abbrev wB (c : Dev nD) (t : Fin cfg0.N) : Vec Ideal S1x3072x1024 .bf16 := iblk m c 4 t
abbrev xB (c : Dev nD) (t : Fin cfg0.N) : Vec Ideal S1024x512 .bf16 := iblk m c 2 t
abbrev dB (c : Dev nD) (t : Fin cfg0.N) : Vec Ideal S1x64x1024 .bf16 := iblk m c 5 t
abbrev sB (c : Dev nD) (t : Fin cfg0.N) : Vec Ideal S1024x512 .bf16 := iblk m c 3 t

theorem sums_main (c : Dev nD) (b : Nat) (o : Fin 3072) (q : Fin 512) : ∀ k : Nat,
    (sums m c b k).1 (ix3 0 o q) = (∑ i ∈ Finset.range (k + 1), ∑ j : Fin 1024, wB m c (pt (b + 3 * i)) (ix3 0 o j) * xB m c (pt (b + 3 * i)) (ix2 j q) : EReal)
  | 0 => by
    refine (pay97_apply _ _ _ o q).trans ?_
    rw [Finset.sum_range_one]
    show k0_pay95 (F := Ideal) (ix3 0 o q) + _ = _
    rw [pay95_apply, zero_add]; rfl
  | k + 1 => by
    refine (pay97_apply _ _ _ o q).trans ?_
    rw [Finset.sum_range_succ, sums_main c b o q k]

theorem sums_low (c : Dev nD) (b : Nat) (o : Fin 64) (q : Fin 512) : ∀ k : Nat,
    (sums m c b k).2 (ix3 0 o q) = (∑ i ∈ Finset.range (k + 1), ∑ j : Fin 1024, dB m c (pt (b + 3 * i)) (ix3 0 o j) * sB m c (pt (b + 3 * i)) (ix2 j q) : EReal)
  | 0 => by
    refine (pay98_apply _ _ _ o q).trans ?_
    rw [Finset.sum_range_one]
    show k0_pay96 (F := Ideal) (ix3 0 o q) + _ = _
    rw [pay96_apply, zero_add]; rfl
  | k + 1 => by
    refine (pay98_apply _ _ _ o q).trans ?_
    rw [Finset.sum_range_succ, sums_low c b o q k]

end Cert.MainIdeal.Sums
end
-- ==== Proof.MainIdeal.RefValue.lean ====
/- The reference of the whole product, read at an index: its long sums taken tile by tile in the planes' order. -/
module

public import proofs.«01_k».proof.Proof.Gen.MainReferenceIdeal.Run
public import Idealize.ShloMosaic.Lib.Pointwise
public import Idealize.ShloMosaic.Lib.StackMember
public import Idealize.ShloMosaic.Lib.ValueIdxRank6
public import Idealize.ShloMosaic.Lib.IdealHost

@[expose] public section

set_option maxRecDepth 16384

noncomputable section

namespace Cert.MainReferenceIdeal.Read

open Cert.MainReferenceIdeal Cert.MainReferenceIdeal.Gen Idealize.ShloMosaic Idealize.ShloMosaic.TcCoe Idealize.SL.Sem Idealize.ShloMosaic.StackMember

/-- The plane row of feature `8 · lane + plane` of a tile. -/
def planeOf (j : Fin 1024) : Fin 1024 := ⟨128 * (j.val % 8) + j.val / 8, by have := j.isLt; omega⟩

/-- The feature of a plane row of a tile. -/
def featOf (j : Fin 1024) : Fin 1024 := ⟨8 * (j.val % 128) + j.val / 128, by have := j.isLt; omega⟩

/-- The two orders of a tile's features, as one permutation. -/
def order : Fin 1024 ≃ Fin 1024 where
  toFun := planeOf
  invFun := featOf
  left_inv j := by have := j.isLt; apply Fin.ext; simp only [planeOf, featOf]; omega
  right_inv j := by have := j.isLt; apply Fin.ext; simp only [planeOf, featOf]; omega

/-- Row `j` of tile `t`. -/
def row (t : Fin 15) (j : Fin 1024) : Fin 15360 := ⟨1024 * t.val + j.val, by have := j.isLt; have := t.isLt; omega⟩

/-- The plane column of token `R`. -/
def col (R : Fin 4608) : Fin 4608 := ⟨256 * (R.val / 256) + 128 * (R.val % 2) + R.val % 256 / 2, by have := R.isLt; omega⟩

/-- A sum over the features, tile by tile and in the planes' order. -/
theorem sum_features (f : Fin 15360 → EReal) : ∑ d : Fin 15360, f d = ∑ t : Fin 15, ∑ j : Fin 1024, f (row t (featOf j)) := by
  rw [Fin.sum_univ_tiles 15 1024 rfl f]
  refine Finset.sum_congr rfl fun t _ => ?_
  refine Fintype.sum_equiv order _ _ fun j => ?_
  have hj := j.isLt
  have e : featOf (order j) = j := order.left_inv j
  rw [e]
  refine congrArg f (Fin.ext ?_)
  show t.val * 1024 + j.val = 1024 * t.val + j.val
  omega

/-- The planes read as rows of tokens. -/
def tokens (x : Vec Ideal S15360x4608 .bf16) : Vec Ideal S4608x15360 .bf16 :=
  shapeCast _ (transpose S18x128x2x15x128x8 [3, 5, 4, 0, 2, 1] (shapeCast _ x shapeCasts_S15360x4608_S15x8x128x18x2x128) transposes_S15x8x128x18x2x128_S18x128x2x15x128x8_3_5_4_0_2_1) shapeCasts_S18x128x2x15x128x8_S4608x15360

theorem tokens_apply (x : Vec Ideal S15360x4608 .bf16) (R : Fin 4608) (t : Fin 15) (j : Fin 1024) :
    tokens x (ix2 R (row t (featOf j))) = x (ix2 (row t j) (col R)) := by
  have hj := j.isLt
  have ht := t.isLt
  have hR := R.isLt
  unfold tokens
  rw [shapeCast_apply _ shapeCasts_S18x128x2x15x128x8_S4608x15360 _
    (ix6 (⟨R.val / 256, by omega⟩ : Fin 18) (⟨R.val % 256 / 2, by omega⟩ : Fin 128) (⟨R.val % 2, by omega⟩ : Fin 2) t (⟨j.val % 128, by omega⟩ : Fin 128) (⟨j.val / 128, by omega⟩ : Fin 8) : S18x128x2x15x128x8.Idx) (by
      rw [Shape.rowMajor_val_six, Shape.rowMajor_val_two]
      show ((((R.val / 256 * 128 + R.val % 256 / 2) * 2 + R.val % 2) * 15 + t.val) * 128 + j.val % 128) * 8 + j.val / 128 = R.val * 15360 + (1024 * t.val + (8 * (j.val % 128) + j.val / 128))
      omega)]
  rw [transpose_apply [3, 5, 4, 0, 2, 1] _ transposes_S15x8x128x18x2x128_S18x128x2x15x128x8_3_5_4_0_2_1 _
    (ix6 t (⟨j.val / 128, by omega⟩ : Fin 8) (⟨j.val % 128, by omega⟩ : Fin 128) (⟨R.val / 256, by omega⟩ : Fin 18) (⟨R.val % 2, by omega⟩ : Fin 2) (⟨R.val % 256 / 2, by omega⟩ : Fin 128) : S15x8x128x18x2x128.Idx) (by
      intro b
      match b with
      | ⟨0, _⟩ => rfl
      | ⟨1, _⟩ => rfl
      | ⟨2, _⟩ => rfl
      | ⟨3, _⟩ => rfl
      | ⟨4, _⟩ => rfl
      | ⟨5, _⟩ => rfl)]
  exact shapeCast_apply _ shapeCasts_S15360x4608_S15x8x128x18x2x128 _ _ (by
      rw [Shape.rowMajor_val_six, Shape.rowMajor_val_two]
      show (1024 * t.val + j.val) * 4608 + (256 * (R.val / 256) + 128 * (R.val % 2) + R.val % 256 / 2) = ((((t.val * 8 + j.val / 128) * 128 + j.val % 128) * 18 + R.val / 256) * 2 + R.val % 2) * 128 + R.val % 256 / 2
      omega)

/-- The weight planes read as a matrix. -/
def weights (w : Vec Ideal S15x3072x1024 .bf16) : Vec Ideal S15360x3072 .bf16 :=
  shapeCast _ (transpose S15x128x8x3072 [0, 3, 2, 1] (shapeCast _ w shapeCasts_S15x3072x1024_S15x3072x8x128) transposes_S15x3072x8x128_S15x128x8x3072_0_3_2_1) shapeCasts_S15x128x8x3072_S15360x3072

theorem weights_apply (w : Vec Ideal S15x3072x1024 .bf16) (O : Fin 3072) (t : Fin 15) (j : Fin 1024) :
    weights w (ix2 (row t (featOf j)) O) = w (ix3 t O j) := by
  have hj := j.isLt
  have ht := t.isLt
  have hO := O.isLt
  unfold weights
  rw [shapeCast_apply _ shapeCasts_S15x128x8x3072_S15360x3072 _
    (ix4 t (⟨j.val % 128, by omega⟩ : Fin 128) (⟨j.val / 128, by omega⟩ : Fin 8) O : S15x128x8x3072.Idx) (by
      rw [Shape.rowMajor_val_four, Shape.rowMajor_val_two]
      show ((t.val * 128 + j.val % 128) * 8 + j.val / 128) * 3072 + O.val = (1024 * t.val + (8 * (j.val % 128) + j.val / 128)) * 3072 + O.val
      omega)]
  rw [transpose_apply [0, 3, 2, 1] _ transposes_S15x3072x8x128_S15x128x8x3072_0_3_2_1 _
    (ix4 t O (⟨j.val / 128, by omega⟩ : Fin 8) (⟨j.val % 128, by omega⟩ : Fin 128) : S15x3072x8x128.Idx) (by
      intro b
      match b with
      | ⟨0, _⟩ => rfl
      | ⟨1, _⟩ => rfl
      | ⟨2, _⟩ => rfl
      | ⟨3, _⟩ => rfl)]
  exact shapeCast_apply _ shapeCasts_S15x3072x1024_S15x3072x8x128 _ _ (by
      rw [Shape.rowMajor_val_four, Shape.rowMajor_val_three]
      show (t.val * 3072 + O.val) * 1024 + j.val = ((t.val * 3072 + O.val) * 8 + j.val / 128) * 128 + j.val % 128
      omega)

/-- THE REFERENCE's array of its argument arrays. -/
def result (a0 a1 : Vec Ideal S_ .f32) (a2 a3 : Vec Ideal S15360x4608 .bf16) (a4 : Vec Ideal S15x3072x1024 .bf16) (a5 : Vec Ideal S15360x64 .bf16)
    (a6 : Vec Ideal S64x3072 .bf16) (a7 : Vec Ideal S3072 .f32) : FVec Ideal S4608x3072 .bf16 :=
  truncf .bf16 (addf (addf (mulf (Host.dotGeneral (F := Ideal) (φ₁ := .bf16) (φ₂ := .bf16) dot_S4608x15360_S15360x3072_S4608x3072_1_0_0_1_n_n none (tokens a2 : FVec Ideal S4608x15360 .bf16) (weights a4 : FVec Ideal S15360x3072 .bf16)) (broadcastInDim S4608x3072 ![] bcast_S_S4608x3072 (mulf a0 a1)))
    (Host.dotGeneral (F := Ideal) (φ₁ := .bf16) (φ₂ := .bf16) dot_S4608x64_S64x3072_S4608x3072_1_0_0_1_n_n none (truncf .bf16 (Host.dotGeneral (F := Ideal) (φ₁ := .bf16) (φ₂ := .bf16) dot_S4608x15360_S15360x64_S4608x64_1_0_0_1_n_n none (tokens a3 : FVec Ideal S4608x15360 .bf16) a5) bitsLt_bf16_f32) a6))
    (broadcastInDim S4608x3072 ![0, 1] bcast_S1x3072_S4608x3072_0_1 (broadcastInDim S1x3072 ![1] bcast_S3072_S1x3072_1 a7))) bitsLt_bf16_f32

theorem main_dot (A : FVec Ideal S4608x15360 .bf16) (B : FVec Ideal S15360x3072 .bf16) (R : Fin 4608) (O : Fin 3072) :
    Host.dotGeneral (F := Ideal) (φ₁ := .bf16) (φ₂ := .bf16) dot_S4608x15360_S15360x3072_S4608x3072_1_0_0_1_n_n none A B (ix2 R O) = ∑ d : Fin 15360, A (ix2 R d) * B (ix2 d O) :=
  dotGeneral_plain_apply (m := 4608) (k := 15360) (n := 3072) none A B R O

theorem down_dot (A : FVec Ideal S4608x15360 .bf16) (B : FVec Ideal S15360x64 .bf16) (R : Fin 4608) (r : Fin 64) :
    Host.dotGeneral (F := Ideal) (φ₁ := .bf16) (φ₂ := .bf16) dot_S4608x15360_S15360x64_S4608x64_1_0_0_1_n_n none A B (ix2 R r) = ∑ d : Fin 15360, A (ix2 R d) * B (ix2 d r) :=
  dotGeneral_plain_apply (m := 4608) (k := 15360) (n := 64) none A B R r

theorem up_dot (A : FVec Ideal S4608x64 .bf16) (B : FVec Ideal S64x3072 .bf16) (R : Fin 4608) (O : Fin 3072) :
    Host.dotGeneral (F := Ideal) (φ₁ := .bf16) (φ₂ := .bf16) dot_S4608x64_S64x3072_S4608x3072_1_0_0_1_n_n none A B (ix2 R O) = ∑ r : Fin 64, A (ix2 R r) * B (ix2 r O) :=
  dotGeneral_plain_apply (m := 4608) (k := 64) (n := 3072) none A B R O

theorem scale_bcast (s : Vec Ideal S_ .f32) (R : Fin 4608) (O : Fin 3072) : broadcastInDim S4608x3072 ![] bcast_S_S4608x3072 s (ix2 R O) = s ix0 :=
  broadcastInDim_apply _ _ _ _ _ (fun a => a.elim0)

theorem bias_bcast (b : Vec Ideal S3072 .f32) (R : Fin 4608) (O : Fin 3072) :
    broadcastInDim S4608x3072 ![0, 1] bcast_S1x3072_S4608x3072_0_1 (broadcastInDim S1x3072 ![1] bcast_S3072_S1x3072_1 b) (ix2 R O) = b (ix1 O) := by
  rw [broadcastInDim_apply ![0, 1] bcast_S1x3072_S4608x3072_0_1 _ (ix2 R O) (ix2 (0 : Fin 1) O : S1x3072.Idx) (by
      intro a
      match a with
      | ⟨0, _⟩ => rfl
      | ⟨1, _⟩ => rfl)]
  exact broadcastInDim_apply ![1] bcast_S3072_S1x3072_1 b (ix2 (0 : Fin 1) O : S1x3072.Idx) (ix1 O : S3072.Idx) (by
      intro a
      match a with
      | ⟨0, _⟩ => rfl)

/-- THE REFERENCE at an index. -/
theorem result_apply (a0 a1 : Vec Ideal S_ .f32) (a2 a3 : Vec Ideal S15360x4608 .bf16) (a4 : Vec Ideal S15x3072x1024 .bf16) (a5 : Vec Ideal S15360x64 .bf16)
    (a6 : Vec Ideal S64x3072 .bf16) (a7 : Vec Ideal S3072 .f32) (R : Fin 4608) (O : Fin 3072) :
    result a0 a1 a2 a3 a4 a5 a6 a7 (ix2 R O)
      = (∑ t : Fin 15, ∑ j : Fin 1024, a4 (ix3 t O j) * a2 (ix2 (row t j) (col R)) : EReal) * (a0 ix0 * a1 ix0)
        + (∑ r : Fin 64, a6 (ix2 r O) * ∑ t : Fin 15, ∑ j : Fin 1024, a5 (ix2 (row t (featOf j)) r) * a3 (ix2 (row t j) (col R)))
        + a7 (ix1 O) := by
  show Host.dotGeneral (F := Ideal) (φ₁ := .bf16) (φ₂ := .bf16) dot_S4608x15360_S15360x3072_S4608x3072_1_0_0_1_n_n none (tokens a2 : FVec Ideal S4608x15360 .bf16) (weights a4 : FVec Ideal S15360x3072 .bf16) (ix2 R O) * broadcastInDim S4608x3072 ![] bcast_S_S4608x3072 (mulf a0 a1) (ix2 R O)
    + Host.dotGeneral (F := Ideal) (φ₁ := .bf16) (φ₂ := .bf16) dot_S4608x64_S64x3072_S4608x3072_1_0_0_1_n_n none (truncf .bf16 (Host.dotGeneral (F := Ideal) (φ₁ := .bf16) (φ₂ := .bf16) dot_S4608x15360_S15360x64_S4608x64_1_0_0_1_n_n none (tokens a3 : FVec Ideal S4608x15360 .bf16) a5) bitsLt_bf16_f32 : FVec Ideal S4608x64 .bf16) a6 (ix2 R O)
    + broadcastInDim S4608x3072 ![0, 1] bcast_S1x3072_S4608x3072_0_1 (broadcastInDim S1x3072 ![1] bcast_S3072_S1x3072_1 a7) (ix2 R O) = _
  rw [bias_bcast, scale_bcast, main_dot, up_dot, sum_features]
  have hh : ∀ r : Fin 64, (truncf .bf16 (Host.dotGeneral (F := Ideal) (φ₁ := .bf16) (φ₂ := .bf16) dot_S4608x15360_S15360x64_S4608x64_1_0_0_1_n_n none (tokens a3 : FVec Ideal S4608x15360 .bf16) a5) bitsLt_bf16_f32 : FVec Ideal S4608x64 .bf16) (ix2 R r)
      = (∑ t : Fin 15, ∑ j : Fin 1024, a5 (ix2 (row t (featOf j)) r) * a3 (ix2 (row t j) (col R)) : EReal) := fun r => by
    refine (down_dot _ _ R r).trans ?_
    rw [sum_features]
    refine Finset.sum_congr rfl fun t _ => Finset.sum_congr rfl fun j _ => ?_
    rw [tokens_apply]; exact mul_comm _ _
  refine congrArg (· + a7 (ix1 O)) (congrArg₂ (· + ·) (congrArg (· * (a0 ix0 * a1 ix0)) ?_) ?_)
  · refine Finset.sum_congr rfl fun t _ => Finset.sum_congr rfl fun j _ => ?_
    rw [tokens_apply, weights_apply]; exact mul_comm _ _
  · refine Finset.sum_congr rfl fun r _ => ?_
    rw [hh]; exact mul_comm _ _

end Cert.MainReferenceIdeal.Read
end
-- ==== Proof.MainIdeal.Value.lean ====
/- The whole product's result array is the reference's: the two formulas agree at every index. -/
module

public import proofs.«01_k».proof.Proof.MainIdeal.Sums
public import proofs.«01_k».proof.Proof.MainIdeal.RefValue
public import Idealize.ShloMosaic.Lib.Pipeline.ValueKit

@[expose] public section

set_option maxRecDepth 16384

noncomputable section

namespace Cert.MainIdeal.Final

open Cert.MainIdeal Cert.MainIdeal.Gen Cert.MainIdeal.Tiles Cert.MainIdeal.Sums Idealize.ShloMosaic Idealize.ShloMosaic.TcCoe Idealize.SL.Sem
open Idealize.ShloMosaic.Pipeline (Dat)
open Cert.MainReferenceIdeal.Read (row col featOf result result_apply)

variable (m : (ℓ : Loc nD τ sig) → Buf (Elt Ideal) ℓ)

theorem idx_in : ∀ t : Fin cfg0.N, win0_0.index t = ![0] ∧ win0_1.index t = ![0] ∧ win0_2.index t = ![t.val / 3 % 15, 3 * (t.val / 45) + t.val % 3]
    ∧ win0_3.index t = ![t.val / 3 % 15, 3 * (t.val / 45) + t.val % 3] ∧ win0_4.index t = ![t.val / 3 % 15, 0, 0] ∧ win0_5.index t = ![t.val / 3 % 15, 0, 0]
    ∧ win0_6.index t = ![0, 0] ∧ win0_7.index t = ![0, 0] :=
  (by decide +kernel : ∀ t : Fin grid0.N, _)

theorem idx_out : ∀ t : Fin cfg0.N, t.val / 3 % 15 = 14 → win0_8.index t = ![3 * (t.val / 45) + t.val % 3, 0] :=
  (by decide +kernel : ∀ t : Fin grid0.N, _)

/-! ## The blocks of the operands at a point -/

section
variable (c : Dev nD)

/-- The argument arrays. -/
abbrev a0 : Vec Ideal S_ .f32 := m ((c : Thread nD τ).loc main_arg0)
abbrev a1 : Vec Ideal S_ .f32 := m ((c : Thread nD τ).loc main_arg1)
abbrev a2 : Vec Ideal S15360x4608 .bf16 := m ((c : Thread nD τ).loc main_arg2)
abbrev a3 : Vec Ideal S15360x4608 .bf16 := m ((c : Thread nD τ).loc main_arg3)
abbrev a4 : Vec Ideal S15x3072x1024 .bf16 := m ((c : Thread nD τ).loc main_arg4)
abbrev a5 : Vec Ideal S15360x64 .bf16 := m ((c : Thread nD τ).loc main_arg5)
abbrev a6 : Vec Ideal S64x3072 .bf16 := m ((c : Thread nD τ).loc main_arg6)
abbrev a7 : Vec Ideal S3072 .f32 := m ((c : Thread nD τ).loc main_arg7)

theorem x_blk (t : Fin cfg0.N) (k : Fin 15) (hk : k.val = t.val / 3 % 15) (j : Fin 1024) (q : Fin 512) (z : Fin 4608) (hz : z.val = 512 * (3 * (t.val / 45) + t.val % 3) + q.val) :
    xB m c t (ix2 j q) = a2 m c (ix2 (row k j) z) := by
  have hi := idx_in t
  have hr : (row k j).val = 1024 * k.val + j.val := rfl
  blk_ext [iblk, V, hi]

theorem s_blk (t : Fin cfg0.N) (k : Fin 15) (hk : k.val = t.val / 3 % 15) (j : Fin 1024) (q : Fin 512) (z : Fin 4608) (hz : z.val = 512 * (3 * (t.val / 45) + t.val % 3) + q.val) :
    sB m c t (ix2 j q) = a3 m c (ix2 (row k j) z) := by
  have hi := idx_in t
  have hr : (row k j).val = 1024 * k.val + j.val := rfl
  blk_ext [iblk, V, hi]

theorem w_blk (t : Fin cfg0.N) (k : Fin 15) (hk : k.val = t.val / 3 % 15) (o : Fin 3072) (j : Fin 1024) :
    wB m c t (ix3 0 o j) = a4 m c (ix3 k o j) := by
  have hi := idx_in t
  blk_ext [iblk, V, hi]

/-- The down factor's planes, from its rows. -/
theorem planes_apply (x : Vec Ideal S15360x64 .bf16) (k : Fin 15) (r : Fin 64) (j : Fin 1024) :
    shapeCast S15x64x1024 (transpose S15x64x8x128 [0, 3, 2, 1] (shapeCast S15x128x8x64 x shapeCasts_S15360x64_S15x128x8x64) transposes_S15x128x8x64_S15x64x8x128_0_3_2_1) shapeCasts_S15x64x8x128_S15x64x1024 (ix3 k r j)
      = x (ix2 (row k (featOf j)) r) := by
  have hj := j.isLt
  rw [shapeCast_apply _ shapeCasts_S15x64x8x128_S15x64x1024 _ (ix4 k r (⟨j.val / 128, by omega⟩ : Fin 8) (⟨j.val % 128, by omega⟩ : Fin 128) : S15x64x8x128.Idx) (by
      rw [Shape.rowMajor_val_four, Shape.rowMajor_val_three]
      show ((k.val * 64 + r.val) * 8 + j.val / 128) * 128 + j.val % 128 = (k.val * 64 + r.val) * 1024 + j.val
      omega)]
  rw [transpose_apply [0, 3, 2, 1] _ transposes_S15x128x8x64_S15x64x8x128_0_3_2_1 _ (ix4 k (⟨j.val % 128, by omega⟩ : Fin 128) (⟨j.val / 128, by omega⟩ : Fin 8) r : S15x128x8x64.Idx) (by
      intro b
      match b with
      | ⟨0, _⟩ => rfl
      | ⟨1, _⟩ => rfl
      | ⟨2, _⟩ => rfl
      | ⟨3, _⟩ => rfl)]
  exact shapeCast_apply _ shapeCasts_S15360x64_S15x128x8x64 _ _ (by
      rw [Shape.rowMajor_val_four, Shape.rowMajor_val_two]
      show (1024 * k.val + (8 * (j.val % 128) + j.val / 128)) * 64 + r.val = ((k.val * 128 + j.val % 128) * 8 + j.val / 128) * 64 + r.val
      omega)

theorem d_blk (t : Fin cfg0.N) (k : Fin 15) (hk : k.val = t.val / 3 % 15) (r : Fin 64) (j : Fin 1024) :
    dB m c t (ix3 0 r j) = a5 m c (ix2 (row k (featOf j)) r) := by
  have hi := idx_in t
  have e : dB m c t (ix3 0 r j) = V m c main_v2 (ix3 k r j) := by blk_ext [iblk, hi]
  rw [e]
  have e2 : V m c main_v2 = shapeCast S15x64x1024 (transpose S15x64x8x128 [0, 3, 2, 1] (shapeCast S15x128x8x64 (a5 m c) shapeCasts_S15360x64_S15x128x8x64) transposes_S15x128x8x64_S15x64x8x128_0_3_2_1) shapeCasts_S15x64x8x128_S15x64x1024 := by
    entry_read
    rfl
  rw [e2]
  exact planes_apply _ k r j

theorem u_blk (t : Fin cfg0.N) (o : Fin 3072) (r : Fin 64) : (iblk m c 6 t : Vec Ideal S3072x64 .bf16) (ix2 o r) = a6 m c (ix2 r o) := by
  have hi := idx_in t
  have e : (iblk m c 6 t : Vec Ideal S3072x64 .bf16) (ix2 o r) = V m c main_v5 (ix2 o r) := by blk_ext [iblk, hi]
  rw [e]
  have e2 : V m c main_v5 = transpose S3072x64 [1, 0] (a6 m c) transposes_S64x3072_S3072x64_1_0 := by
    entry_read
    rfl
  rw [e2]
  exact transpose_apply [1, 0] _ transposes_S64x3072_S3072x64_1_0 _ _ (by
      intro b
      match b with
      | ⟨0, _⟩ => rfl
      | ⟨1, _⟩ => rfl)

theorem b_blk (t : Fin cfg0.N) (o : Fin 3072) : (iblk m c 7 t : Vec Ideal S3072x128 .f32) (ix2 o 0) = a7 m c (ix1 o) := by
  have hi := idx_in t
  have e : (iblk m c 7 t : Vec Ideal S3072x128 .f32) (ix2 o 0) = V m c main_v7 (ix2 o 0) := by blk_ext [iblk, hi]
  rw [e]
  entry_read
  pointwise

theorem g_blk (t : Fin cfg0.N) : (iblk m c 0 t : Vec Ideal S1 .f32) (ix1 0) = a0 m c ix0 := by
  have hi := idx_in t
  have e : (iblk m c 0 t : Vec Ideal S1 .f32) (ix1 0) = V m c main_v3 (ix1 0) := by blk_ext [iblk, hi]
  rw [e]
  entry_read
  pointwise

theorem gw_blk (t : Fin cfg0.N) : (iblk m c 1 t : Vec Ideal S1 .f32) (ix1 0) = a1 m c ix0 := by
  have hi := idx_in t
  have e : (iblk m c 1 t : Vec Ideal S1 .f32) (ix1 0) = V m c main_v4 (ix1 0) := by blk_ext [iblk, hi]
  rw [e]
  entry_read
  pointwise
end

/-! ## The result array -/

/-- The reference's array of the argument arrays. -/
abbrev target (c : Dev nD) : Vec Ideal S4608x3072 .bf16 :=
  result (a0 m c) (a1 m c) (a2 m c) (a3 m c) (a4 m c) (a5 m c) (a6 m c) (a7 m c)

/-- A sum over the fifteen steps that end at point `t`, tile by tile. -/
theorem steps_sum (t : Fin cfg0.N) (ht : t.val / 3 % 15 = 14) (f : Fin cfg0.N → EReal) (g : Fin 15 → EReal)
    (h : ∀ (k : Fin 15) (s : Fin cfg0.N), k.val = s.val / 3 % 15 → s.val / 45 = t.val / 45 → s.val % 3 = t.val % 3 → f s = g k) :
    ∑ i ∈ Finset.range (14 + 1), f (pt (t.val - 3 * 14 + 3 * i)) = ∑ k : Fin 15, g k := by
  have hN : t.val < 135 := lt_of_lt_of_eq t.isLt (show cfg0.N = 135 from N_0)
  rw [Finset.sum_range]
  refine Finset.sum_congr rfl fun k _ => ?_
  have hk := k.isLt
  have e : (pt (t.val - 3 * 14 + 3 * k.val)).val = t.val - 3 * 14 + 3 * k.val := Nat.mod_eq_of_lt (by omega)
  exact h k _ (by omega) (by omega) (by omega)

theorem main_at (c : Dev nD) (t : Fin cfg0.N) (ht : t.val / 3 % 15 = 14) (o : Fin 3072) (q : Fin 512) (z : Fin 4608)
    (hz : z.val = 512 * (3 * (t.val / 45) + t.val % 3) + q.val) :
    (planeAt m c t.val).1 (ix3 0 o q) = (∑ k : Fin 15, ∑ j : Fin 1024, a4 m c (ix3 k o j) * a2 m c (ix2 (row k j) z) : EReal) := by
  unfold planeAt
  rw [ht, sums_main]
  exact steps_sum t ht (fun s => ∑ j : Fin 1024, wB m c s (ix3 0 o j) * xB m c s (ix2 j q)) _ fun k s hk h1 h2 =>
    Finset.sum_congr rfl fun j _ => by rw [w_blk m c s k hk, x_blk m c s k hk j q z (by rw [hz, h1, h2])]

theorem low_at (c : Dev nD) (t : Fin cfg0.N) (ht : t.val / 3 % 15 = 14) (r : Fin 64) (q : Fin 512) (z : Fin 4608)
    (hz : z.val = 512 * (3 * (t.val / 45) + t.val % 3) + q.val) :
    (planeAt m c t.val).2 (ix3 0 r q) = (∑ k : Fin 15, ∑ j : Fin 1024, a5 m c (ix2 (row k (featOf j)) r) * a3 m c (ix2 (row k j) z) : EReal) := by
  unfold planeAt
  rw [ht, sums_low]
  exact steps_sum t ht (fun s => ∑ j : Fin 1024, dB m c s (ix3 0 r j) * sB m c s (ix2 j q)) _ fun k s hk h1 h2 =>
    Finset.sum_congr rfl fun j _ => by rw [d_blk m c s k hk, s_blk m c s k hk j q z (by rw [hz, h1, h2])]

/-- A point's two global scales and its bias rows, at their literal shapes. -/
abbrev gB (c : Dev nD) (t : Fin cfg0.N) : Vec Ideal S1 .f32 := iblk m c 0 t
abbrev gwB (c : Dev nD) (t : Fin cfg0.N) : Vec Ideal S1 .f32 := iblk m c 1 t
abbrev bB (c : Dev nD) (t : Fin cfg0.N) : Vec Ideal S3072x128 .f32 := iblk m c 7 t
abbrev uB (c : Dev nD) (t : Fin cfg0.N) : Vec Ideal S3072x64 .bf16 := iblk m c 6 t

/-- The block a point leaves is the reference's block. -/
theorem point (c : Dev nD) (t : Fin cfg0.N) (ht : t.val / 3 % 15 = 14) (y : Fin 512) (o : Fin 3072) (R : Fin 4608)
    (hR : R.val = 512 * (3 * (t.val / 45) + t.val % 3) + y.val) : blockAt m c t (ix2 y o) = target m c (ix2 R o) := by
  have hz : (col R).val = 512 * (3 * (t.val / 45) + t.val % 3) + (colOf y).val := by
    have hy := y.isLt
    simp only [col, colOf, hR]
    omega
  refine Eq.trans ?_ (result_apply _ _ _ _ _ _ _ _ R o).symm
  show ((planeAt m c t.val).1 (ix3 0 o (colOf y)) * (gB m c t (ix1 0) * gwB m c t (ix1 0))
    + k0_pay4 (F := Ideal) (uB m c t) (planeAt m c t.val).2 (ix2 o (colOf y)) + bB m c t (ix2 o 0) : EReal) = _
  rw [main_at m c t ht o (colOf y) (col R) hz, pay4_apply, show gB m c t (ix1 0) = a0 m c ix0 from g_blk m c t,
    show gwB m c t (ix1 0) = a1 m c ix0 from gw_blk m c t, show bB m c t (ix2 o 0) = a7 m c (ix1 o) from b_blk m c t o]
  refine congrArg₂ (fun a b : EReal => a + b) (congrArg₂ (fun a b : EReal => a + b) rfl ?_) rfl
  exact Finset.sum_congr rfl fun r _ => by rw [show uB m c t (ix2 o r) = a6 m c (ix2 r o) from u_blk m c t o r, low_at m c t ht r (colOf y) (col R) hz]

theorem final (c : Dev nD) : (dats m 0 c).arrAt 8 (cfgs 0).N = target m c := by
  refine (dats m 0 c).arrAt_eq_of_covers 8 _ (by decide +kernel) fun t hf y => ?_
  have ht : t.val / 3 % 15 = 14 := by
    by_contra h
    exact absurd hf (by rw [noFlush0_8 t (fun h' => h ((hcond0_1 t).mp h'))]; decide)
  have hN : t.val < 135 := lt_of_lt_of_eq t.isLt (show cfg0.N = 135 from N_0)
  have hi := idx_out t ht
  have hy : (y 0).val < 512 := (y 0).isLt
  blk_simp
  rw [after0_8]
  refine (congrArg (blockAt m c t) (eq_ix2 y)).trans ((point m c t ht (y 0) (y 1) ⟨512 * (3 * (t.val / 45) + t.val % 3) + (y 0).val, by omega⟩ rfl).trans ?_)
  blk_ext [hi]

/-- The run with the result array named and the arguments unchanged. -/
theorem run_value (ρ : Dev nD → PrngReg) : θ_run defs (onTc (τ := τ) (main (F := Ideal))) ⟨m, fun _ => 0, ρ⟩ fun r => ∀ c : Dev nD,
      r.2.mem ((c.tc : Thread nD τ).loc main_v8) = target m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨((h.1 c).1 8).trans (final m c), h.2 c⟩) (θ_run_and (run_main m ρ) (unchanged m ρ))

end Cert.MainIdeal.Final
end
-- ==== Proof.Pack.Bits.lean ====
/- Bytes of 32-bit words: the two ways a pair of words is merged by halves, and the clearing of negative zeros. -/
module

public import Idealize.ShloMosaic.Lib.BitcastFour
public import Idealize.ShloMosaic.Lib.Pointwise

@[expose] public section

namespace Cert.Pack.Bits

open Idealize.ShloMosaic

/-- Byte `q` of a word. -/
def byteAt (w : BitVec 32) (q : Nat) : BitVec 8 := w.extractLsb' (8 * q) 8

/-- Half `e` of two words side by side: the first word's half below, the second's above. -/
def merge (e : Nat) (a b : BitVec 32) : BitVec 32 :=
  match e with
  | 0 => b.setWidth 16 ++ a.setWidth 16
  | _ + 1 => (a >>> 16) ||| (b &&& 4294901760#32)

theorem mask_hi (i : Nat) : (4294901760#32).getLsbD i = decide (i < 32 ∧ 16 ≤ i) := by
  by_cases h : i < 32
  · interval_cases i <;> rfl
  · rw [BitVec.getLsbD_of_ge _ _ (by omega)]; simp [h]

/-- Byte `q` of the merged word: bytes 0 and 1 are the first word's, 2 and 3 the second's, from half `e`. -/
theorem byteAt_merge (e q : Nat) (he : e < 2) (hq : q < 4) (a b : BitVec 32) :
    byteAt (merge e a b) q = byteAt (if q < 2 then a else b) (2 * e + q % 2) := by
  apply BitVec.eq_of_getLsbD_eq
  intro i hi
  unfold byteAt
  rw [BitVec.getLsbD_extractLsb', BitVec.getLsbD_extractLsb']
  simp only [hi, decide_true, Bool.true_and]
  have hb (k : Nat) (h : 32 ≤ k) (w : BitVec 32) : w.getLsbD k = false := BitVec.getLsbD_of_ge _ _ h
  interval_cases e
  · show (b.setWidth 16 ++ a.setWidth 16).getLsbD (8 * q + i) = _
    simp only [BitVec.getLsbD_append, BitVec.getLsbD_setWidth]
    interval_cases q
    · simp [show i < 16 by omega]
    · simp [show 8 + i < 16 by omega]
    · simp [show ¬ (16 + i < 16) by omega, show 16 + i - 16 = i by omega, show i < 16 by omega]
    · simp [show ¬ (24 + i < 16) by omega, show 24 + i - 16 = 8 + i by omega, show 8 + i < 16 by omega]
  · show ((a >>> 16) ||| (b &&& 4294901760#32)).getLsbD (8 * q + i) = _
    simp only [BitVec.getLsbD_or, BitVec.getLsbD_and, BitVec.getLsbD_ushiftRight, mask_hi]
    interval_cases q
    · simp [show ¬ (16 ≤ i) by omega]
    · simp [show ¬ (16 ≤ 8 + i) by omega, show 16 + (8 + i) = 24 + i by omega]
    · simp [show 16 + i < 32 by omega, hb (16 + (16 + i)) (by omega)]
    · simp [show 24 + i < 32 by omega, show 16 ≤ 24 + i by omega, hb (16 + (24 + i)) (by omega)]

/-- A word of eight four-bit codes with every negative zero made zero: a code's sign is kept where its other bits are not all zero. -/
def clean (w : BitVec 32) : BitVec 32 := w &&& (((w &&& 2004318071#32) + 2004318071#32) ||| 2004318071#32)

/-- The same for one byte of two codes. -/
def clean8 (b : BitVec 8) : BitVec 8 := b &&& (((b &&& 0x77#8) + 0x77#8) ||| 0x77#8)

/-- A byte of a sum is the sum of the bytes when the bytes below do not carry. -/
theorem byte_add (x y : BitVec 32) (q : Nat) (hq : q < 4) (hx : ∀ k < 4, (byteAt x k).toNat ≤ 119) (hy : ∀ k < 4, (byteAt y k).toNat ≤ 119) :
    byteAt (x + y) q = byteAt x q + byteAt y q := by
  apply BitVec.eq_of_toNat_eq
  have t (w : BitVec 32) (k : Nat) : (byteAt w k).toNat = w.toNat / 2 ^ (8 * k) % 256 := by
    unfold byteAt; rw [BitVec.extractLsb'_toNat, Nat.shiftRight_eq_div_pow]
  have x0 := hx 0 (by decide); have x1 := hx 1 (by decide); have x2 := hx 2 (by decide); have x3 := hx 3 (by decide)
  have y0 := hy 0 (by decide); have y1 := hy 1 (by decide); have y2 := hy 2 (by decide); have y3 := hy 3 (by decide)
  rw [BitVec.toNat_add]
  simp only [t] at *
  rw [BitVec.toNat_add]
  have hX := x.isLt; have hY := y.isLt
  generalize x.toNat = X at *
  generalize y.toNat = Y at *
  norm_num at *
  interval_cases q <;> norm_num <;> omega

theorem byteAt_and (x y : BitVec 32) (q : Nat) : byteAt (x &&& y) q = byteAt x q &&& byteAt y q := by
  apply BitVec.eq_of_getLsbD_eq
  intro i hi
  simp [byteAt, hi]

theorem byteAt_or (x y : BitVec 32) (q : Nat) : byteAt (x ||| y) q = byteAt x q ||| byteAt y q := by
  apply BitVec.eq_of_getLsbD_eq
  intro i hi
  simp [byteAt, hi]

theorem byteAt_77 (q : Nat) (hq : q < 4) : byteAt 2004318071#32 q = 0x77#8 := by
  interval_cases q <;> rfl

/-- Clearing a word clears each of its bytes. -/
theorem byteAt_clean (w : BitVec 32) (q : Nat) (hq : q < 4) : byteAt (clean w) q = clean8 (byteAt w q) := by
  have h77 (b : BitVec 8) : (b &&& 0x77#8).toNat ≤ 119 := by
    rw [BitVec.toNat_and]; exact Nat.and_le_right
  unfold clean clean8
  rw [byteAt_and, byteAt_or, byte_add _ _ q hq, byteAt_and, byteAt_77 q hq]
  · intro k hk; rw [byteAt_and, byteAt_77 k hk]; exact h77 _
  · intro k hk; rw [byteAt_77 k hk]; decide

/-- Words read as bytes: the byte at row `r` is byte `r % 4` of the word in row `r / 4`. -/
theorem bitcast_bytes (W : (⟨2, ![64, 128]⟩ : Shape).Idx → BitVec 32) (h : (⟨2, ![64, 128]⟩ : Shape).Bitcasts 32 ⟨2, ![256, 128]⟩ 8) (r : Fin 256) (l : Fin 128) :
    bitcast ⟨2, ![256, 128]⟩ 8 W h (ix2 r l) = byteAt (W (ix2 (⟨r.val / 4, by omega⟩ : Fin 64) l)) (r.val % 4) := by
  apply BitVec.eq_of_getLsbD_eq
  intro i hi
  have hr := r.isLt
  have hrow : (⟨2, ![256, 128]⟩ : Shape).row (ix2 r l) = r.val := rfl
  rw [bitcast_getLsbD _ _ _ i hi (by decide)]
  unfold byteAt
  rw [BitVec.getLsbD_extractLsb']
  simp only [hi, decide_true, Bool.true_and]
  have e : ((⟨2, ![256, 128]⟩ : Shape).row (ix2 r l) * 8 + i) % 32 = 8 * (r.val % 4) + i := by rw [hrow]; omega
  rw [e]
  congr 2
  funext c
  match c with
  | ⟨0, _⟩ =>
    refine Fin.ext ((h.srcIdx_row _ _ _ ⟨0, Nat.zero_lt_two⟩ rfl).trans ?_)
    show ((⟨2, ![256, 128]⟩ : Shape).row (ix2 r l) * 8 + i) / 32 = r.val / 4
    rw [hrow]; omega
  | ⟨1, _⟩ => exact Fin.ext (h.srcIdx_other _ _ _ ⟨1, Nat.one_lt_two⟩ (by show ¬ 1 + 2 = 2; omega))

end Cert.Pack.Bits
end
-- ==== Proof.Pack.Pieces.lean ====
/- One grid step of the packing: its stores into the two scratches and into the output block, each list written as one function. -/
module

public import proofs.«01_k».proof.Proof.Gen.PackIdeal.Value

@[expose] public section

noncomputable section

namespace Cert.PackIdeal.Pieces

open Cert.PackIdeal Cert.PackIdeal.Gen Idealize.ShloMosaic Idealize.ShloMosaic.TcCoe Idealize.SL.Sem

variable {F : FTy → Type} [FloatOps F]

/-- Half `e` of two rows of words side by side. -/
def merge {s : Shape} : Nat → IVec s 32 → IVec s 32 → IVec s 32
  | 0, a, b => packElementwiseI16 a b
  | _ + 1, a, b => ori (shrui a (broadcast s 16#32)) (andi b (broadcast s 4294901760#32))

/-- Every negative zero made zero. -/
def clean (w : IVec S8x128 32) : IVec S8x128 32 :=
  andi w (ori (addi (andi w (broadcast S8x128 2004318071#32)) (broadcast S8x128 2004318071#32)) (broadcast S8x128 2004318071#32))

theorem load_inb (h j v : Nat) (hh : h < 2) (hj : j < 4) (hv : v < 8) :
    ∀ a, (![64 * j + 8 * v, 128 * h] : Fin 2 → Nat) a + S8x128.size a ≤ S256x256.size a := by
  intro a; fin_cases a <;> simp [S8x128, S256x256] <;> omega

theorem store_inb (e j v : Nat) (he : e < 2) (hj : j < 4) (hv : v < 8) :
    ∀ a, S8x128.size a = 0 ∨ (![72 * v + (4 * e + j), 0] : Fin 2 → Nat) a + (![9, 1] : Fin 2 → Nat) a * (S8x128.size a - 1) < S576x128.size a := by
  intro a; fin_cases a <;> simp [S8x128, S576x128] <;> omega

theorem rows_inb (j i : Nat) (hj : j < 4) (hi : i < 16) :
    ∀ a, (![9 * (16 * j + i), 0] : Fin 2 → Nat) a + S8x128.size a ≤ S576x128.size a := by
  intro a; fin_cases a <;> simp [S8x128, S576x128] <;> omega

theorem out_inb (e j : Nat) (he : e < 2) (hj : j < 4) :
    ∀ a, (![256 * e, 128 * j] : Fin 2 → Nat) a + S256x128.size a ≤ S512x512.size a := by
  intro a; fin_cases a <;> simp [S256x128, S512x512] <;> omega

section
variable (arg3 : Memref sig .tc .vmem S256x256 .i32) (harg3 : arg3.IsWhole) (x0 : Vec F S256x256 .i32)

/-- The words of plane `v`, element pair `j`, token half `h`. -/
def load (h j v : Nat) (hh : h < 2) (hj : j < 4) (hv : v < 8) : IVec S8x128 32 :=
  View.readAt (Elt F) arg3.view (Rect.unit (s := S256x256) ![64 * j + 8 * v, 128 * h] S8x128.size (load_inb h j v hh hj hv)).toLoadRect (harg3.unread x0)

/-- The store of half `e` of pair `j` of plane `v` into the first scratch. -/
def codeStore (e j v : Nat) (he : e < 2) (hj : j < 4) (hv : v < 8) : View.Piece (Elt F) S576x128 .i32 :=
  ⟨⟨(⟨![72 * v + (4 * e + j), 0], S8x128.size, ![9, 1], store_inb e j v he hj hv⟩ : LoadRect S576x128), spos_9_1⟩,
    shapeCast S8x128 (clean (merge e (load arg3 harg3 x0 0 j v (by decide) hj hv) (load arg3 harg3 x0 1 j v (by decide) hj hv))) shapeCasts_S8x128_S8x128⟩

/-- The stores of the first `n` planes into the first scratch, the last first. -/
def codeStores : (n : Nat) → n ≤ 8 → List (View.Piece (Elt F) S576x128 .i32)
  | 0, _ => []
  | v + 1, hv =>
    codeStore arg3 harg3 x0 1 3 v (by decide) (by decide) hv :: codeStore arg3 harg3 x0 0 3 v (by decide) (by decide) hv ::
    codeStore arg3 harg3 x0 1 2 v (by decide) (by decide) hv :: codeStore arg3 harg3 x0 0 2 v (by decide) (by decide) hv ::
    codeStore arg3 harg3 x0 1 1 v (by decide) (by decide) hv :: codeStore arg3 harg3 x0 0 1 v (by decide) (by decide) hv ::
    codeStore arg3 harg3 x0 1 0 v (by decide) (by decide) hv :: codeStore arg3 harg3 x0 0 0 v (by decide) (by decide) hv ::
    codeStores v (Nat.le_of_lt hv)

variable (arg5 : Memref sig .tc .vmem S576x128 .i32) (arg6 : Memref sig .tc .vmem S128x128 .i32)

omit [FloatOps F] in
theorem stack16 (f : Fin 16 → S8x128.Idx → BitVec 32) :
    Shape.Concatenates (List.map (fun x => x.1) (List.ofFn fun n => (⟨S8x128, f n⟩ : (s : Shape) × (s.Idx → BitVec 32)))) S128x128 0 := by
  show Shape.Concatenates (List.replicate 16 S8x128) S128x128 0
  decide

/-- The sixteen groups of tile `j`, stacked and transposed. -/
def turned (j : Nat) (hj : j < 4) : IVec S128x128 32 :=
  shapeCast S128x128 (transpose S128x128 [1, 0] (concatenate S128x128 0 (List.ofFn fun n : Fin 16 =>
      (⟨S8x128, arg5.view.readCov (codeStores arg3 harg3 x0 8 (by decide)) (Rect.unit (s := S576x128) ![9 * (16 * j + n.val), 0] S8x128.size (rows_inb j n.val hj n.isLt)).toLoadRect⟩ :
        (s : Shape) × (s.Idx → BitVec 32))) (stack16 _))
    transposes_S128x128_p1_0_S128x128) shapeCasts_S128x128_S128x128

/-- The stores into the second scratch up to tile `n`, the last first. -/
def turnedStores : (n : Nat) → n < 4 → List (View.Piece (Elt F) S128x128 .i32)
  | 0, _ => [⟨Rect.unit ![0, 0] S128x128.size inb_S128x128_S128x128_0_0, turned arg3 harg3 x0 arg5 0 (by decide)⟩]
  | n + 1, h => ⟨Rect.unit ![0, 0] S128x128.size inb_S128x128_S128x128_0_0, turned arg3 harg3 x0 arg5 (n + 1) h⟩ :: turnedStores n (by omega)

/-- The even rows, and the odd rows, of the second scratch. -/
def evenRows (j : Nat) (hj : j < 4) : IVec S64x128 32 :=
  arg6.view.readCov (turnedStores arg3 harg3 x0 arg5 j hj) (⟨![0, 0], S64x128.size, ![2, 1], inb_S128x128_S64x128_0_0_s_2_1⟩ : LoadRect S128x128)
def oddRows (j : Nat) (hj : j < 4) : IVec S64x128 32 :=
  arg6.view.readCov (turnedStores arg3 harg3 x0 arg5 j hj) (⟨![1, 0], S64x128.size, ![2, 1], inb_S128x128_S64x128_1_0_s_2_1⟩ : LoadRect S128x128)

/-- The store of token half `e` of tile `j` into the output block. -/
def piece (e j : Nat) (he : e < 2) (hj : j < 4) : View.Piece (Elt F) S512x512 .i8 :=
  ⟨Rect.unit ![256 * e, 128 * j] S256x128.size (out_inb e j he hj),
    bitcast S256x128 8 (merge e (evenRows arg3 harg3 x0 arg5 arg6 j hj) (oddRows arg3 harg3 x0 arg5 arg6 j hj)) bitcasts_S64x128_w32_S256x128_w8⟩

/-- The stores of the first `n` tiles, the last first. -/
def allPieces : (n : Nat) → n ≤ 4 → List (View.Piece (Elt F) S512x512 .i8)
  | 0, _ => []
  | n + 1, h => piece arg3 harg3 x0 arg5 arg6 1 n (by decide) h :: piece arg3 harg3 x0 arg5 arg6 0 n (by decide) h :: allPieces n (Nat.le_of_lt h)

/-- The stores the step makes are these. -/
theorem run_pieces (c : Dev nD) (i : grid0.Coords) (arg4 : Memref sig .tc .vmem S512x512 .i8) (harg4 : arg4.IsWhole)
    (harg5 : arg5.IsWhole) (harg6 : arg6.IsWhole) :
    (kernelRun0_A c i arg3 harg3 arg4 harg4 arg5 harg5 arg6 harg6 x0).1 = allPieces arg3 harg3 x0 arg5 arg6 4 (by decide) := by
  sl_kernel_rfl
end

end Cert.PackIdeal.Pieces
end
-- ==== Proof.Pack.Step.lean ====
/- One grid step of the packing at an index: which byte of which word stands at a row and a column of the output block. -/
module

public import proofs.«01_k».proof.Proof.Pack.Bits
public import proofs.«01_k».proof.Proof.Pack.Pieces
public import Idealize.ShloMosaic.Lib.Pipeline.ValueKit
public import Idealize.ShloMosaic.Lib.WholeRead

@[expose] public section

set_option maxRecDepth 16384

noncomputable section

namespace Cert.PackIdeal.Pieces

open Cert.PackIdeal Cert.PackIdeal.Gen Idealize.ShloMosaic Idealize.ShloMosaic.TcCoe Idealize.SL.Sem
open Cert.Pack.Bits (byteAt byteAt_merge clean8 byteAt_clean bitcast_bytes)

variable {F : FTy → Type} [FloatOps F]

omit [FloatOps F] in
theorem merge_apply {s : Shape} (e : Nat) (a b : IVec s 32) (i : s.Idx) : merge e a b i = Cert.Pack.Bits.merge e (a i) (b i) := by
  cases e with
  | zero => exact packElementwiseI16_apply a b i
  | succ e =>
    show IntOp.ori (IntOp.shrui .vector (a i) 16#32) (IntOp.andi (b i) 4294901760#32) = _
    simp [IntOp.ori, IntOp.shrui, IntOp.andi, Cert.Pack.Bits.merge]

omit [FloatOps F] in
theorem clean_apply (w : IVec S8x128 32) (i : S8x128.Idx) : clean w i = Cert.Pack.Bits.clean (w i) := rfl

section
variable (arg3 : Memref sig .tc .vmem S256x256 .i32) (harg3 : arg3.IsWhole) (x0 : Vec F S256x256 .i32)

/-- The word the first scratch holds for group `g`, pair `jj`, lane `l`. -/
def codeWord (x0 : Vec F S256x256 .i32) (g : Fin 64) (jj : Fin 8) (l : Fin 128) : BitVec 32 :=
  Cert.Pack.Bits.clean (Cert.Pack.Bits.merge (jj.val / 4)
    (x0 (ix2 (⟨64 * (jj.val % 4) + g.val, by omega⟩ : Fin 256) (⟨l.val, by omega⟩ : Fin 256)))
    (x0 (ix2 (⟨64 * (jj.val % 4) + g.val, by omega⟩ : Fin 256) (⟨128 + l.val, by omega⟩ : Fin 256))))

/-- The first scratch as a function of its index: rows in pitches of nine, the ninth unwritten. -/
def codeAt (x0 : Vec F S256x256 .i32) (y : S576x128.Idx) : BitVec 32 :=
  codeWord x0 (⟨(y 0).val / 9, by have : (y 0).val < 576 := (y 0).isLt; omega⟩ : Fin 64) (⟨(y 0).val % 9 % 8, Nat.mod_lt _ (by decide)⟩ : Fin 8) (y 1)

theorem load_apply (h j v : Nat) (hh : h < 2) (hj : j < 4) (hv : v < 8) (a : Fin 8) (l : Fin 128) :
    load arg3 harg3 x0 h j v hh hj hv (ix2 a l)
      = x0 (ix2 (⟨64 * j + 8 * v + a.val, by omega⟩ : Fin 256) (⟨128 * h + l.val, by omega⟩ : Fin 256)) := by
  unfold load
  rw [harg3.readAt_unread]
  congr 1
  funext c
  match c with
  | ⟨0, _⟩ => exact Fin.ext (show 64 * j + 8 * v + 1 * a.val = _ by simp)
  | ⟨1, _⟩ => exact Fin.ext (show 128 * h + 1 * l.val = _ by simp)

theorem codeStore_value (e j v : Nat) (he : e < 2) (hj : j < 4) (hv : v < 8) (x : (codeStore arg3 harg3 x0 e j v he hj hv).1.shape.Idx) :
    (codeStore arg3 harg3 x0 e j v he hj hv).2 x = codeAt x0 ((codeStore arg3 harg3 x0 e j v he hj hv).1.emb x) := by
  obtain ⟨a, l, rfl⟩ : ∃ (a : Fin 8) (l : Fin 128), x = (ix2 a l : S8x128.Idx) :=
    ⟨x 0, x 1, by funext d; match d with | ⟨0, _⟩ => rfl | ⟨1, _⟩ => rfl⟩
  have ha := a.isLt
  have hl := l.isLt
  have e0 : (codeStore arg3 harg3 x0 e j v he hj hv).1.emb (ix2 a l : S8x128.Idx)
      = (ix2 (⟨9 * (8 * v + a.val) + (4 * e + j), by omega⟩ : Fin 576) l : S576x128.Idx) := by
    funext d
    match d with
    | ⟨0, _⟩ => exact Fin.ext (show 72 * v + (4 * e + j) + 9 * a.val = 9 * (8 * v + a.val) + (4 * e + j) by omega)
    | ⟨1, _⟩ => exact Fin.ext (show 0 + 1 * l.val = l.val by omega)
  rw [e0]
  show shapeCast S8x128 (clean (merge e (load arg3 harg3 x0 0 j v (by decide) hj hv) (load arg3 harg3 x0 1 j v (by decide) hj hv))) shapeCasts_S8x128_S8x128 (ix2 a l) = _
  rw [shapeCast_self, clean_apply, merge_apply, load_apply, load_apply]
  show _ = codeWord x0 ⟨(9 * (8 * v + a.val) + (4 * e + j)) / 9, _⟩ ⟨(9 * (8 * v + a.val) + (4 * e + j)) % 9 % 8, _⟩ l
  unfold codeWord
  have f1 : (9 * (8 * v + a.val) + (4 * e + j)) / 9 = 8 * v + a.val := by omega
  have f2 : (9 * (8 * v + a.val) + (4 * e + j)) % 9 % 8 = 4 * e + j := by omega
  have f3 : (4 * e + j) / 4 = e := by omega
  have f4 : (4 * e + j) % 4 = j := by omega
  have f5 : 64 * j + 8 * v + a.val = 64 * j + (8 * v + a.val) := by omega
  have f6 : 128 * 0 + l.val = l.val := by omega
  have f7 : 128 * 1 + l.val = 128 + l.val := by omega
  simp only [f1, f2, f3, f4, f5, f6, f7]

theorem codeStores_all (P : View.Piece (Elt F) S576x128 .i32 → Prop)
    (hP : ∀ e j v (he : e < 2) (hj : j < 4) (hv : v < 8), P (codeStore arg3 harg3 x0 e j v he hj hv)) :
    ∀ n (hn : n ≤ 8), ∀ q ∈ codeStores arg3 harg3 x0 n hn, P q
  | 0, _, q, hq => absurd hq List.not_mem_nil
  | n + 1, hn, q, hq => by
    unfold codeStores at hq
    simp only [List.mem_cons] at hq
    rcases hq with rfl | rfl | rfl | rfl | rfl | rfl | rfl | rfl | hq
    all_goals first | exact hP _ _ _ _ _ _ | exact codeStores_all P hP n _ q hq

theorem codeStores_mem (e j v : Nat) (he : e < 2) (hj : j < 4) (hv : v < 8) :
    ∀ n (hn : n ≤ 8), v < n → codeStore arg3 harg3 x0 e j v he hj hv ∈ codeStores arg3 harg3 x0 n hn
  | 0, _, h => absurd h (Nat.not_lt_zero _)
  | n + 1, hn, h => by
    unfold codeStores
    rcases Nat.lt_succ_iff_lt_or_eq.mp h with h | rfl
    · simp only [List.mem_cons]
      iterate 8 apply Or.inr
      exact codeStores_mem e j v he hj hv n _ h
    · interval_cases e <;> interval_cases j <;> simp only [List.mem_cons, true_or, or_true]

/-- The first scratch after all planes, at a written row. -/
theorem canon_codes (g : Fin 64) (jj : Fin 8) (l : Fin 128) :
    View.canon (codeStores arg3 harg3 x0 8 (by decide)) (ix2 (⟨9 * g.val + jj.val, by omega⟩ : Fin 576) l : S576x128.Idx) = codeWord x0 g jj l := by
  have hg := g.isLt
  have hjj := jj.isLt
  refine (View.canon_apply_of_pieces (codeAt x0) _
    (codeStores_all arg3 harg3 x0 (fun p => ∀ x : p.1.shape.Idx, p.2 x = codeAt x0 (p.1.emb x)) (fun e j v he hj hv => codeStore_value arg3 harg3 x0 e j v he hj hv) 8 _) _
    ⟨_, codeStores_mem arg3 harg3 x0 (jj.val / 4) (jj.val % 4) (g.val / 8) (by omega) (by omega) (by omega) 8 (by decide) (by omega), ?_⟩).trans ?_
  · rw [LoadRect.mem_set]
    intro d
    match d with
    | ⟨0, _⟩ => exact ⟨g.val % 8, Nat.mod_lt _ (by decide), show 9 * g.val + jj.val = 72 * (g.val / 8) + (4 * (jj.val / 4) + jj.val % 4) + 9 * (g.val % 8) by omega⟩
    | ⟨1, _⟩ => exact ⟨l.val, l.isLt, show l.val = 0 + 1 * l.val by omega⟩
  · unfold codeAt
    have f1 : (9 * g.val + jj.val) / 9 = g.val := by omega
    have f2 : (9 * g.val + jj.val) % 9 % 8 = jj.val := by omega
    show codeWord x0 ⟨(9 * g.val + jj.val) / 9, _⟩ ⟨(9 * g.val + jj.val) % 9 % 8, _⟩ l = _
    simp only [f1, f2]

variable (arg5 : Memref sig .tc .vmem S576x128 .i32) (arg6 : Memref sig .tc .vmem S128x128 .i32)

/-- A tile transposed: row `l`, column `c`. -/
theorem turned_apply (j : Nat) (hj : j < 4) (l c : Fin 128) :
    turned arg3 harg3 x0 arg5 j hj (ix2 l c) = codeWord x0 (⟨16 * j + c.val / 8, by omega⟩ : Fin 64) (⟨c.val % 8, Nat.mod_lt _ (by decide)⟩ : Fin 8) l := by
  have hc := c.isLt
  unfold turned
  rw [shapeCast_self, transpose_apply [1, 0] _ transposes_S128x128_p1_0_S128x128 (ix2 l c) (ix2 c l : S128x128.Idx) (by
    intro b
    match b with
    | ⟨0, _⟩ => rfl
    | ⟨1, _⟩ => rfl)]
  rw [concatenate_ofFn_apply (α := BitVec 32) (t := S128x128) (s₁ := S8x128) (N := 16) 0 (fun n : Fin 16 => arg5.view.readCov (codeStores arg3 harg3 x0 8 (by decide)) (Rect.unit (s := S576x128) ![9 * (16 * j + n.val), 0] S8x128.size (rows_inb j n.val hj n.isLt)).toLoadRect)
    (stack16 _) rfl 8 rfl (ix2 c l : S128x128.Idx) (⟨c.val / 8, by omega⟩ : Fin 16) rfl (ix2 (⟨c.val % 8, Nat.mod_lt _ (by decide)⟩ : Fin 8) l : S8x128.Idx) rfl (by
      intro b hb
      match b with
      | ⟨0, _⟩ => exact absurd rfl hb
      | ⟨1, _⟩ => rfl)]
  rw [View.readCov_eq_canon']
  refine Eq.trans (congrArg _ ?_) (canon_codes arg3 harg3 x0 _ _ l)
  funext d
  match d with
  | ⟨0, _⟩ => exact Fin.ext (show 9 * (16 * j + c.val / 8) + 1 * (c.val % 8) = 9 * (16 * j + c.val / 8) + c.val % 8 by omega)
  | ⟨1, _⟩ => exact Fin.ext (show 0 + 1 * l.val = l.val by omega)

theorem hz : ∀ a, (![0, 0] : Fin 2 → Nat) a = 0 := fun a => by fin_cases a <;> rfl

theorem canon_turned (j : Nat) (hj : j < 4) : View.canon (turnedStores arg3 harg3 x0 arg5 j hj) = turned arg3 harg3 x0 arg5 j hj := by
  cases j with
  | zero => unfold turnedStores; exact View.canon_cons_unit_lit inb_S128x128_S128x128_0_0 _ _ hz
  | succ j => unfold turnedStores; exact View.canon_cons_unit_lit inb_S128x128_S128x128_0_0 _ _ hz

theorem even_apply (j : Nat) (hj : j < 4) (i : Fin 64) (c : Fin 128) :
    evenRows arg3 harg3 x0 arg5 arg6 j hj (ix2 i c)
      = codeWord x0 (⟨16 * j + c.val / 8, by omega⟩ : Fin 64) (⟨c.val % 8, Nat.mod_lt _ (by decide)⟩ : Fin 8) (⟨2 * i.val, by omega⟩ : Fin 128) := by
  unfold evenRows
  rw [View.readCov_eq_canon', canon_turned, ← turned_apply arg3 harg3 x0 arg5 j hj (⟨2 * i.val, by omega⟩ : Fin 128) c]
  refine congrArg _ ?_
  funext d
  match d with
  | ⟨0, _⟩ => exact Fin.ext (show 0 + 2 * i.val = 2 * i.val by omega)
  | ⟨1, _⟩ => exact Fin.ext (show 0 + 1 * c.val = c.val by omega)

theorem odd_apply (j : Nat) (hj : j < 4) (i : Fin 64) (c : Fin 128) :
    oddRows arg3 harg3 x0 arg5 arg6 j hj (ix2 i c)
      = codeWord x0 (⟨16 * j + c.val / 8, by omega⟩ : Fin 64) (⟨c.val % 8, Nat.mod_lt _ (by decide)⟩ : Fin 8) (⟨2 * i.val + 1, by omega⟩ : Fin 128) := by
  unfold oddRows
  rw [View.readCov_eq_canon', canon_turned, ← turned_apply arg3 harg3 x0 arg5 j hj (⟨2 * i.val + 1, by omega⟩ : Fin 128) c]
  refine congrArg _ ?_
  funext d
  match d with
  | ⟨0, _⟩ => exact Fin.ext (show 1 + 2 * i.val = 2 * i.val + 1 by omega)
  | ⟨1, _⟩ => exact Fin.ext (show 0 + 1 * c.val = c.val by omega)

/-- What stands at row `r`, column `q` of the step's output block. -/
def stepAt (x0 : Vec F S256x256 .i32) (r q : Fin 512) : BitVec 8 :=
  clean8 (byteAt (x0 (ix2 (⟨64 * (q.val % 4) + q.val / 8, by omega⟩ : Fin 256) (⟨r.val / 2, by omega⟩ : Fin 256)))
    (2 * (q.val % 8 / 4) + r.val % 2))

/-- A byte of a word of the first scratch. -/
theorem codeWord_byte (g : Fin 64) (jj : Fin 8) (l : Fin 128) (e p : Nat) (he : e < 2) (hp : p < 2) :
    byteAt (codeWord x0 g jj l) (2 * e + p)
      = clean8 (byteAt (x0 (ix2 (⟨64 * (jj.val % 4) + g.val, by omega⟩ : Fin 256) (⟨128 * e + l.val, by omega⟩ : Fin 256))) (2 * (jj.val / 4) + p)) := by
  have hjj := jj.isLt
  unfold codeWord
  rw [byteAt_clean _ _ (by omega), byteAt_merge _ _ (by omega) (by omega)]
  have f : (2 * e + p) % 2 = p := by omega
  rw [f]
  interval_cases e
  · rw [if_pos (by omega)]; simp only [Nat.mul_zero, Nat.zero_add]
  · rw [if_neg (by omega)]

/-- Every store writes `stepAt` at its own indices. -/
theorem piece_value (e j : Nat) (he : e < 2) (hj : j < 4) (x : (piece arg3 harg3 x0 arg5 arg6 e j he hj).1.shape.Idx) :
    (piece arg3 harg3 x0 arg5 arg6 e j he hj).2 x
      = stepAt x0 ((piece arg3 harg3 x0 arg5 arg6 e j he hj).1.emb x 0) ((piece arg3 harg3 x0 arg5 arg6 e j he hj).1.emb x 1) := by
  obtain ⟨r, c, rfl⟩ : ∃ (r : Fin 256) (c : Fin 128), x = (ix2 r c : S256x128.Idx) :=
    ⟨x 0, x 1, by funext d; match d with | ⟨0, _⟩ => rfl | ⟨1, _⟩ => rfl⟩
  have hr := r.isLt
  have hc := c.isLt
  have e0 : (piece arg3 harg3 x0 arg5 arg6 e j he hj).1.emb (ix2 r c : S256x128.Idx) 0
      = (⟨256 * e + r.val, by omega⟩ : Fin 512) := Fin.ext (show 256 * e + 1 * r.val = _ by simp)
  have e1 : (piece arg3 harg3 x0 arg5 arg6 e j he hj).1.emb (ix2 r c : S256x128.Idx) 1
      = (⟨128 * j + c.val, by omega⟩ : Fin 512) := Fin.ext (show 128 * j + 1 * c.val = _ by simp)
  rw [e0, e1]
  show bitcast S256x128 8 (merge e (evenRows arg3 harg3 x0 arg5 arg6 j hj) (oddRows arg3 harg3 x0 arg5 arg6 j hj)) bitcasts_S64x128_w32_S256x128_w8 (ix2 r c) = _
  refine (bitcast_bytes _ _ r c).trans ?_
  rw [merge_apply, byteAt_merge e _ he (Nat.mod_lt _ (by decide)), even_apply, odd_apply]
  unfold stepAt
  have f1 : (128 * j + c.val) % 4 = c.val % 8 % 4 := by omega
  have f2 : (128 * j + c.val) / 8 = 16 * j + c.val / 8 := by omega
  have f3 : (128 * j + c.val) % 8 / 4 = c.val % 8 / 4 := by omega
  have f4 : (256 * e + r.val) % 2 = r.val % 4 % 2 := by omega
  by_cases hq : r.val % 4 < 2
  · rw [if_pos hq, codeWord_byte _ _ _ _ e _ he (Nat.mod_lt _ (by decide))]
    have f5 : (256 * e + r.val) / 2 = 128 * e + 2 * (r.val / 4) := by omega
    simp only [f1, f2, f3, f4, f5]
  · rw [if_neg hq, codeWord_byte _ _ _ _ e _ he (Nat.mod_lt _ (by decide))]
    have f5 : (256 * e + r.val) / 2 = 128 * e + (2 * (r.val / 4) + 1) := by omega
    simp only [f1, f2, f3, f4, f5]

theorem all_pieces (P : View.Piece (Elt F) S512x512 .i8 → Prop)
    (hP : ∀ e j (he : e < 2) (hj : j < 4), P (piece arg3 harg3 x0 arg5 arg6 e j he hj)) :
    ∀ n (hn : n ≤ 4), ∀ q ∈ allPieces arg3 harg3 x0 arg5 arg6 n hn, P q
  | 0, _, q, hq => absurd hq List.not_mem_nil
  | n + 1, hn, q, hq => by
    unfold allPieces at hq
    simp only [List.mem_cons] at hq
    rcases hq with rfl | rfl | hq
    all_goals first | exact hP _ _ _ _ | exact all_pieces P hP n _ q hq

/-- WHAT ONE STEP LEAVES in its block of the output, at an index. -/
theorem out_apply (c : Dev nD) (i : grid0.Coords) (arg4 : Memref sig .tc .vmem S512x512 .i8) (harg4 : arg4.IsWhole)
    (harg5 : arg5.IsWhole) (harg6 : arg6.IsWhole) (y : S512x512.Idx) :
    out0_A_1 c i arg3 harg3 arg4 harg4 arg5 harg5 arg6 harg6 x0 y = stepAt x0 (y 0) (y 1) := by
  unfold out0_A_1
  refine View.read_writes_apply_of_pieces _ _ (fun y => stepAt x0 (y 0) (y 1)) _ ?_ y
    (cover0_A_1 c i arg3 harg3 arg4 harg4 arg5 harg5 arg6 harg6 x0 y)
  rw [run_pieces]
  exact all_pieces arg3 harg3 x0 arg5 arg6 (fun q => ∀ x, q.2 x = stepAt x0 (q.1.emb x 0) (q.1.emb x 1))
    (fun e j he hj => piece_value arg3 harg3 x0 arg5 arg6 e j he hj) 4 _
end

end Cert.PackIdeal.Pieces
end
-- ==== Proof.Pack.RefValue.lean ====
/- The packing's reference read at an index. -/
module

public import proofs.«01_k».proof.Proof.Pack.Bits
public import proofs.«01_k».proof.Proof.Gen.PackReferenceIdeal.Run
public import Idealize.ShloMosaic.Lib.Pointwise
public import Idealize.ShloMosaic.Lib.ValueIdxRank6
public import Idealize.ShloMosaic.Lib.IdealHost

@[expose] public section

set_option maxRecDepth 16384

noncomputable section

namespace Cert.PackReferenceIdeal.Read

open Cert.PackReferenceIdeal Cert.PackReferenceIdeal.Gen Idealize.ShloMosaic Idealize.ShloMosaic.TcCoe Idealize.SL.Sem
open Cert.Pack.Bits (byteAt clean8)

/-- The words, by pair of tokens, tile, group and pair of features, repeated over the token and the half of the group. -/
def words (x : IVec S3840x2304 32) : IVec S2304x2x15x64x2x4 32 :=
  broadcastInDim S2304x2x15x64x2x4 ![0, 1, 2, 3, 4, 5] bcast_S2304x1x15x64x1x4_S2304x2x15x64x2x4_0_1_2_3_4_5 (broadcastInDim S2304x1x15x64x1x4 ![0, 2, 3, 5] bcast_S2304x15x64x4_S2304x1x15x64x1x4_0_2_3_5 (transpose S2304x15x64x4 [3, 0, 2, 1] (shapeCast _ x shapeCasts_S3840x2304_S15x4x64x2304) transposes_S15x4x64x2304_S2304x15x64x4_3_0_2_1))

/-- The shift that brings a token's pair in a half of the group to the bottom of its word. -/
def amount : IVec S2304x2x15x64x2x4 32 :=
  broadcastInDim S2304x2x15x64x2x4 ![0, 1, 2, 3, 4, 5] bcast_S1x2x1x1x2x1_S2304x2x15x64x2x4_0_1_2_3_4_5 (addi (broadcastInDim S1x2x1x1x2x1 ![0, 1, 2, 3, 4, 5] bcast_S1x2x1x1x1x1_S1x2x1x1x2x1_0_1_2_3_4_5 (muli (broadcastInDim S1x2x1x1x1x1 ![] bcast_S_S1x2x1x1x1x1 (constantI S_ 32 8#32)) (shapeCast _ (iotaInDim S2 32 0) shapeCasts_S2_S1x2x1x1x1x1))) (broadcastInDim S1x2x1x1x2x1 ![0, 1, 2, 3, 4, 5] bcast_S1x1x1x1x2x1_S1x2x1x1x2x1_0_1_2_3_4_5 (muli (broadcastInDim S1x1x1x1x2x1 ![] bcast_S_S1x1x1x1x2x1 (constantI S_ 32 16#32)) (shapeCast _ (iotaInDim S2 32 0) shapeCasts_S2_S1x1x1x1x2x1))))

def all (n : BitVec 32) : IVec S2304x2x15x64x2x4 32 := broadcastInDim S2304x2x15x64x2x4 ![] bcast_S_S2304x2x15x64x2x4 (constantI S_ 32 n)

/-- A code without its negative zero. -/
def code (n : IVec S2304x2x15x64x2x4 32) : IVec S2304x2x15x64x2x4 32 := select (cmpi .eq n (all 8#32)) (all 0#32) n

/-- The bytes before their last reshape. -/
def bytes (x : IVec S3840x2304 32) : IVec S2304x2x15x64x2x4 8 :=
  trunci 8 (ori (code (andi (Host.shrui (words x) amount) (all 15#32)))
    (Host.shli (code (andi (Host.shrsi (Host.shrui (words x) amount) (all 4#32)) (all 15#32))) (all 4#32))) natLt_8_32

/-- THE REFERENCE's array of its argument array. -/
def result (x : IVec S3840x2304 32) : IVec S4608x7680 8 := shapeCast _ (bytes x) shapeCasts_S2304x2x15x64x2x4_S4608x7680

/-- The run's term is this formula. -/
theorem res_eq (m : (ℓ : Loc nD τ sig) → Buf (Elt Ideal) ℓ) (c : Dev nD) :
    Cert.PackReferenceIdeal.Value.res_main_v33 m c = result (m ((c.tc : Thread nD τ).loc main_arg0)) := by
  unfold Cert.PackReferenceIdeal.Value.res_main_v33 result bytes code all words amount
  rfl

theorem words_apply (x : IVec S3840x2304 32) (C : Fin 2304) (p : Fin 2) (k : Fin 15) (g : Fin 64) (h : Fin 2) (j : Fin 4) :
    words x (ix6 C p k g h j) = x (ix2 (⟨256 * k.val + 64 * j.val + g.val, by omega⟩ : Fin 3840) C) := by
  unfold words
  rw [broadcastInDim_apply ![0, 1, 2, 3, 4, 5] bcast_S2304x1x15x64x1x4_S2304x2x15x64x2x4_0_1_2_3_4_5 _ (ix6 C p k g h j) (ix6 C (0 : Fin 1) k g (0 : Fin 1) j : S2304x1x15x64x1x4.Idx) (by
      intro a
      match a with
      | ⟨0, _⟩ => rfl
      | ⟨1, _⟩ => rfl
      | ⟨2, _⟩ => rfl
      | ⟨3, _⟩ => rfl
      | ⟨4, _⟩ => rfl
      | ⟨5, _⟩ => rfl)]
  rw [broadcastInDim_apply ![0, 2, 3, 5] bcast_S2304x15x64x4_S2304x1x15x64x1x4_0_2_3_5 _ (ix6 C (0 : Fin 1) k g (0 : Fin 1) j : S2304x1x15x64x1x4.Idx) (ix4 C k g j : S2304x15x64x4.Idx) (by
      intro a
      match a with
      | ⟨0, _⟩ => rfl
      | ⟨1, _⟩ => rfl
      | ⟨2, _⟩ => rfl
      | ⟨3, _⟩ => rfl)]
  rw [transpose_apply [3, 0, 2, 1] _ transposes_S15x4x64x2304_S2304x15x64x4_3_0_2_1 _ (ix4 k j g C : S15x4x64x2304.Idx) (by
      intro b
      match b with
      | ⟨0, _⟩ => rfl
      | ⟨1, _⟩ => rfl
      | ⟨2, _⟩ => rfl
      | ⟨3, _⟩ => rfl)]
  exact shapeCast_apply _ shapeCasts_S3840x2304_S15x4x64x2304 _ _ (by
      rw [Shape.rowMajor_val_four, Shape.rowMajor_val_two]
      show (256 * k.val + 64 * j.val + g.val) * 2304 + C.val = ((k.val * 4 + j.val) * 64 + g.val) * 2304 + C.val
      omega)

theorem amount_apply (C : Fin 2304) (p : Fin 2) (k : Fin 15) (g : Fin 64) (h : Fin 2) (j : Fin 4) :
    amount (ix6 C p k g h j) = BitVec.ofNat 32 (8 * (2 * h.val + p.val)) := by
  unfold amount
  rw [broadcastInDim_apply ![0, 1, 2, 3, 4, 5] bcast_S1x2x1x1x2x1_S2304x2x15x64x2x4_0_1_2_3_4_5 _ (ix6 C p k g h j) (ix6 (0 : Fin 1) p (0 : Fin 1) (0 : Fin 1) h (0 : Fin 1) : S1x2x1x1x2x1.Idx) (by
      intro a
      match a with
      | ⟨0, _⟩ => rfl
      | ⟨1, _⟩ => rfl
      | ⟨2, _⟩ => rfl
      | ⟨3, _⟩ => rfl
      | ⟨4, _⟩ => rfl
      | ⟨5, _⟩ => rfl)]
  rw [addi_apply]
  rw [broadcastInDim_apply ![0, 1, 2, 3, 4, 5] bcast_S1x2x1x1x1x1_S1x2x1x1x2x1_0_1_2_3_4_5 _ _ (ix6 (0 : Fin 1) p (0 : Fin 1) (0 : Fin 1) (0 : Fin 1) (0 : Fin 1) : S1x2x1x1x1x1.Idx) (by
      intro a
      match a with
      | ⟨0, _⟩ => rfl
      | ⟨1, _⟩ => rfl
      | ⟨2, _⟩ => rfl
      | ⟨3, _⟩ => rfl
      | ⟨4, _⟩ => rfl
      | ⟨5, _⟩ => rfl)]
  rw [broadcastInDim_apply ![0, 1, 2, 3, 4, 5] bcast_S1x1x1x1x2x1_S1x2x1x1x2x1_0_1_2_3_4_5 _ _ (ix6 (0 : Fin 1) (0 : Fin 1) (0 : Fin 1) (0 : Fin 1) h (0 : Fin 1) : S1x1x1x1x2x1.Idx) (by
      intro a
      match a with
      | ⟨0, _⟩ => rfl
      | ⟨1, _⟩ => rfl
      | ⟨2, _⟩ => rfl
      | ⟨3, _⟩ => rfl
      | ⟨4, _⟩ => rfl
      | ⟨5, _⟩ => rfl)]
  rw [muli_apply, muli_apply, shapeCast_apply _ shapeCasts_S2_S1x2x1x1x1x1 _ (ix1 p : S2.Idx) (by
      rw [Shape.rowMajor_val_six, Shape.rowMajor_val_one]
      show p.val = ((((0 * 2 + p.val) * 1 + 0) * 1 + 0) * 1 + 0) * 1 + 0
      omega), shapeCast_apply _ shapeCasts_S2_S1x1x1x1x2x1 _ (ix1 h : S2.Idx) (by
      rw [Shape.rowMajor_val_six, Shape.rowMajor_val_one]
      show h.val = ((((0 * 1 + 0) * 1 + 0) * 1 + 0) * 2 + h.val) * 1 + 0
      omega)]
  show 8#32 * BitVec.ofNat 32 p.val + 16#32 * BitVec.ofNat 32 h.val = BitVec.ofNat 32 (8 * (2 * h.val + p.val))
  fin_cases p <;> fin_cases h <;> rfl

theorem all_apply (n : BitVec 32) (i : S2304x2x15x64x2x4.Idx) : all n i = n := by
  unfold all
  rw [broadcastInDim_apply ![] bcast_S_S2304x2x15x64x2x4 _ i ix0 (fun a => a.elim0)]
  rfl

/-- One code cleared of its negative zero by comparison. -/
def clearCode (n : BitVec 32) : BitVec 32 := Scalar.select (IntOp.cmpi .eq n 8#32) 0#32 n

/-- The two codes at the bottom of a word, cleared, as a byte. -/
def clear (b : BitVec 32) : BitVec 8 :=
  (IntOp.ori (clearCode (IntOp.andi b 15#32)) (IntOp.shli .host (clearCode (IntOp.andi (IntOp.shrsi .host b 4#32) 15#32)) 4#32)).setWidth 8

theorem low_bits (b : BitVec 32) : IntOp.andi b 15#32 = IntOp.andi ((b.setWidth 8).setWidth 32) 15#32 := by
  apply BitVec.eq_of_getLsbD_eq
  intro i hi
  show (b &&& 15#32).getLsbD i = ((b.setWidth 8).setWidth 32 &&& 15#32).getLsbD i
  rw [BitVec.getLsbD_and, BitVec.getLsbD_and, BitVec.getLsbD_setWidth, BitVec.getLsbD_setWidth]
  interval_cases i <;> simp

theorem high_bits (b : BitVec 32) : IntOp.andi (IntOp.shrsi .host b 4#32) 15#32 = IntOp.andi (IntOp.shrsi .host ((b.setWidth 8).setWidth 32) 4#32) 15#32 := by
  have e (x : BitVec 32) : IntOp.shrsi .host x 4#32 = x.sshiftRight 4 := by
    unfold IntOp.shrsi
    rw [if_pos (by decide)]
    rfl
  rw [e, e]
  apply BitVec.eq_of_getLsbD_eq
  intro i hi
  show (b.sshiftRight 4 &&& 15#32).getLsbD i = (((b.setWidth 8).setWidth 32).sshiftRight 4 &&& 15#32).getLsbD i
  rw [BitVec.getLsbD_and, BitVec.getLsbD_and, BitVec.getLsbD_sshiftRight, BitVec.getLsbD_sshiftRight, BitVec.getLsbD_setWidth, BitVec.getLsbD_setWidth]
  interval_cases i <;> simp

theorem clear_byte (b : BitVec 8) : clear (b.setWidth 32) = clean8 b := by
  revert b; decide +kernel

theorem clear_eq (b : BitVec 32) : clear b = clean8 (b.setWidth 8) := by
  rw [← clear_byte]
  unfold clear
  rw [low_bits, high_bits]

theorem shifted (w : BitVec 32) (n : Nat) (hn : n < 4) : (IntOp.shrui .host w (BitVec.ofNat 32 (8 * n))).setWidth 8 = byteAt w n := by
  have e : IntOp.shrui .host w (BitVec.ofNat 32 (8 * n)) = w >>> (8 * n) := by
    unfold IntOp.shrui
    rw [if_pos (by interval_cases n <;> decide)]
    interval_cases n <;> rfl
  rw [e]
  apply BitVec.eq_of_getLsbD_eq
  intro i hi
  unfold byteAt
  rw [BitVec.getLsbD_extractLsb', BitVec.getLsbD_setWidth, BitVec.getLsbD_ushiftRight]

/-- THE REFERENCE at an index: row `2 C + p`, column `512 k + 8 g + 4 h + j`. -/
theorem result_apply (x : IVec S3840x2304 32) (C : Fin 2304) (p : Fin 2) (k : Fin 15) (g : Fin 64) (h : Fin 2) (j : Fin 4) :
    result x (ix2 (⟨2 * C.val + p.val, by omega⟩ : Fin 4608) (⟨512 * k.val + 8 * g.val + 4 * h.val + j.val, by omega⟩ : Fin 7680))
      = clean8 (byteAt (x (ix2 (⟨256 * k.val + 64 * j.val + g.val, by omega⟩ : Fin 3840) C)) (2 * h.val + p.val)) := by
  unfold result
  rw [shapeCast_apply _ shapeCasts_S2304x2x15x64x2x4_S4608x7680 _ (ix6 C p k g h j : S2304x2x15x64x2x4.Idx) (by
      rw [Shape.rowMajor_val_six, Shape.rowMajor_val_two]
      show ((((C.val * 2 + p.val) * 15 + k.val) * 64 + g.val) * 2 + h.val) * 4 + j.val = (2 * C.val + p.val) * 7680 + (512 * k.val + 8 * g.val + 4 * h.val + j.val)
      omega)]
  refine Eq.trans (b := clear (IntOp.shrui .host (words x (ix6 C p k g h j)) (amount (ix6 C p k g h j)))) ?_ ?_
  · have hs (c : IVec S2304x2x15x64x2x4 1) (a b : IVec S2304x2x15x64x2x4 32) (i : S2304x2x15x64x2x4.Idx) : select c a b i = Scalar.select (c i) (a i) (b i) := rfl
    unfold bytes code clear clearCode
    simp only [trunci_apply, ori_apply, Host.shli_apply, hs, cmpi_apply, andi_apply, Host.shrsi_apply, Host.shrui_apply, all_apply]
  · rw [clear_eq, words_apply, amount_apply, shifted _ _ (by omega)]

end Cert.PackReferenceIdeal.Read
end
-- ==== Proof.Pack.Value.lean ====
/- The packing's result array is the reference's, and with it the whole claim of its value. -/
module

public import proofs.«01_k».proof.Proof.Pack.Step
public import proofs.«01_k».proof.Proof.Pack.RefValue
public import proofs.«01_k».proof.Proof.Gen.PackIdeal.Value
public import Idealize.ShloMosaic.Lib.Pipeline.ValueKit

@[expose] public section

set_option maxRecDepth 16384

noncomputable section

namespace Cert.PackIdeal.Final

open Cert.PackIdeal Cert.PackIdeal.Gen Cert.PackIdeal.Pieces Idealize.ShloMosaic Idealize.ShloMosaic.TcCoe Idealize.SL.Sem
open Idealize.ShloMosaic.Pipeline (Dat)

variable (m : (ℓ : Loc nD τ sig) → Buf (Elt Ideal) ℓ)

/-- Grid point `(p, k, u)` reads tile `k` of features of block `3 p + u` of tokens and writes the same tile of the same block. -/
theorem idx : ∀ t : Fin cfg0.N, win0_0.index t = ![t.val / 3 % 15, t.val / 45 * 3 + t.val % 3] ∧ win0_1.index t = ![t.val / 45 * 3 + t.val % 3, t.val / 3 % 15] :=
  (by decide +kernel : ∀ t : Fin grid0.N, _)

/-- The whole reference array: the reference's formula of the argument array. -/
abbrev target (c : Dev nD) : Vec Ideal S4608x7680 .i8 :=
  Cert.PackReferenceIdeal.Read.result (m ((c : Thread nD τ).loc main_arg0))

theorem point (c : Dev nD) (t : Fin cfg0.N) (r q : Fin 512) :
    stepAt (F := Ideal) (iblk m c 0 t) r q
      = target m c (ix2 (⟨512 * (t.val / 45 * 3 + t.val % 3) + r.val, by have := t.isLt; have hN : cfg0.N = 135 := N_0; omega⟩ : Fin 4608)
          (⟨512 * (t.val / 3 % 15) + q.val, by omega⟩ : Fin 7680)) := by
  have ht := t.isLt
  have hN : cfg0.N = 135 := N_0
  have hr := r.isLt
  have hq := q.isLt
  have e := Cert.PackReferenceIdeal.Read.result_apply (m ((c : Thread nD τ).loc main_arg0))
    (⟨256 * (t.val / 45 * 3 + t.val % 3) + r.val / 2, by omega⟩ : Fin 2304) (⟨r.val % 2, by omega⟩ : Fin 2) (⟨t.val / 3 % 15, by omega⟩ : Fin 15)
    (⟨q.val / 8, by omega⟩ : Fin 64) (⟨q.val % 8 / 4, by omega⟩ : Fin 2) (⟨q.val % 4, by omega⟩ : Fin 4)
  dsimp only at e
  have f1 : 2 * (256 * (t.val / 45 * 3 + t.val % 3) + r.val / 2) + r.val % 2 = 512 * (t.val / 45 * 3 + t.val % 3) + r.val := by omega
  have f2 : 512 * (t.val / 3 % 15) + 8 * (q.val / 8) + 4 * (q.val % 8 / 4) + q.val % 4 = 512 * (t.val / 3 % 15) + q.val := by omega
  simp only [f1, f2] at e
  refine Eq.trans ?_ e.symm
  unfold stepAt
  blk_point [iblk, V, idx t]

theorem final (c : Dev nD) : (dats m 0 c).arrAt 1 (cfgs 0).N = target m c := by
  refine (dats m 0 c).arrAt_eq_of_covers 1 _ (by decide +kernel) fun t _ y => ?_
  blk_simp
  rw [after0_1]
  show out0_A_1 _ _ _ _ _ _ _ _ _ _ _ _ = _
  rw [out_apply]
  refine (point m c t _ _).trans ?_
  blk_ext [idx t]

end Cert.PackIdeal.Final
end
-- ==== Proof.Scale.Runs.lean ====
/- What the runs of the kernel body share: the branch conditions in closed form over the grid points, where the output window is idle, and the buffers the body is called with. -/
module

public import proofs.«01_k».proof.Proof.Gen.Scale.Frame
public import proofs.«01_k».proof.Proof.Gen.Scale.Skeleton
public import Idealize.ShloMosaic.Lib.Tactic
public import Idealize.ShloMosaic.Lib.WordCmp

@[expose] public section

set_option maxRecDepth 16384

noncomputable section

namespace Cert.Scale.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

variable (m : (ℓ : Loc nD τ sig) → Buf (Elt F) ℓ) (ρ : Dev nD → PrngReg)

/-! ## The body's branch condition, and where the output is idle -/

/-- The condition: the point is the last of its plane in a pass. -/
abbrev cond0_0 (i : grid0.Coords) : Prop := k0_cond1 i = 1#1
/-- It holds at the last three points of each pass. -/
theorem hcond0_0 : ∀ t : Fin cfg0.N, cond0_0 (grid0.coords t) ↔ t.val / 3 % 15 = 14 :=
  (fun t => by
    have ht : t.val < 135 := Nat.lt_of_lt_of_eq t.isLt N_0
    have e0 : (grid0.coords t 0).val = t.val / 45 % 3 := Pipeline.Grid.coords_val t 0 (by decide) rfl
    have e1 : (grid0.coords t 1).val = t.val / 3 % 15 := Pipeline.Grid.coords_val t 1 (by decide) rfl
    have e2 : (grid0.coords t 2).val = t.val / 1 % 3 := Pipeline.Grid.coords_val t 2 (by decide) rfl
    simp only [cond0_0, k0_cond1, e0, e1, e2]
    word_cmp
   : ∀ t : Fin grid0.N, cond0_0 (grid0.coords t) ↔ t.val / 3 % 15 = 14)

/-- The input window is never idle. -/
theorem liveAt0_0 : ∀ t : Fin cfg0.N, cfg0.idle 0 (grid0.coords t) = false := fun _ => rfl
/-- The output window is idle where the condition fails, -/
theorem idleAt0_1 : ∀ t : Fin cfg0.N, ¬cond0_0 (grid0.coords t) → cfg0.idle 1 (grid0.coords t) = true := by decide +kernel
/-- is not written back there, -/
theorem noFlush0_1 : ∀ t : Fin cfg0.N, ¬cond0_0 (grid0.coords t) → (cfg0.win 1).flush t = false := by decide +kernel
/-- and is live where it holds. -/
theorem liveAt0_1 : ∀ t : Fin cfg0.N, cond0_0 (grid0.coords t) → cfg0.idle 1 (grid0.coords t) = false := by decide +kernel

/-! ## The memrefs the body is run on -/

/-- Each window's current staging memref at point `t`, spelled as the pipeline passes it (`bodyAt0`), and its wholeness. -/
abbrev ms0_0 (t : Fin cfg0.N) : Memref sig .tc .vmem S64x128 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x960 .fp8e4m3 := win0_1.stage (cfg0.slots t 1)
abbrev hs0_1 (t : Fin cfg0.N) : (ms0_1 t).IsWhole := hstage0_1 ((cfg0.slots t 1).cast nbuf0_1)
/-- The scratch operands: whole scoped buffers of the kernel's own, passed beside the windows. -/
abbrev scM0_0 : Memref sig .tc .vmem S128x128 .i32 := Memref.whole cc0_scratch0
abbrev scM0_1 : Memref sig .tc .vmem S3x1024x128 .i32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Scale.Gen

end
-- ==== Proof.Scale.RunA.lean ====
/- The kernel body at a point that only stores its scales into its plane. -/
module

public import proofs.«01_k».proof.Proof.Scale.Runs

@[expose] public section

set_option maxRecDepth 16384

noncomputable section

namespace Cert.Scale.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

variable (m : (ℓ : Loc nD τ sig) → Buf (Elt F) ℓ) (ρ : Dev nD → PrngReg)

-- (the run's proof term is large: the definition's epilogue walks it past the default budget)
set_option maxHeartbeats 1600000 in
/-- The body at a point before the last of its plane: what it leaves in the planes, and that it runs to that. -/
noncomputable def kernelRun0_A (c : Dev nD) (i : grid0.Coords) (arg3 : Memref sig .tc .vmem S64x128 .i32) (harg3 : arg3.IsWhole) (arg4 : Memref sig .tc .vmem S512x960 .fp8e4m3) (harg4 : arg4.IsWhole) (arg5 : Memref sig .tc .vmem S128x128 .i32) (harg5 : arg5.IsWhole) (arg6 : Memref sig .tc .vmem S3x1024x128 .i32) (harg6 : arg6.IsWhole) (hc0 : ¬cond0_0 i)
    (x0 : Vec F S64x128 .i32) (xs1 : Vec F S3x1024x128 .i32) :
    { G6 : arg6.view.ty.Contents (Elt F) //
      ∀ (xi1 : Vec F S512x960 .fp8e4m3) (E : Set ℕ) (K : PUnit → sProp (MT nD τ sig Unit (Elt F) ℕ (UR sig nD τ) ℕ)),
        iprop(owns (c : Thread nD τ) arg3 fullShare x0 ∗ owns (c : Thread nD τ) arg4 fullShare xi1 ∗ (∃ d, owns (c : Thread nD τ) arg5 fullShare d) ∗ owns (c : Thread nD τ) arg6 fullShare xs1
            ∗ (iprop(owns (c : Thread nD τ) arg3 fullShare x0 ∗ owns (c : Thread nD τ) arg4 fullShare xi1 ∗ (∃ d, owns (c : Thread nD τ) arg5 fullShare d) ∗ (arg6.view.loc (c : Thread nD τ) ↦[arg6.view.set]{fullShare} G6)) -∗ K ⟨⟩))
          ⊢ wp frame (wpE (defs₀ (F := F)) Variants.none c none) E (cc0_main i arg3 harg3 arg4 harg4 arg5 harg5 arg6 harg6) K } := by
  refine ⟨?_, fun xi1 E K => ?run⟩
  case run =>
    simp only [cc0_main_eq_skeleton]; unfold cc0_main_skel
    simp only [k0_part5_eq_skeleton, k0_part6_eq_skeleton]
    unfold owns
    simp only [harg6.set_eq_univ]
    iintro ⟨⟨%f0, %hf0, H0⟩, ⟨%f1, %hf1, H1⟩, ⟨%d5, %f5, -, H5⟩, ⟨%fs1, %hfs1, HS1⟩, Hk⟩
    obtain rfl := harg3.eq_unread hf0; obtain rfl := harg4.eq_unread hf1; obtain rfl := harg6.eq_unread hfs1
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H5]
    · iexists _; iexists _; isplitr
      swap; · iexact H5
      ipureintro; rfl
    iexact HS1

end Cert.Scale.Gen

end
-- ==== Proof.Scale.RunB.lean ====
/- The kernel body at a point that ends a plane and stores the output block. -/
module

public import proofs.«01_k».proof.Proof.Scale.RunA

@[expose] public section

set_option maxRecDepth 16384

noncomputable section

namespace Cert.Scale.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

variable (m : (ℓ : Loc nD τ sig) → Buf (Elt F) ℓ) (ρ : Dev nD → PrngReg)

-- (the run's proof term is large: the definition's epilogue walks it past the default budget)
set_option maxHeartbeats 1600000 in
/-- The body at the last point of a plane: what it stores into the output block (last first), what it leaves in the planes, and that it runs to that. -/
noncomputable def kernelRun0_B (c : Dev nD) (i : grid0.Coords) (arg3 : Memref sig .tc .vmem S64x128 .i32) (harg3 : arg3.IsWhole) (arg4 : Memref sig .tc .vmem S512x960 .fp8e4m3) (harg4 : arg4.IsWhole) (arg5 : Memref sig .tc .vmem S128x128 .i32) (harg5 : arg5.IsWhole) (arg6 : Memref sig .tc .vmem S3x1024x128 .i32) (harg6 : arg6.IsWhole) (hc0 : cond0_0 i)
    (x0 : Vec F S64x128 .i32) (xs1 : Vec F S3x1024x128 .i32) :
    Σ' (L1 : List (View.Piece (Elt F) S512x960 .fp8e4m3)), { G6 : arg6.view.ty.Contents (Elt F) //
      ∀ (E : Set ℕ) (K : PUnit → sProp (MT nD τ sig Unit (Elt F) ℕ (UR sig nD τ) ℕ)),
        iprop(owns (c : Thread nD τ) arg3 fullShare x0 ∗ (∃ d, owns (c : Thread nD τ) arg4 fullShare d) ∗ (∃ d, owns (c : Thread nD τ) arg5 fullShare d) ∗ owns (c : Thread nD τ) arg6 fullShare xs1
            ∗ (iprop(owns (c : Thread nD τ) arg3 fullShare x0 ∗ (∃ f, arg4.view.loc (c : Thread nD τ) ↦[arg4.view.set]{fullShare} arg4.view.writes (Elt F) f L1) ∗ (∃ d, owns (c : Thread nD τ) arg5 fullShare d) ∗ (arg6.view.loc (c : Thread nD τ) ↦[arg6.view.set]{fullShare} G6)) -∗ K ⟨⟩))
          ⊢ wp frame (wpE (defs₀ (F := F)) Variants.none c none) E (cc0_main i arg3 harg3 arg4 harg4 arg5 harg5 arg6 harg6) K } := by
  refine ⟨?_, ?_, fun E K => ?run⟩
  case run =>
    simp only [cc0_main_eq_skeleton]; unfold cc0_main_skel
    simp only [k0_part5_eq_skeleton, k0_part6_eq_skeleton, k0_part1_eq_skeleton, k0_part2_eq_skeleton, k0_part3_eq_skeleton, k0_part4_eq_skeleton]
    unfold owns
    simp only [harg6.set_eq_univ]
    iintro ⟨⟨%f0, %hf0, H0⟩, ⟨%d1, %f1, -, H1⟩, ⟨%d5, %f5, -, H5⟩, ⟨%fs1, %hfs1, HS1⟩, Hk⟩
    obtain rfl := harg3.eq_unread hf0; obtain rfl := harg6.eq_unread hfs1
    sl_exec (disch := first | sl_exact hc0)
    sl_step
    iapply Hk
    isplitl [H0]
    · iexists _; isplitr; · ipureintro; exact harg3.read_unread _
      iexact H0
    isplitl [H1]
    · iexists _; iexact H1
    isplitl [H5]
    · iexists _; iexists _; isplitr
      swap; · iexact H5
      ipureintro; rfl
    iexact HS1

end Cert.Scale.Gen

end
-- ==== Proof.Scale.Sound.lean ====
/- The frame of the scale bytes' shuffle as written for the machine: it ends, every argument is left as it was. What the output block holds is not
   named here: no claim about this program reads it. -/
module

public import proofs.«01_k».proof.Proof.Scale.RunB
public import Idealize.ShloMosaic.Lib.Claim

@[expose] public section

set_option maxRecDepth 16384

noncomputable section

namespace Cert.Scale.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

variable (m : (ℓ : Loc nD τ sig) → Buf (Elt F) ℓ) (ρ : Dev nD → PrngReg)

/-- The output window is not followed. -/
def forgets0 : Fin 2 → Bool := fun w => w.val == 1

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, h⟩ => Pipeline.Dat.unnamed (cfg := cfg0) ⟨1, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

/-- What the body leaves in the input window. -/
theorem after0_0 (c : Dev nD) (t : Fin cfg0.N) : (dats m 0 c).after 0 t = iblk m c 0 t := by dsimp only [dats]

/-- The input's current staging buffer holds its block at every point. -/
theorem before0_0 (c : Dev nD) (t : Fin cfg0.N) (d) : (dats m 0 c).before 0 t d = iblk m c 0 t :=
  before0_0_of m (dats m 0 c) (A_eq m c 0) (after0_0 m c) t d

/-- What the body is called with at point `t`, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare d))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare (iblk m c 0 t)
    ∗ (∃ d, owns (c : Thread nD τ) (ms0_1 t) fullShare d))

set_option maxHeartbeats 3200000 in
/-- The body at any point: the closed form says which case the point is in, and the run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  iintro ⟨⟨⟨HS0, ⟨%s, HS1⟩⟩, Hg⟩, Ho, ⟨%d0, H0⟩, ⟨%d1, H1⟩⟩
  by_cases h1 : t.val / 3 % 15 = 14
  · iapply ((kernelRun0_B c (grid0.coords t) _ (hs0_0 t) _ (hs0_1 t) _ (Memref.isWhole_whole _) _ (Memref.isWhole_whole _) ((hcond0_0 t).mpr h1) (iblk m c 0 t) s).2.2 Set.univ _)
    isplitl [H0]; · iexact H0
    isplitl [H1]; · iexists _; iexact H1
    isplitl [HS0]; · iexact HS0
    isplitl [HS1]; · iexact HS1
    iintro ⟨H0, ⟨%e1, H1⟩, HS0, HS1⟩
    isplitl [HS0 HS1 Hg]
    · isplitl [HS0 HS1]
      · isplitl [HS0]; · iexact HS0
        iexists _; unfold owns; iexists _; isplitr
        swap; · iexact HS1
        ipureintro; rfl
      iexact Hg
    isplitl [Ho]; · iexact Ho
    isplitl [H0]; · iexact H0
    iexists _; unfold owns; iexists _; isplitr
    swap; · iexact H1
    ipureintro; rfl
  · iapply ((kernelRun0_A c (grid0.coords t) _ (hs0_0 t) _ (hs0_1 t) _ (Memref.isWhole_whole _) _ (Memref.isWhole_whole _) (fun h => h1 ((hcond0_0 t).mp h)) (iblk m c 0 t) s).2 _ Set.univ _)
    isplitl [H0]; · iexact H0
    isplitl [H1]; · iexact H1
    isplitl [HS0]; · iexact HS0
    isplitl [HS1]; · iexact HS1
    iintro ⟨H0, H1, HS0, HS1⟩
    isplitl [HS0 HS1 Hg]
    · isplitl [HS0 HS1]
      · isplitl [HS0]; · iexact HS0
        iexists _; unfold owns; iexists _; isplitr
        swap; · iexact HS1
        ipureintro; rfl
      iexact Hg
    isplitl [Ho]; · iexact Ho
    isplitl [H0]; · iexact H0
    iexists _; iexact H1

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c => (Pipeline.RDat.FramePost.arr_in h.1 c 0 rfl).trans ((A_eq m c 0).trans (V_main_arg0 m c)), h.2⟩) (run_main_quiescent m ρ)

end Cert.Scale.Gen

end
-- ==== Proof.ScaleIdeal.Runs.lean ====
/- What the runs of the kernel body share: the branch conditions in closed form over the grid points, where the output window is idle, and the buffers the body is called with. -/
module

public import proofs.«01_k».proof.Proof.Gen.ScaleIdeal.Frame
public import proofs.«01_k».proof.Proof.Gen.ScaleIdeal.Skeleton
public import Idealize.ShloMosaic.Lib.Tactic
public import Idealize.ShloMosaic.Lib.WordCmp

@[expose] public section

set_option maxRecDepth 16384

noncomputable section

namespace Cert.ScaleIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The body's branch condition, and where the output is idle -/

/-- The condition: the point is the last of its plane in a pass. -/
abbrev cond0_0 (i : grid0.Coords) : Prop := k0_cond1 i = 1#1
/-- It holds at the last three points of each pass. -/
theorem hcond0_0 : ∀ t : Fin cfg0.N, cond0_0 (grid0.coords t) ↔ t.val / 3 % 15 = 14 :=
  (fun t => by
    have ht : t.val < 135 := Nat.lt_of_lt_of_eq t.isLt N_0
    have e0 : (grid0.coords t 0).val = t.val / 45 % 3 := Pipeline.Grid.coords_val t 0 (by decide) rfl
    have e1 : (grid0.coords t 1).val = t.val / 3 % 15 := Pipeline.Grid.coords_val t 1 (by decide) rfl
    have e2 : (grid0.coords t 2).val = t.val / 1 % 3 := Pipeline.Grid.coords_val t 2 (by decide) rfl
    simp only [cond0_0, k0_cond1, e0, e1, e2]
    word_cmp
   : ∀ t : Fin grid0.N, cond0_0 (grid0.coords t) ↔ t.val / 3 % 15 = 14)

/-- The input window is never idle. -/
theorem liveAt0_0 : ∀ t : Fin cfg0.N, cfg0.idle 0 (grid0.coords t) = false := fun _ => rfl
/-- The output window is idle where the condition fails, -/
theorem idleAt0_1 : ∀ t : Fin cfg0.N, ¬cond0_0 (grid0.coords t) → cfg0.idle 1 (grid0.coords t) = true := by decide +kernel
/-- is not written back there, -/
theorem noFlush0_1 : ∀ t : Fin cfg0.N, ¬cond0_0 (grid0.coords t) → (cfg0.win 1).flush t = false := by decide +kernel
/-- and is live where it holds. -/
theorem liveAt0_1 : ∀ t : Fin cfg0.N, cond0_0 (grid0.coords t) → cfg0.idle 1 (grid0.coords t) = false := by decide +kernel

/-! ## The memrefs the body is run on -/

/-- Each window's current staging memref at point `t`, spelled as the pipeline passes it (`bodyAt0`), and its wholeness. -/
abbrev ms0_0 (t : Fin cfg0.N) : Memref sig .tc .vmem S64x128 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x960 .fp8e4m3 := win0_1.stage (cfg0.slots t 1)
abbrev hs0_1 (t : Fin cfg0.N) : (ms0_1 t).IsWhole := hstage0_1 ((cfg0.slots t 1).cast nbuf0_1)
/-- The scratch operands: whole scoped buffers of the kernel's own, passed beside the windows. -/
abbrev scM0_0 : Memref sig .tc .vmem S128x128 .i32 := Memref.whole cc0_scratch0
abbrev scM0_1 : Memref sig .tc .vmem S3x1024x128 .i32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.ScaleIdeal.Gen

end
-- ==== Proof.ScaleIdeal.RunA.lean ====
/- The kernel body at a point that only stores its scales into its plane. -/
module

public import proofs.«01_k».proof.Proof.ScaleIdeal.Runs

@[expose] public section

set_option maxRecDepth 16384

noncomputable section

namespace Cert.ScaleIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- (the run's proof term is large: the definition's epilogue walks it past the default budget)
set_option maxHeartbeats 1600000 in
/-- The body at a point before the last of its plane: what it leaves in the planes, and that it runs to that. -/
noncomputable def kernelRun0_A (c : Dev nD) (i : grid0.Coords) (arg3 : Memref sig .tc .vmem S64x128 .i32) (harg3 : arg3.IsWhole) (arg4 : Memref sig .tc .vmem S512x960 .fp8e4m3) (harg4 : arg4.IsWhole) (arg5 : Memref sig .tc .vmem S128x128 .i32) (harg5 : arg5.IsWhole) (arg6 : Memref sig .tc .vmem S3x1024x128 .i32) (harg6 : arg6.IsWhole) (hc0 : ¬cond0_0 i)
    (x0 : Vec F S64x128 .i32) (xs1 : Vec F S3x1024x128 .i32) :
    { G6 : arg6.view.ty.Contents (Elt F) //
      ∀ (xi1 : Vec F S512x960 .fp8e4m3) (E : Set ℕ) (K : PUnit → sProp (MT nD τ sig Unit (Elt F) ℕ (UR sig nD τ) ℕ)),
        iprop(owns (c : Thread nD τ) arg3 fullShare x0 ∗ owns (c : Thread nD τ) arg4 fullShare xi1 ∗ (∃ d, owns (c : Thread nD τ) arg5 fullShare d) ∗ owns (c : Thread nD τ) arg6 fullShare xs1
            ∗ (iprop(owns (c : Thread nD τ) arg3 fullShare x0 ∗ owns (c : Thread nD τ) arg4 fullShare xi1 ∗ (∃ d, owns (c : Thread nD τ) arg5 fullShare d) ∗ (arg6.view.loc (c : Thread nD τ) ↦[arg6.view.set]{fullShare} G6)) -∗ K ⟨⟩))
          ⊢ wp frame (wpE (defs₀ (F := F)) Variants.none c none) E (cc0_main i arg3 harg3 arg4 harg4 arg5 harg5 arg6 harg6) K } := by
  refine ⟨?_, fun xi1 E K => ?run⟩
  case run =>
    simp only [cc0_main_eq_skeleton]; unfold cc0_main_skel
    simp only [k0_part5_eq_skeleton, k0_part6_eq_skeleton]
    unfold owns
    simp only [harg6.set_eq_univ]
    iintro ⟨⟨%f0, %hf0, H0⟩, ⟨%f1, %hf1, H1⟩, ⟨%d5, %f5, -, H5⟩, ⟨%fs1, %hfs1, HS1⟩, Hk⟩
    obtain rfl := harg3.eq_unread hf0; obtain rfl := harg4.eq_unread hf1; obtain rfl := harg6.eq_unread hfs1
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H5]
    · iexists _; iexists _; isplitr
      swap; · iexact H5
      ipureintro; rfl
    iexact HS1

end Cert.ScaleIdeal.Gen

end
-- ==== Proof.ScaleIdeal.RunB.lean ====
/- The kernel body at a point that ends a plane and stores the output block. -/
module

public import proofs.«01_k».proof.Proof.ScaleIdeal.RunA

@[expose] public section

set_option maxRecDepth 16384

noncomputable section

namespace Cert.ScaleIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- (the run's proof term is large: the definition's epilogue walks it past the default budget)
set_option maxHeartbeats 1600000 in
/-- The body at the last point of a plane: what it stores into the output block (last first), what it leaves in the planes, and that it runs to that. -/
noncomputable def kernelRun0_B (c : Dev nD) (i : grid0.Coords) (arg3 : Memref sig .tc .vmem S64x128 .i32) (harg3 : arg3.IsWhole) (arg4 : Memref sig .tc .vmem S512x960 .fp8e4m3) (harg4 : arg4.IsWhole) (arg5 : Memref sig .tc .vmem S128x128 .i32) (harg5 : arg5.IsWhole) (arg6 : Memref sig .tc .vmem S3x1024x128 .i32) (harg6 : arg6.IsWhole) (hc0 : cond0_0 i)
    (x0 : Vec F S64x128 .i32) (xs1 : Vec F S3x1024x128 .i32) :
    Σ' (L1 : List (View.Piece (Elt F) S512x960 .fp8e4m3)), { G6 : arg6.view.ty.Contents (Elt F) //
      ∀ (E : Set ℕ) (K : PUnit → sProp (MT nD τ sig Unit (Elt F) ℕ (UR sig nD τ) ℕ)),
        iprop(owns (c : Thread nD τ) arg3 fullShare x0 ∗ (∃ d, owns (c : Thread nD τ) arg4 fullShare d) ∗ (∃ d, owns (c : Thread nD τ) arg5 fullShare d) ∗ owns (c : Thread nD τ) arg6 fullShare xs1
            ∗ (iprop(owns (c : Thread nD τ) arg3 fullShare x0 ∗ (∃ f, arg4.view.loc (c : Thread nD τ) ↦[arg4.view.set]{fullShare} arg4.view.writes (Elt F) f L1) ∗ (∃ d, owns (c : Thread nD τ) arg5 fullShare d) ∗ (arg6.view.loc (c : Thread nD τ) ↦[arg6.view.set]{fullShare} G6)) -∗ K ⟨⟩))
          ⊢ wp frame (wpE (defs₀ (F := F)) Variants.none c none) E (cc0_main i arg3 harg3 arg4 harg4 arg5 harg5 arg6 harg6) K } := by
  refine ⟨?_, ?_, fun E K => ?run⟩
  case run =>
    simp only [cc0_main_eq_skeleton]; unfold cc0_main_skel
    simp only [k0_part5_eq_skeleton, k0_part6_eq_skeleton, k0_part1_eq_skeleton, k0_part2_eq_skeleton, k0_part3_eq_skeleton, k0_part4_eq_skeleton]
    unfold owns
    simp only [harg6.set_eq_univ]
    iintro ⟨⟨%f0, %hf0, H0⟩, ⟨%d1, %f1, -, H1⟩, ⟨%d5, %f5, -, H5⟩, ⟨%fs1, %hfs1, HS1⟩, Hk⟩
    obtain rfl := harg3.eq_unread hf0; obtain rfl := harg6.eq_unread hfs1
    sl_exec (disch := first | sl_exact hc0)
    sl_step
    iapply Hk
    isplitl [H0]
    · iexists _; isplitr; · ipureintro; exact harg3.read_unread _
      iexact H0
    isplitl [H1]
    · iexists _; iexact H1
    isplitl [H5]
    · iexists _; iexists _; isplitr
      swap; · iexact H5
      ipureintro; rfl
    iexact HS1

end Cert.ScaleIdeal.Gen

end
-- ==== Proof.ScaleIdeal.Store.lean ====
/- What the eight stores of a point leave in the planes: the point's block in its own rows of its own plane, the rest as before. -/
module

public import proofs.«01_k».proof.Proof.ScaleIdeal.RunB
public import Idealize.ShloMosaic.Lib.WholeRead
public import Idealize.ShloMosaic.Lib.Pointwise
public import Idealize.ShloMosaic.Lib.ValueIdx

@[expose] public section

set_option maxRecDepth 16384

noncomputable section

namespace Cert.ScaleIdeal.Store

open Cert.ScaleIdeal Cert.ScaleIdeal.Gen Idealize.ShloMosaic Idealize.ShloMosaic.TcCoe Idealize.SL.Sem

variable {F : FTy → Type} [FloatOps F]

/-- The window of the planes a point stores through: its 64 rows of its plane. -/
abbrev win (arg6 : Memref sig .tc .vmem S3x1024x128 .i32) (i : grid0.Coords) : Memref sig .tc .vmem S64x128 .i32 :=
  (arg6.slice (Rect.unit (s := S3x1024x128) (k0_off1 i) S1x64x128.size (k0_off1_inb i)) (fun _ => rfl)).squeeze S64x128 squeezes_S1x64x128_S64x128

/-- Eight rows stored through it. -/
abbrev put (arg6 : Memref sig .tc .vmem S3x1024x128 .i32) (i : grid0.Coords) (a : Nat) (inb : ∀ d, (![a, 0] : Fin 2 → Nat) d + S8x128.size d ≤ S64x128.size d)
    (g : arg6.view.ty.Contents (Elt F)) (w : S8x128.Idx → BitVec 32) : arg6.view.ty.Contents (Elt F) :=
  ((win arg6 i).access (Rect.unit (s := S64x128) ![a, 0] S8x128.size inb)).write (Elt F) g w Finset.univ

theorem coord1_lt (i : grid0.Coords) : (i 1).val < 15 := (i 1).isLt
theorem coord2_lt (i : grid0.Coords) : (i 2).val < 3 := (i 2).isLt

theorem off_eq (i : grid0.Coords) : k0_off1 i = ![(i 2).val, 64 * (i 1).val, 0] := by
  have h1 := coord1_lt i
  have h2 := coord2_lt i
  unfold k0_off1
  generalize (i 1).val = a at *
  generalize (i 2).val = b at *
  funext d
  interval_cases a <;> interval_cases b <;> fin_cases d <;> rfl

/-- Where the window's element lies in the planes. -/
theorem emb_eq (arg6 : Memref sig .tc .vmem S3x1024x128 .i32) (i : grid0.Coords) (a : Nat) (inb : ∀ d, (![a, 0] : Fin 2 → Nat) d + S8x128.size d ≤ S64x128.size d)
    (r : Fin 8) (l : Fin 128) (U : Fin 3) (R : Fin 1024) (hU : U.val = (i 2).val) (hR : R.val = 64 * (i 1).val + a + r.val) :
    ((win arg6 i).access (Rect.unit (s := S64x128) ![a, 0] S8x128.size inb)).emb (ix2 r l : S8x128.Idx) = arg6.view.emb (ix3 U R l : S3x1024x128.Idx) := by
  have ha : a + 8 ≤ 64 := inb 0
  show arg6.view.emb ((Rect.unit (s := S3x1024x128) (k0_off1 i) S1x64x128.size (k0_off1_inb i)).emb (Shape.reshapeEquiv squeezes_S1x64x128_S64x128.numel_eq
    ((Rect.unit (s := S64x128) ![a, 0] S8x128.size inb).emb (ix2 r l : S8x128.Idx)))) = _
  refine congrArg _ ?_
  have e1 : (Rect.unit (s := S64x128) ![a, 0] S8x128.size inb).emb (ix2 r l : S8x128.Idx) = (ix2 (⟨a + r.val, by omega⟩ : Fin 64) l : S64x128.Idx) := by
    funext d
    refine Fin.ext ?_
    match d with
    | ⟨0, _⟩ => show a + 1 * r.val = a + r.val; omega
    | ⟨1, _⟩ => show 0 + 1 * l.val = l.val; omega
  rw [e1]
  have e2 : Shape.reshapeEquiv squeezes_S1x64x128_S64x128.numel_eq (ix2 (⟨a + r.val, by omega⟩ : Fin 64) l : S64x128.Idx)
      = (ix3 (0 : Fin 1) (⟨a + r.val, by omega⟩ : Fin 64) l : S1x64x128.Idx) := by
    apply S1x64x128.rowMajor.injective
    apply Fin.ext
    rw [Shape.rowMajor_reshapeEquiv, Shape.rowMajor_val_three, Shape.rowMajor_val_two]
    show (a + r.val) * 128 + l.val = (0 * 64 + (a + r.val)) * 128 + l.val
    omega
  rw [e2]
  funext d
  refine Fin.ext ?_
  show k0_off1 i d + 1 * ((ix3 (0 : Fin 1) (⟨a + r.val, by omega⟩ : Fin 64) l : S1x64x128.Idx) d).val = _
  rw [off_eq]
  match d with
  | ⟨0, _⟩ => show (i 2).val + 1 * 0 = U.val; omega
  | ⟨1, _⟩ => show 64 * (i 1).val + 1 * (a + r.val) = R.val; omega
  | ⟨2, _⟩ => show 0 + 1 * l.val = l.val; omega

theorem read_put_in (arg6 : Memref sig .tc .vmem S3x1024x128 .i32) (i : grid0.Coords) (a : Nat) (inb : ∀ d, (![a, 0] : Fin 2 → Nat) d + S8x128.size d ≤ S64x128.size d)
    (g : arg6.view.ty.Contents (Elt F)) (w : S8x128.Idx → BitVec 32) (r : Fin 8) (l : Fin 128) (U : Fin 3) (R : Fin 1024)
    (hU : U.val = (i 2).val) (hR : R.val = 64 * (i 1).val + a + r.val) :
    arg6.view.read (Elt F) (put arg6 i a inb g w) (ix3 U R l : S3x1024x128.Idx) = w (ix2 r l) := by
  have e := emb_eq arg6 i a inb r l U R hU hR
  have h := congrFun (View.read_write_univ (Val := Elt F) (v := (win arg6 i).access (Rect.unit (s := S64x128) ![a, 0] S8x128.size inb)) g w) (ix2 r l)
  rw [← h, View.read_apply, View.read_apply, ← e]

theorem read_put_out (arg6 : Memref sig .tc .vmem S3x1024x128 .i32) (i : grid0.Coords) (a : Nat) (inb : ∀ d, (![a, 0] : Fin 2 → Nat) d + S8x128.size d ≤ S64x128.size d)
    (g : arg6.view.ty.Contents (Elt F)) (w : S8x128.Idx → BitVec 32) (l : Fin 128) (U : Fin 3) (R : Fin 1024)
    (h : ¬(U.val = (i 2).val ∧ 64 * (i 1).val + a ≤ R.val ∧ R.val < 64 * (i 1).val + a + 8)) :
    arg6.view.read (Elt F) (put arg6 i a inb g w) (ix3 U R l : S3x1024x128.Idx) = arg6.view.read (Elt F) g (ix3 U R l) := by
  have ha : a + 8 ≤ 64 := inb 0
  have h1 := coord1_lt i
  have h2 := coord2_lt i
  rw [View.read_apply, View.read_apply]
  have hn : arg6.view.emb (ix3 U R l : S3x1024x128.Idx) ∉ ((win arg6 i).access (Rect.unit (s := S64x128) ![a, 0] S8x128.size inb)).setOn Finset.univ := by
    intro hm
    obtain ⟨x, -, hx⟩ := Finset.mem_map.mp hm
    obtain ⟨r, l', rfl⟩ : ∃ (r : Fin 8) (l' : Fin 128), x = (ix2 r l' : S8x128.Idx) := ⟨x 0, x 1, by funext d; match d with | ⟨0, _⟩ => rfl | ⟨1, _⟩ => rfl⟩
    rw [emb_eq arg6 i a inb r l' (⟨(i 2).val, h2⟩ : Fin 3) (⟨64 * (i 1).val + a + r.val, by omega⟩ : Fin 1024) rfl rfl] at hx
    have hx' := arg6.view.emb.injective hx
    have q0 : (i 2).val = U.val := congrArg Fin.val (congrFun hx' 0)
    have q1 : 64 * (i 1).val + a + r.val = R.val := congrArg Fin.val (congrFun hx' 1)
    exact h ⟨by omega, by omega, by omega⟩
  exact congrArg _ (View.write_of_not_mem (Val := Elt F) _ _ _ hn)

/-- The first `n` rows of the point's block are in place, and the rest of the planes is as before. -/
def Filled (arg6 : Memref sig .tc .vmem S3x1024x128 .i32) (i : grid0.Coords) (x : S64x128.Idx → BitVec 32) (s : S3x1024x128.Idx → BitVec 32) (n : Nat)
    (g : arg6.view.ty.Contents (Elt F)) : Prop :=
  (∀ (U : Fin 3) (R : Fin 1024) (l : Fin 128) (r : Fin 64), U.val = (i 2).val → R.val = 64 * (i 1).val + r.val → r.val < n →
    arg6.view.read (Elt F) g (ix3 U R l : S3x1024x128.Idx) = x (ix2 r l))
  ∧ ∀ (U : Fin 3) (R : Fin 1024) (l : Fin 128), ¬(U.val = (i 2).val ∧ 64 * (i 1).val ≤ R.val ∧ R.val < 64 * (i 1).val + n) →
    arg6.view.read (Elt F) g (ix3 U R l : S3x1024x128.Idx) = s (ix3 U R l)

theorem filled_zero (arg6 : Memref sig .tc .vmem S3x1024x128 .i32) (harg6 : arg6.IsWhole) (i : grid0.Coords) (x : S64x128.Idx → BitVec 32) (s : S3x1024x128.Idx → BitVec 32) :
    Filled (F := F) arg6 i x s 0 (harg6.unread (Val := Elt F) s) :=
  ⟨fun _ _ _ r _ _ h => absurd h (Nat.not_lt_zero _), fun U R l _ => congrFun (harg6.read_unread (Val := Elt F) s) _⟩

theorem filled_put (arg6 : Memref sig .tc .vmem S3x1024x128 .i32) (i : grid0.Coords) (x : S64x128.Idx → BitVec 32) (s : S3x1024x128.Idx → BitVec 32) (n : Nat)
    (g : arg6.view.ty.Contents (Elt F)) (inb : ∀ d, (![n, 0] : Fin 2 → Nat) d + S8x128.size d ≤ S64x128.size d) (w : S8x128.Idx → BitVec 32)
    (hg : Filled arg6 i x s n g) (hw : ∀ (r : Fin 8) (l : Fin 128) (r' : Fin 64), r'.val = n + r.val → w (ix2 r l) = x (ix2 r' l)) :
    Filled arg6 i x s (n + 8) (put arg6 i n inb g w) := by
  have ha : n + 8 ≤ 64 := inb 0
  refine ⟨fun U R l r hU hR hr => ?_, fun U R l h => ?_⟩
  · by_cases hn : r.val < n
    · rw [read_put_out arg6 i n inb g w l U R (by omega)]
      exact hg.1 U R l r hU hR hn
    · rw [read_put_in arg6 i n inb g w (⟨r.val - n, by omega⟩ : Fin 8) l U R hU (by show R.val = 64 * (i 1).val + n + (r.val - n); omega)]
      exact hw _ l r (by show r.val = n + (r.val - n); omega)
  · rw [read_put_out arg6 i n inb g w l U R (by omega)]
    exact hg.2 U R l (by omega)

/-- Eight rows of the block read off its buffer. -/
theorem rows_apply (arg3 : Memref sig .tc .vmem S64x128 .i32) (harg3 : arg3.IsWhole) (x : S64x128.Idx → BitVec 32) (n : Nat)
    (inb : ∀ d, (![n, 0] : Fin 2 → Nat) d + S8x128.size d ≤ S64x128.size d) (r : Fin 8) (l : Fin 128) (r' : Fin 64) (h : r'.val = n + r.val) :
    (shapeCast S8x128 (View.readAt (Elt F) arg3.view (Rect.unit (s := S64x128) ![n, 0] S8x128.size inb).toLoadRect (harg3.unread (Val := Elt F) x) : S8x128.Idx → BitVec 32)
      shapeCasts_S8x128_S8x128) (ix2 r l) = x (ix2 r' l) := by
  rw [shapeCast_apply _ shapeCasts_S8x128_S8x128 _ (ix2 r l : S8x128.Idx) rfl]
  refine (harg3.readAt_unread (Val := Elt F) x (Rect.unit (s := S64x128) ![n, 0] S8x128.size inb).toLoadRect (ix2 r l)).trans ?_
  show x _ = x _
  refine congrArg x ?_
  funext d
  refine Fin.ext ?_
  match d with
  | ⟨0, _⟩ => show n + 1 * r.val = r'.val; omega
  | ⟨1, _⟩ => show 0 + 1 * l.val = l.val; omega

/-- What a point before the last of its plane leaves in the planes. -/
theorem run_A (c : Dev nD) (i : grid0.Coords) (arg3 : Memref sig .tc .vmem S64x128 .i32) (harg3 : arg3.IsWhole) (arg4 : Memref sig .tc .vmem S512x960 .fp8e4m3) (harg4 : arg4.IsWhole)
    (arg5 : Memref sig .tc .vmem S128x128 .i32) (harg5 : arg5.IsWhole) (arg6 : Memref sig .tc .vmem S3x1024x128 .i32) (harg6 : arg6.IsWhole) (hc0 : ¬cond0_0 i) (x0 : Vec F S64x128 .i32) (xs1 : Vec F S3x1024x128 .i32) :
    Filled (F := F) arg6 i x0 xs1 64 (kernelRun0_A c i arg3 harg3 arg4 harg4 arg5 harg5 arg6 harg6 hc0 x0 xs1).1 :=
  filled_put arg6 i x0 xs1 56 _ _ _ (filled_put arg6 i x0 xs1 48 _ _ _ (filled_put arg6 i x0 xs1 40 _ _ _ (filled_put arg6 i x0 xs1 32 _ _ _ (filled_put arg6 i x0 xs1 24 _ _ _ (filled_put arg6 i x0 xs1 16 _ _ _ (filled_put arg6 i x0 xs1 8 _ _ _ (filled_put arg6 i x0 xs1 0 _ _ _ (filled_zero arg6 harg6 i x0 xs1) (fun r l r' h => rows_apply arg3 harg3 x0 0 _ r l r' h)) (fun r l r' h => rows_apply arg3 harg3 x0 8 _ r l r' h)) (fun r l r' h => rows_apply arg3 harg3 x0 16 _ r l r' h)) (fun r l r' h => rows_apply arg3 harg3 x0 24 _ r l r' h)) (fun r l r' h => rows_apply arg3 harg3 x0 32 _ r l r' h)) (fun r l r' h => rows_apply arg3 harg3 x0 40 _ r l r' h)) (fun r l r' h => rows_apply arg3 harg3 x0 48 _ r l r' h)) (fun r l r' h => rows_apply arg3 harg3 x0 56 _ r l r' h)

/-- What a point that ends its plane leaves in the planes. -/
theorem run_B (c : Dev nD) (i : grid0.Coords) (arg3 : Memref sig .tc .vmem S64x128 .i32) (harg3 : arg3.IsWhole) (arg4 : Memref sig .tc .vmem S512x960 .fp8e4m3) (harg4 : arg4.IsWhole)
    (arg5 : Memref sig .tc .vmem S128x128 .i32) (harg5 : arg5.IsWhole) (arg6 : Memref sig .tc .vmem S3x1024x128 .i32) (harg6 : arg6.IsWhole) (hc0 : cond0_0 i) (x0 : Vec F S64x128 .i32) (xs1 : Vec F S3x1024x128 .i32) :
    Filled (F := F) arg6 i x0 xs1 64 (kernelRun0_B c i arg3 harg3 arg4 harg4 arg5 harg5 arg6 harg6 hc0 x0 xs1).2.1 :=
  filled_put arg6 i x0 xs1 56 _ _ _ (filled_put arg6 i x0 xs1 48 _ _ _ (filled_put arg6 i x0 xs1 40 _ _ _ (filled_put arg6 i x0 xs1 32 _ _ _ (filled_put arg6 i x0 xs1 24 _ _ _ (filled_put arg6 i x0 xs1 16 _ _ _ (filled_put arg6 i x0 xs1 8 _ _ _ (filled_put arg6 i x0 xs1 0 _ _ _ (filled_zero arg6 harg6 i x0 xs1) (fun r l r' h => rows_apply arg3 harg3 x0 0 _ r l r' h)) (fun r l r' h => rows_apply arg3 harg3 x0 8 _ r l r' h)) (fun r l r' h => rows_apply arg3 harg3 x0 16 _ r l r' h)) (fun r l r' h => rows_apply arg3 harg3 x0 24 _ r l r' h)) (fun r l r' h => rows_apply arg3 harg3 x0 32 _ r l r' h)) (fun r l r' h => rows_apply arg3 harg3 x0 40 _ r l r' h)) (fun r l r' h => rows_apply arg3 harg3 x0 48 _ r l r' h)) (fun r l r' h => rows_apply arg3 harg3 x0 56 _ r l r' h)

end Cert.ScaleIdeal.Store

end
-- ==== Proof.ScaleIdeal.Pieces.lean ====
/- The stores of a point that ends a plane into its output block, written as one function, and the block they leave, read at an index. -/
module

public import proofs.«01_k».proof.Proof.Pack.Bits
public import proofs.«01_k».proof.Proof.ScaleIdeal.Store
public import Idealize.ShloMosaic.Lib.Pipeline.ValueKit

@[expose] public section

set_option maxRecDepth 16384

noncomputable section

namespace Cert.ScaleIdeal.Pieces

open Cert.ScaleIdeal Cert.ScaleIdeal.Gen Idealize.ShloMosaic Idealize.ShloMosaic.TcCoe Idealize.SL.Sem
open Cert.Pack.Bits (byteAt byteAt_merge bitcast_bytes)

variable {F : FTy → Type} [FloatOps F]

/-- Half `e` of two rows of words side by side. -/
def merge {s : Shape} : Nat → IVec s 32 → IVec s 32 → IVec s 32
  | 0, a, b => packElementwiseI16 a b
  | _ + 1, a, b => ori (shrui a (broadcast s 16#32)) (andi b (broadcast s 4294901760#32))

omit [FloatOps F] in
theorem merge_apply {s : Shape} (e : Nat) (a b : IVec s 32) (i : s.Idx) : merge e a b i = Cert.Pack.Bits.merge e (a i) (b i) := by
  cases e with
  | zero => exact packElementwiseI16_apply a b i
  | succ e =>
    show IntOp.ori (IntOp.shrui .vector (a i) 16#32) (IntOp.andi (b i) 4294901760#32) = _
    simp [IntOp.ori, IntOp.shrui, IntOp.andi, Cert.Pack.Bits.merge]

/-- The bytes of the words of a narrower tile. -/
theorem bitcast_bytes_narrow (W : S64x64.Idx → BitVec 32) (h : S64x64.Bitcasts 32 S256x64 8) (r : Fin 256) (l : Fin 64) :
    bitcast S256x64 8 W h (ix2 r l) = byteAt (W (ix2 (⟨r.val / 4, by omega⟩ : Fin 64) l)) (r.val % 4) := by
  apply BitVec.eq_of_getLsbD_eq
  intro i hi
  have hr := r.isLt
  have hrow : S256x64.row (ix2 r l) = r.val := rfl
  rw [bitcast_getLsbD _ _ _ i hi (by decide)]
  unfold byteAt
  rw [BitVec.getLsbD_extractLsb']
  simp only [hi, decide_true, Bool.true_and]
  have e : (S256x64.row (ix2 r l) * 8 + i) % 32 = 8 * (r.val % 4) + i := by rw [hrow]; omega
  rw [e]
  congr 2
  funext c
  match c with
  | ⟨0, _⟩ =>
    refine Fin.ext ((h.srcIdx_row _ _ _ ⟨0, Nat.zero_lt_two⟩ rfl).trans ?_)
    show (S256x64.row (ix2 r l) * 8 + i) / 32 = r.val / 4
    rw [hrow]; omega
  | ⟨1, _⟩ => exact Fin.ext (h.srcIdx_other _ _ _ ⟨1, Nat.one_lt_two⟩ (by show ¬ 1 + 2 = 2; omega))

/-- Where tile `j` of the point's plane begins. -/
def off (i : grid0.Coords) (j : Nat) : Fin 3 → Nat := ![(Scalar.indexCast (BitVec.ofNat 32 (i 2).val)).toNat, 128 * j, 0]

theorem off_val (i : grid0.Coords) : (Scalar.indexCast (BitVec.ofNat 32 (i 2).val)).toNat = (i 2).val := by
  have h := Store.coord2_lt i
  generalize (i 2).val = a at *
  interval_cases a <;> rfl

theorem off_inb (i : grid0.Coords) (j : Nat) (hj : j < 8) : ∀ a, off i j a + S1x128x128.size a ≤ S3x1024x128.size a := by
  have h := Store.coord2_lt i
  have e := off_val i
  intro a
  match a with
  | ⟨0, _⟩ => show (Scalar.indexCast (BitVec.ofNat 32 (i 2).val)).toNat + 1 ≤ 3; omega
  | ⟨1, _⟩ => show 128 * j + 128 ≤ 1024; omega
  | ⟨2, _⟩ => show 0 + 128 ≤ 128; omega

theorem out_inb (e j : Nat) (he : e < 2) (hj : j < 7) :
    ∀ a, (![256 * e, 128 * j] : Fin 2 → Nat) a + S256x128.size a ≤ S512x960.size a := by
  intro a; fin_cases a <;> simp [S256x128, S512x960] <;> omega

theorem last_inb (e : Nat) (he : e < 2) :
    ∀ a, (![256 * e, 896] : Fin 2 → Nat) a + S256x64.size a ≤ S512x960.size a := by
  intro a; fin_cases a <;> simp [S256x64, S512x960] <;> omega

section
variable (i : grid0.Coords) (arg5 : Memref sig .tc .vmem S128x128 .i32) (arg6 : Memref sig .tc .vmem S3x1024x128 .i32) (g : arg6.view.ty.Contents (Elt F))

/-- Tile `j` of the point's plane, transposed. -/
def turned (j : Nat) (hj : j < 8) : IVec S128x128 32 :=
  shapeCast S128x128 (transpose S128x128 [1, 0] (shapeCast S128x128
      (View.readAt (Elt F) arg6.view (Rect.unit (s := S3x1024x128) (off i j) S1x128x128.size (off_inb i j hj)).toLoadRect g : S1x128x128.Idx → BitVec 32) shapeCasts_S1x128x128_S128x128)
    transposes_S128x128_p1_0_S128x128) shapeCasts_S128x128_S128x128

/-- The stores into the stage up to tile `n`, the last first. -/
def turnedStores : (n : Nat) → n < 8 → List (View.Piece (Elt F) S128x128 .i32)
  | 0, _ => [⟨Rect.unit ![0, 0] S128x128.size inb_S128x128_S128x128_0_0, turned i arg6 g 0 (by decide)⟩]
  | n + 1, h => ⟨Rect.unit ![0, 0] S128x128.size inb_S128x128_S128x128_0_0, turned i arg6 g (n + 1) h⟩ :: turnedStores n (by omega)

/-- The even rows, and the odd rows, of the stage. -/
def evenRows (j : Nat) (hj : j < 8) : IVec S64x128 32 :=
  arg5.view.readCov (turnedStores i arg6 g j hj) (⟨![0, 0], S64x128.size, ![2, 1], inb_S128x128_S64x128_0_0_s_2_1⟩ : LoadRect S128x128)
def oddRows (j : Nat) (hj : j < 8) : IVec S64x128 32 :=
  arg5.view.readCov (turnedStores i arg6 g j hj) (⟨![1, 0], S64x128.size, ![2, 1], inb_S128x128_S64x128_1_0_s_2_1⟩ : LoadRect S128x128)

/-- The store of token half `e` of tile `j` into the output block, -/
def piece (e j : Nat) (he : e < 2) (hj : j < 7) : View.Piece (Elt F) S512x960 .fp8e4m3 :=
  ⟨Rect.unit ![256 * e, 128 * j] S256x128.size (out_inb e j he hj),
    bitcastToFloat .fp8e4m3 (bitcast S256x128 8 (merge e (evenRows i arg5 arg6 g j (by omega)) (oddRows i arg5 arg6 g j (by omega))) bitcasts_S64x128_w32_S256x128_w8)⟩

/-- and of the last tile, half of whose columns are there. -/
def lastPiece (e : Nat) (he : e < 2) : View.Piece (Elt F) S512x960 .fp8e4m3 :=
  ⟨Rect.unit ![256 * e, 896] S256x64.size (last_inb e he),
    bitcastToFloat .fp8e4m3 (bitcast S256x64 8 (extractStridedSlice S64x64 ![0, 0] (merge e (evenRows i arg5 arg6 g 7 (by omega)) (oddRows i arg5 arg6 g 7 (by omega)))
      slices_S64x128_o0_0_S64x64) bitcasts_S64x64_w32_S256x64_w8)⟩

/-- The stores of the first `n` tiles, the last first. -/
def tiles : (n : Nat) → n ≤ 7 → List (View.Piece (Elt F) S512x960 .fp8e4m3)
  | 0, _ => []
  | n + 1, h => piece i arg5 arg6 g 1 n (by decide) h :: piece i arg5 arg6 g 0 n (by decide) h :: tiles n (Nat.le_of_lt h)

/-- All the stores. -/
def allPieces : List (View.Piece (Elt F) S512x960 .fp8e4m3) :=
  lastPiece i arg5 arg6 g 1 (by decide) :: lastPiece i arg5 arg6 g 0 (by decide) :: tiles i arg5 arg6 g 7 (by decide)

/-- The stores the point makes are these. -/
theorem run_pieces (c : Dev nD) (arg3 : Memref sig .tc .vmem S64x128 .i32) (harg3 : arg3.IsWhole) (arg4 : Memref sig .tc .vmem S512x960 .fp8e4m3) (harg4 : arg4.IsWhole)
    (harg5 : arg5.IsWhole) (harg6 : arg6.IsWhole) (hc0 : cond0_0 i) (x0 : Vec F S64x128 .i32) (xs1 : Vec F S3x1024x128 .i32) :
    (kernelRun0_B c i arg3 harg3 arg4 harg4 arg5 harg5 arg6 harg6 hc0 x0 xs1).1
      = allPieces i arg5 arg6 (kernelRun0_B c i arg3 harg3 arg4 harg4 arg5 harg5 arg6 harg6 hc0 x0 xs1).2.1 := by
  sl_kernel_rfl

/-- A tile transposed: row `l`, column `c`. -/
theorem turned_apply (j : Nat) (hj : j < 8) (l c : Fin 128) :
    turned i arg6 g j hj (ix2 l c) = arg6.view.read (Elt F) g (ix3 (⟨(i 2).val, Store.coord2_lt i⟩ : Fin 3) (⟨128 * j + c.val, by omega⟩ : Fin 1024) l : S3x1024x128.Idx) := by
  unfold turned
  rw [shapeCast_self, transpose_apply [1, 0] _ transposes_S128x128_p1_0_S128x128 (ix2 l c) (ix2 c l : S128x128.Idx) (by
    intro b
    match b with
    | ⟨0, _⟩ => rfl
    | ⟨1, _⟩ => rfl)]
  rw [shapeCast_apply _ shapeCasts_S1x128x128_S128x128 _ (ix3 (0 : Fin 1) c l : S1x128x128.Idx) (by
    rw [Shape.rowMajor_val_three, Shape.rowMajor_val_two]
    show (0 * 128 + c.val) * 128 + l.val = c.val * 128 + l.val
    omega)]
  show arg6.view.read (Elt F) g _ = _
  refine congrArg _ ?_
  funext d
  refine Fin.ext ?_
  have e := off_val i
  match d with
  | ⟨0, _⟩ => show (Scalar.indexCast (BitVec.ofNat 32 (i 2).val)).toNat + 1 * 0 = (i 2).val; omega
  | ⟨1, _⟩ => show 128 * j + 1 * c.val = 128 * j + c.val; omega
  | ⟨2, _⟩ => show 0 + 1 * l.val = l.val; omega

theorem hz : ∀ a, (![0, 0] : Fin 2 → Nat) a = 0 := fun a => by fin_cases a <;> rfl

theorem canon_turned (j : Nat) (hj : j < 8) : View.canon (turnedStores i arg6 g j hj) = turned i arg6 g j hj := by
  cases j with
  | zero => unfold turnedStores; exact View.canon_cons_unit_lit inb_S128x128_S128x128_0_0 _ _ hz
  | succ j => unfold turnedStores; exact View.canon_cons_unit_lit inb_S128x128_S128x128_0_0 _ _ hz

theorem even_apply (j : Nat) (hj : j < 8) (k : Fin 64) (c : Fin 128) :
    evenRows i arg5 arg6 g j hj (ix2 k c)
      = arg6.view.read (Elt F) g (ix3 (⟨(i 2).val, Store.coord2_lt i⟩ : Fin 3) (⟨128 * j + c.val, by omega⟩ : Fin 1024) (⟨2 * k.val, by omega⟩ : Fin 128) : S3x1024x128.Idx) := by
  unfold evenRows
  rw [View.readCov_eq_canon', canon_turned, ← turned_apply i arg6 g j hj (⟨2 * k.val, by omega⟩ : Fin 128) c]
  refine congrArg _ ?_
  funext d
  match d with
  | ⟨0, _⟩ => exact Fin.ext (show 0 + 2 * k.val = 2 * k.val by omega)
  | ⟨1, _⟩ => exact Fin.ext (show 0 + 1 * c.val = c.val by omega)

theorem odd_apply (j : Nat) (hj : j < 8) (k : Fin 64) (c : Fin 128) :
    oddRows i arg5 arg6 g j hj (ix2 k c)
      = arg6.view.read (Elt F) g (ix3 (⟨(i 2).val, Store.coord2_lt i⟩ : Fin 3) (⟨128 * j + c.val, by omega⟩ : Fin 1024) (⟨2 * k.val + 1, by omega⟩ : Fin 128) : S3x1024x128.Idx) := by
  unfold oddRows
  rw [View.readCov_eq_canon', canon_turned, ← turned_apply i arg6 g j hj (⟨2 * k.val + 1, by omega⟩ : Fin 128) c]
  refine congrArg _ ?_
  funext d
  match d with
  | ⟨0, _⟩ => exact Fin.ext (show 1 + 2 * k.val = 2 * k.val + 1 by omega)
  | ⟨1, _⟩ => exact Fin.ext (show 0 + 1 * c.val = c.val by omega)

/-- A byte of half `e` of tile `j`. -/
theorem merged_byte (e j : Nat) (he : e < 2) (hj : j < 8) (r : Fin 256) (c : Fin 128) :
    byteAt (merge e (evenRows i arg5 arg6 g j hj) (oddRows i arg5 arg6 g j hj) (ix2 (⟨r.val / 4, by omega⟩ : Fin 64) c)) (r.val % 4)
      = byteAt (arg6.view.read (Elt F) g (ix3 (⟨(i 2).val, Store.coord2_lt i⟩ : Fin 3) (⟨128 * j + c.val, by omega⟩ : Fin 1024) (⟨r.val / 2, by omega⟩ : Fin 128) : S3x1024x128.Idx))
        (2 * e + r.val % 2) := by
  have hr := r.isLt
  rw [merge_apply, byteAt_merge e _ he (Nat.mod_lt _ (by decide)), even_apply, odd_apply]
  have f4 : r.val % 4 % 2 = r.val % 2 := by omega
  by_cases hq : r.val % 4 < 2
  · rw [if_pos hq]
    have f5 : 2 * (r.val / 4) = r.val / 2 := by omega
    simp only [f4, f5]
  · rw [if_neg hq]
    have f5 : 2 * (r.val / 4) + 1 = r.val / 2 := by omega
    simp only [f4, f5]

/-- What stands at row `r`, column `q` of the output block: a byte of a word of the plane `s`, as a scale. -/
def outAt (s : S3x1024x128.Idx → BitVec 32) (y : S512x960.Idx) : F .fp8e4m3 :=
  FloatOps.ofBits .fp8e4m3 (byteAt (s (ix3 (⟨(i 2).val, Store.coord2_lt i⟩ : Fin 3) (⟨(y 1).val, Nat.lt_trans (y 1).isLt (by decide)⟩ : Fin 1024)
    (⟨(y 0).val % 256 / 2, by omega⟩ : Fin 128))) (2 * ((y 0).val / 256) + (y 0).val % 2))

/-- Every store writes `outAt` at its own indices. -/
theorem piece_value (e j : Nat) (he : e < 2) (hj : j < 7) (x : (piece i arg5 arg6 g e j he hj).1.shape.Idx) :
    (piece i arg5 arg6 g e j he hj).2 x = outAt (F := F) i (arg6.view.read (Elt F) g) ((piece i arg5 arg6 g e j he hj).1.emb x) := by
  obtain ⟨r, c, rfl⟩ : ∃ (r : Fin 256) (c : Fin 128), x = (ix2 r c : S256x128.Idx) :=
    ⟨x 0, x 1, by funext d; match d with | ⟨0, _⟩ => rfl | ⟨1, _⟩ => rfl⟩
  have hr := r.isLt
  have hc := c.isLt
  have e0 : (piece i arg5 arg6 g e j he hj).1.emb (ix2 r c : S256x128.Idx)
      = (ix2 (⟨256 * e + r.val, by omega⟩ : Fin 512) (⟨128 * j + c.val, by omega⟩ : Fin 960) : S512x960.Idx) := by
    funext d
    match d with
    | ⟨0, _⟩ => exact Fin.ext (show 256 * e + 1 * r.val = _ by simp)
    | ⟨1, _⟩ => exact Fin.ext (show 128 * j + 1 * c.val = _ by simp)
  rw [e0]
  show FloatOps.ofBits .fp8e4m3 (bitcast S256x128 8 (merge e (evenRows i arg5 arg6 g j (by omega)) (oddRows i arg5 arg6 g j (by omega))) bitcasts_S64x128_w32_S256x128_w8 (ix2 r c)) = _
  refine congrArg (FloatOps.ofBits .fp8e4m3) ((bitcast_bytes _ _ r c).trans ?_)
  rw [merged_byte i arg5 arg6 g e j he (by omega) r c]
  have f1 : (256 * e + r.val) % 256 / 2 = r.val / 2 := by omega
  have f2 : (256 * e + r.val) / 256 = e := by omega
  have f3 : (256 * e + r.val) % 2 = r.val % 2 := by omega
  show _ = byteAt (arg6.view.read (Elt F) g (ix3 _ (⟨128 * j + c.val, _⟩ : Fin 1024) (⟨(256 * e + r.val) % 256 / 2, _⟩ : Fin 128))) (2 * ((256 * e + r.val) / 256) + (256 * e + r.val) % 2)
  simp only [f1, f2, f3]

theorem lastPiece_value (e : Nat) (he : e < 2) (x : (lastPiece i arg5 arg6 g e he).1.shape.Idx) :
    (lastPiece i arg5 arg6 g e he).2 x = outAt (F := F) i (arg6.view.read (Elt F) g) ((lastPiece i arg5 arg6 g e he).1.emb x) := by
  obtain ⟨r, c, rfl⟩ : ∃ (r : Fin 256) (c : Fin 64), x = (ix2 r c : S256x64.Idx) :=
    ⟨x 0, x 1, by funext d; match d with | ⟨0, _⟩ => rfl | ⟨1, _⟩ => rfl⟩
  have hr := r.isLt
  have hc := c.isLt
  have e0 : (lastPiece i arg5 arg6 g e he).1.emb (ix2 r c : S256x64.Idx)
      = (ix2 (⟨256 * e + r.val, by omega⟩ : Fin 512) (⟨128 * 7 + c.val, by omega⟩ : Fin 960) : S512x960.Idx) := by
    funext d
    match d with
    | ⟨0, _⟩ => exact Fin.ext (show 256 * e + 1 * r.val = _ by simp)
    | ⟨1, _⟩ => exact Fin.ext (show 896 + 1 * c.val = 128 * 7 + c.val by omega)
  rw [e0]
  show FloatOps.ofBits .fp8e4m3 (bitcast S256x64 8 (extractStridedSlice S64x64 ![0, 0] (merge e (evenRows i arg5 arg6 g 7 (by omega)) (oddRows i arg5 arg6 g 7 (by omega)))
      slices_S64x128_o0_0_S64x64) bitcasts_S64x64_w32_S256x64_w8 (ix2 r c)) = _
  refine congrArg (FloatOps.ofBits .fp8e4m3) ((bitcast_bytes_narrow _ _ r c).trans ?_)
  rw [extractStridedSlice_apply ![0, 0] _ slices_S64x128_o0_0_S64x64 (ix2 (⟨r.val / 4, by omega⟩ : Fin 64) c) (ix2 (⟨r.val / 4, by omega⟩ : Fin 64) (⟨c.val, by omega⟩ : Fin 128) : S64x128.Idx) (by
    intro a
    match a with
    | ⟨0, _⟩ => show r.val / 4 = 0 + r.val / 4; omega
    | ⟨1, _⟩ => show c.val = 0 + c.val; omega)]
  rw [merged_byte i arg5 arg6 g e 7 he (by omega) r (⟨c.val, by omega⟩ : Fin 128)]
  have f1 : (256 * e + r.val) % 256 / 2 = r.val / 2 := by omega
  have f2 : (256 * e + r.val) / 256 = e := by omega
  have f3 : (256 * e + r.val) % 2 = r.val % 2 := by omega
  show _ = byteAt (arg6.view.read (Elt F) g (ix3 _ (⟨128 * 7 + c.val, _⟩ : Fin 1024) (⟨(256 * e + r.val) % 256 / 2, _⟩ : Fin 128))) (2 * ((256 * e + r.val) / 256) + (256 * e + r.val) % 2)
  simp only [f1, f2, f3]

theorem tiles_all (P : View.Piece (Elt F) S512x960 .fp8e4m3 → Prop)
    (hP : ∀ e j (he : e < 2) (hj : j < 7), P (piece i arg5 arg6 g e j he hj)) :
    ∀ n (hn : n ≤ 7), ∀ q ∈ tiles i arg5 arg6 g n hn, P q
  | 0, _, q, hq => absurd hq List.not_mem_nil
  | n + 1, hn, q, hq => by
    unfold tiles at hq
    simp only [List.mem_cons] at hq
    rcases hq with rfl | rfl | hq
    all_goals first | exact hP _ _ _ _ | exact tiles_all P hP n _ q hq

theorem tiles_mem (e j : Nat) (he : e < 2) (hj : j < 7) :
    ∀ n (hn : n ≤ 7), j < n → piece i arg5 arg6 g e j he hj ∈ tiles i arg5 arg6 g n hn
  | 0, _, h => absurd h (Nat.not_lt_zero _)
  | n + 1, hn, h => by
    unfold tiles
    rcases Nat.lt_succ_iff_lt_or_eq.mp h with h | rfl
    · simp only [List.mem_cons]
      iterate 2 apply Or.inr
      exact tiles_mem e j he hj n _ h
    · interval_cases e <;> simp only [List.mem_cons, true_or, or_true]

theorem last_mem : ∀ (e : Nat) (he : e < 2), lastPiece i arg5 arg6 g e he ∈ allPieces i arg5 arg6 g
  | 0, _ => List.mem_cons_of_mem _ List.mem_cons_self
  | 1, _ => List.mem_cons_self

/-- WHAT THE STORES LEAVE in the output block. -/
theorem read_all (arg4 : Memref sig .tc .vmem S512x960 .fp8e4m3) (f : arg4.view.ty.Contents (Elt F)) :
    arg4.view.read (Elt F) (arg4.view.writes (Elt F) f (allPieces i arg5 arg6 g)) = outAt (F := F) i (arg6.view.read (Elt F) g) := by
  funext y
  refine View.read_writes_apply_of_pieces (Val := Elt F) (e := .fp8e4m3) _ _ (outAt (F := F) i (arg6.view.read (Elt F) g)) _ ?_ y ?_
  · intro q hq
    unfold allPieces at hq
    simp only [List.mem_cons] at hq
    rcases hq with rfl | rfl | hq
    · exact lastPiece_value i arg5 arg6 g 1 (by decide)
    · exact lastPiece_value i arg5 arg6 g 0 (by decide)
    · exact tiles_all i arg5 arg6 g (fun q => ∀ x, q.2 x = outAt (F := F) i (arg6.view.read (Elt F) g) (q.1.emb x)) (fun e j he hj => piece_value i arg5 arg6 g e j he hj) 7 _ q hq
  · have h0 : (y 0).val < 512 := (y 0).isLt
    have h1 : (y 1).val < 960 := (y 1).isLt
    by_cases hG : (y 1).val < 896
    · refine ⟨piece i arg5 arg6 g ((y 0).val / 256) ((y 1).val / 128) (by omega) (by omega), ?_, ?_⟩
      · unfold allPieces
        simp only [List.mem_cons]
        iterate 2 apply Or.inr
        exact tiles_mem i arg5 arg6 g _ _ _ _ 7 _ (by omega)
      · rw [LoadRect.mem_set]
        intro d
        match d with
        | ⟨0, _⟩ => exact ⟨(y 0).val % 256, Nat.mod_lt _ (by decide), show (y 0).val = 256 * ((y 0).val / 256) + 1 * ((y 0).val % 256) by omega⟩
        | ⟨1, _⟩ => exact ⟨(y 1).val % 128, Nat.mod_lt _ (by decide), show (y 1).val = 128 * ((y 1).val / 128) + 1 * ((y 1).val % 128) by omega⟩
    · refine ⟨lastPiece i arg5 arg6 g ((y 0).val / 256) (by omega), ?_, ?_⟩
      · exact last_mem i arg5 arg6 g _ _
      · rw [LoadRect.mem_set]
        intro d
        match d with
        | ⟨0, _⟩ => exact ⟨(y 0).val % 256, Nat.mod_lt _ (by decide), show (y 0).val = 256 * ((y 0).val / 256) + 1 * ((y 0).val % 256) by omega⟩
        | ⟨1, _⟩ => exact ⟨(y 1).val - 896, show (y 1).val - 896 < 64 by omega, show (y 1).val = 896 + 1 * ((y 1).val - 896) by omega⟩
end

end Cert.ScaleIdeal.Pieces

end
-- ==== Proof.ScaleIdeal.Sound.lean ====
/- The run of the scale bytes' shuffle: the planes gather their words point by point, and a point that ends a plane leaves the finished block. -/
module

public import proofs.«01_k».proof.Proof.ScaleIdeal.Pieces
public import Idealize.ShloMosaic.Lib.Claim

@[expose] public section

set_option maxRecDepth 16384

noncomputable section

namespace Cert.ScaleIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ScaleIdeal.Store (Filled run_A run_B coord1_lt coord2_lt)
open Cert.ScaleIdeal.Pieces (outAt allPieces run_pieces read_all)
open Cert.Pack.Bits (byteAt)

variable (m : (ℓ : Loc nD τ sig) → Buf (Elt Ideal) ℓ) (ρ : Dev nD → PrngReg)

/-! ## The words a plane has gathered -/

/-- Grid point `n`. -/
def pt (n : Nat) : Fin cfg0.N := ⟨n % 135, by rw [show cfg0.N = 135 from N_0]; exact Nat.mod_lt _ (by decide)⟩

theorem pt_val (t : Fin cfg0.N) (n : Nat) (h : n = t.val) : pt n = t := by
  have ht : t.val < 135 := lt_of_lt_of_eq t.isLt (show cfg0.N = 135 from N_0)
  subst h; exact Fin.ext (Nat.mod_eq_of_lt ht)

/-- The words of point `t`, at their literal shape. -/
abbrev swB (c : Dev nD) (t : Fin cfg0.N) : Vec Ideal S64x128 .i32 := iblk m c 0 t

/-- Before point `n`, the rows that any of the last forty-five points filled hold that point's words. -/
def Inv (c : Dev nD) (n : Nat) (s : Vec Ideal S3x1024x128 .i32) : Prop :=
  ∀ t : Nat, t < n → n ≤ t + 45 → ∀ (U : Fin 3) (R : Fin 1024) (l : Fin 128) (r : Fin 64), U.val = t % 3 → R.val = 64 * (t / 3 % 15) + r.val →
    s (ix3 U R l : S3x1024x128.Idx) = swB m c (pt t) (ix2 r l : S64x128.Idx)

theorem coord1 (t : Fin cfg0.N) : (grid0.coords t 1).val = t.val / 3 % 15 := Pipeline.Grid.coords_val t 1 (by decide) rfl
theorem coord2 (t : Fin cfg0.N) : (grid0.coords t 2).val = t.val % 3 := by
  have e2 : (grid0.coords t 2).val = t.val / 1 % 3 := Pipeline.Grid.coords_val t 2 (by decide) rfl
  rw [e2, Nat.div_one]

/-- The invariant passes to the next point when the point fills its own rows and leaves the others. -/
theorem inv_step (c : Dev nD) (t : Fin cfg0.N) (arg6 : Memref sig .tc .vmem S3x1024x128 .i32) (s : Vec Ideal S3x1024x128 .i32) (g : arg6.view.ty.Contents (Elt Ideal))
    (hI : Inv m c t.val s) (hF : Filled (F := Ideal) arg6 (grid0.coords t) (swB m c t) s 64 g) : Inv m c (t.val + 1) (arg6.view.read (Elt Ideal) g) := by
  intro t' h h' U R l r hU hR
  have e1 := coord1 t
  have e2 := coord2 t
  have hr := r.isLt
  rcases Nat.lt_or_eq_of_le (Nat.le_of_lt_succ h) with hlt | rfl
  · rw [hF.2 U R l (by rw [e1, e2]; omega)]
    exact hI t' hlt (by omega) U R l r hU hR
  · rw [pt_val t _ rfl]
    exact hF.1 U R l r (by omega) (by omega) hr

/-- The output block after a point that ends a plane: lane `2 L + p` of half `h` and column `64 k + r` is byte `2 h + p` of the word the `k`-th point of the plane brought. -/
def blockAt (c : Dev nD) (t : Fin cfg0.N) : Vec Ideal S512x960 .fp8e4m3 := fun y =>
  FloatOps.ofBits (F := Ideal) .fp8e4m3 (byteAt (swB m c (pt (t.val - 3 * (14 - (y 1).val / 64)))
    (ix2 (⟨(y 1).val % 64, Nat.mod_lt _ (by decide)⟩ : Fin 64) (⟨(y 0).val % 256 / 2, by omega⟩ : Fin 128) : S64x128.Idx)) (2 * ((y 0).val / 256) + (y 0).val % 2))

theorem out_eq (c : Dev nD) (t : Fin cfg0.N) (s : Vec Ideal S3x1024x128 .i32) (hI : Inv m c (t.val + 1) s) (h : t.val / 3 % 15 = 14) :
    outAt (F := Ideal) (grid0.coords t) s = blockAt m c t := by
  funext y
  have h1 : (y 1).val < 960 := (y 1).isLt
  unfold outAt blockAt
  rw [hI (t.val - 3 * (14 - (y 1).val / 64)) (by omega) (by omega) _ _ _ (⟨(y 1).val % 64, Nat.mod_lt _ (by decide)⟩ : Fin 64)
    (by show (grid0.coords t 2).val = _; rw [coord2]; omega) (by show (y 1).val = 64 * _ + (y 1).val % 64; omega)]

/-! ## The pipeline's proof data -/

/-- The region invariant before point `n`: the staging tile at anything, the planes as `Inv` says, the generator register at some state. -/
def PhiS (c : Dev nD) (n : Nat) : sProp (MT nD τ sig Unit (Elt Ideal) ℕ (UR sig nD τ) ℕ) :=
  iprop(∃ s, ⌜Inv m c n s⌝ ∗ (∃ d, owns (c : Thread nD τ) scM0_0 fullShare d) ∗ owns (c : Thread nD τ) scM0_1 fullShare s ∗ (∃ r, prngReg c r))

/-- The proof data of the one pipeline on core `c`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => blockAt m c t
  Φ t := PhiS m c t.val
  q _ := fullShare
  owed _ := 0

theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = blockAt m c t := by dsimp only [dats]

/-- The input's current staging buffer holds its block at every point. -/
theorem before0_0 (c : Dev nD) (t : Fin cfg0.N) (d) : (dats m 0 c).before 0 t d = iblk m c 0 t :=
  before0_0_of m (dats m 0 c) (A_eq m c 0) (after0_0 m c) t d

/-! ## The body obligation, at a generic point -/

/-- What the body is called with at point `t`, -/
def bodyPre (c : Dev nD) (t : Fin cfg0.N) : sProp (MT nD τ sig Unit (Elt Ideal) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

/-- and what it returns. -/
def bodyPost (c : Dev nD) (t : Fin cfg0.N) : sProp (MT nD τ sig Unit (Elt Ideal) ℕ (UR sig nD τ) ℕ) :=
  iprop((dats m 0 c).Φ t.succ ∗ (dats m 0 c).owesAt () t.succ
    ∗ (dats m 0 c).leavesExact 0 t
    ∗ (dats m 0 c).leavesExact 1 t)

/-- The input window, live at every point, is left at its block. -/
theorem leaves_in (c : Dev nD) (t : Fin cfg0.N) :
    (dats m 0 c).leavesExact 0 t = owns (c : Thread nD τ) (ms0_0 t) fullShare (iblk m c 0 t) := by
  unfold Dat.leavesExact
  rfl

set_option maxHeartbeats 3200000 in
/-- The body at any point: the closed forms say which case the point is in, the run applies, and the invariant passes on. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  rw [leaves_in m c t]
  unfold PhiS
  by_cases h1 : t.val / 3 % 15 = 14
  · rw [show (dats m 0 c).leavesExact 1 t = owns (c : Thread nD τ) (ms0_1 t) fullShare ((dats m 0 c).after 1 t) from by
      unfold Dat.leavesExact; rw [liveAt0_1 t ((hcond0_0 t).mpr h1)], after0_1]
    iintro ⟨⟨%s, %hI, HS0, HS1, Hg⟩, Ho, ⟨%d0, H0⟩, ⟨%d1, H1⟩⟩
    iapply ((kernelRun0_B c (grid0.coords t) _ (hs0_0 t) _ (hs0_1 t) _ (Memref.isWhole_whole _) _ (Memref.isWhole_whole _) ((hcond0_0 t).mpr h1) (iblk m c 0 t) s).2.2 Set.univ _)
    isplitl [H0]; · iexact H0
    isplitl [H1]; · iexists _; iexact H1
    isplitl [HS0]; · iexact HS0
    isplitl [HS1]; · iexact HS1
    iintro ⟨H0, ⟨%e1, H1⟩, HS0, HS1⟩
    isplitl [HS0 HS1 Hg]
    · iexists _
      isplitr; swap
      · isplitl [HS0]; · iexact HS0
        isplitl [HS1]
        · unfold owns; iexists _; isplitr
          swap; · iexact HS1
          ipureintro; rfl
        iexact Hg
      · ipureintro; exact inv_step m c t _ s _ hI (run_B c (grid0.coords t) _ _ _ _ _ _ _ _ ((hcond0_0 t).mpr h1) (iblk m c 0 t) s)
    isplitl [Ho]; · iexact Ho
    isplitl [H0]; · iexact H0
    unfold owns; iexists _; isplitr
    swap; · iexact H1
    ipureintro
    rw [run_pieces, read_all]
    exact out_eq m c t _ (inv_step m c t _ s _ hI (run_B c (grid0.coords t) _ _ _ _ _ _ _ _ ((hcond0_0 t).mpr h1) (iblk m c 0 t) s)) h1
  · rw [Dat.leavesExact_idle (dats m 0 c) 1 t (idleAt0_1 t (fun h => h1 ((hcond0_0 t).mp h))) (noFlush0_1 t (fun h => h1 ((hcond0_0 t).mp h)))]
    iintro ⟨⟨%s, %hI, HS0, HS1, Hg⟩, Ho, ⟨%d0, H0⟩, ⟨%d1, H1⟩⟩
    iapply ((kernelRun0_A c (grid0.coords t) _ (hs0_0 t) _ (hs0_1 t) _ (Memref.isWhole_whole _) _ (Memref.isWhole_whole _) (fun h => h1 ((hcond0_0 t).mp h)) (iblk m c 0 t) s).2 _ Set.univ _)
    isplitl [H0]; · iexact H0
    isplitl [H1]; · iexact H1
    isplitl [HS0]; · iexact HS0
    isplitl [HS1]; · iexact HS1
    iintro ⟨H0, H1, HS0, HS1⟩
    isplitl [HS0 HS1 Hg]
    · iexists _
      isplitr; swap
      · isplitl [HS0]; · iexact HS0
        isplitl [HS1]
        · unfold owns; iexists _; isplitr
          swap; · iexact HS1
          ipureintro; rfl
        iexact Hg
      · ipureintro; exact inv_step m c t _ s _ hI (run_A c (grid0.coords t) _ _ _ _ _ _ _ _ (fun h => h1 ((hcond0_0 t).mp h)) (iblk m c 0 t) s)
    isplitl [Ho]; · iexact Ho
    isplitl [H0]; · iexact H0
    iexists _; iexact H1

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 from rfl, PhiA0_eq]
  unfold PhiS
  iintro ⟨⟨HS0, ⟨%d1, HS1⟩⟩, Hg⟩
  iexists d1
  isplitr; swap
  · isplitl [HS0]; · iexact HS0
    isplitl [HS1]; · iexact HS1
    iexact Hg
  · ipureintro; exact fun t h => absurd h (Nat.not_lt_zero t)

/-- The invariant gives the launch's own back: the planes' contents are forgotten. -/
theorem hout (c : Dev nD) : (dats m 0 c).Φ (Fin.last cfg0.N) ⊢ Pipeline.ΦA spec0 c := by
  rw [show (dats m 0 c).Φ (Fin.last cfg0.N) = PhiS m c cfg0.N from rfl, PhiA0_eq]
  unfold PhiS
  iintro ⟨%s, -, HS0, HS1, Hg⟩
  isplitl [HS0 HS1]
  · isplitl [HS0]; · iexact HS0
    iexists _; iexact HS1
  iexact Hg

/-! ## The run and the frame -/

set_option backward.isDefEq.respectTransparency.types false in
theorem run_main_quiescent : θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Every array of the pipeline ends at what the proof data says. -/
theorem run_main : θ_run defs (onTc (τ := τ) (main (F := Ideal))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

/-- The frame claim. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (unchanged m ρ) ((θ_run defs _ _).mono (fun _ h => h.2) (run_main_quiescent m ρ))

end Cert.ScaleIdeal.Gen

end
-- ==== Proof.ScaleIdeal.RefValue.lean ====
/- The scale bytes' reference read at an index. -/
module

public import proofs.«01_k».proof.Proof.Pack.Bits
public import proofs.«01_k».proof.Proof.Gen.ScaleReferenceIdeal.Run
public import Idealize.ShloMosaic.Lib.Pointwise
public import Idealize.ShloMosaic.Lib.ValueIdxRank6
public import Idealize.ShloMosaic.Lib.IdealHost

@[expose] public section

set_option maxRecDepth 16384

noncomputable section

namespace Cert.ScaleReferenceIdeal.Read

open Cert.ScaleReferenceIdeal Cert.ScaleReferenceIdeal.Gen Idealize.ShloMosaic Idealize.ShloMosaic.TcCoe Idealize.SL.Sem
open Cert.Pack.Bits (byteAt)

/-- The words, by block of tokens, place in the block and group of features, repeated over the half and the token of the pair. -/
def words (x : IVec S960x1152 32) : IVec S9x2x128x2x960 32 :=
  broadcastInDim S9x2x128x2x960 ![0, 1, 2, 3, 4] bcast_S9x1x128x1x960_S9x2x128x2x960_0_1_2_3_4 (broadcastInDim S9x1x128x1x960 ![0, 2, 4] bcast_S9x128x960_S9x1x128x1x960_0_2_4
    (transpose S9x128x960 [1, 2, 0] (shapeCast _ x shapeCasts_S960x1152_S960x9x128) transposes_S960x9x128_S9x128x960_1_2_0))

/-- The shift that brings a token's byte of a half to the bottom of its word. -/
def amount : IVec S9x2x128x2x960 32 :=
  broadcastInDim S9x2x128x2x960 ![0, 1, 2, 3, 4] bcast_S1x2x1x2x1_S9x2x128x2x960_0_1_2_3_4 (addi
    (broadcastInDim S1x2x1x2x1 ![0, 1, 2, 3, 4] bcast_S1x2x1x1x1_S1x2x1x2x1_0_1_2_3_4 (muli (broadcastInDim S1x2x1x1x1 ![] bcast_S_S1x2x1x1x1 (constantI S_ 32 16#32)) (shapeCast _ (iotaInDim S2 32 0) shapeCasts_S2_S1x2x1x1x1)))
    (broadcastInDim S1x2x1x2x1 ![0, 1, 2, 3, 4] bcast_S1x1x1x2x1_S1x2x1x2x1_0_1_2_3_4 (muli (broadcastInDim S1x1x1x2x1 ![] bcast_S_S1x1x1x2x1 (constantI S_ 32 8#32)) (shapeCast _ (iotaInDim S2 32 0) shapeCasts_S2_S1x1x1x2x1))))

/-- The scales before their last reshape. -/
def scales (x : IVec S960x1152 32) : Vec Ideal S9x2x128x2x960 .fp8e4m3 :=
  bitcastToFloat (F := Ideal) .fp8e4m3 (trunci 8 (Host.shrui (words x) amount) natLt_8_32)

/-- THE REFERENCE's array of its argument array. -/
def result (x : IVec S960x1152 32) : Vec Ideal S4608x960 .fp8e4m3 := shapeCast _ (scales x) shapeCasts_S9x2x128x2x960_S4608x960

/-- The reference runs to this formula of its argument. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v19) = result (m ((c.tc : Thread nD τ).loc main_arg0))
      ∧ r.2.mem ((c.tc : Thread nD τ).loc main_arg0) = m ((c.tc : Thread nD τ).loc main_arg0) :=
  (θ_run defs _ _).mono (fun r h c => ⟨(h c).1.trans (by unfold result scales words amount; rfl), (h c).2⟩) (Cert.ScaleReferenceIdeal.Value.run (F := Ideal) m ρ)

theorem words_apply (x : IVec S960x1152 32) (B : Fin 9) (h : Fin 2) (L : Fin 128) (p : Fin 2) (G : Fin 960) :
    words x (ix5 B h L p G) = x (ix2 G (⟨128 * B.val + L.val, by omega⟩ : Fin 1152)) := by
  unfold words
  rw [broadcastInDim_apply ![0, 1, 2, 3, 4] bcast_S9x1x128x1x960_S9x2x128x2x960_0_1_2_3_4 _ (ix5 B h L p G) (ix5 B (0 : Fin 1) L (0 : Fin 1) G : S9x1x128x1x960.Idx) (by
      intro a
      match a with
      | ⟨0, _⟩ => rfl
      | ⟨1, _⟩ => rfl
      | ⟨2, _⟩ => rfl
      | ⟨3, _⟩ => rfl
      | ⟨4, _⟩ => rfl)]
  rw [broadcastInDim_apply ![0, 2, 4] bcast_S9x128x960_S9x1x128x1x960_0_2_4 _ (ix5 B (0 : Fin 1) L (0 : Fin 1) G : S9x1x128x1x960.Idx) (ix3 B L G : S9x128x960.Idx) (by
      intro a
      match a with
      | ⟨0, _⟩ => rfl
      | ⟨1, _⟩ => rfl
      | ⟨2, _⟩ => rfl)]
  rw [transpose_apply [1, 2, 0] _ transposes_S960x9x128_S9x128x960_1_2_0 _ (ix3 G B L : S960x9x128.Idx) (by
      intro b
      match b with
      | ⟨0, _⟩ => rfl
      | ⟨1, _⟩ => rfl
      | ⟨2, _⟩ => rfl)]
  exact shapeCast_apply _ shapeCasts_S960x1152_S960x9x128 _ _ (by
      rw [Shape.rowMajor_val_three, Shape.rowMajor_val_two]
      show G.val * 1152 + (128 * B.val + L.val) = (G.val * 9 + B.val) * 128 + L.val
      omega)

theorem amount_apply (B : Fin 9) (h : Fin 2) (L : Fin 128) (p : Fin 2) (G : Fin 960) :
    amount (ix5 B h L p G) = BitVec.ofNat 32 (8 * (2 * h.val + p.val)) := by
  unfold amount
  rw [broadcastInDim_apply ![0, 1, 2, 3, 4] bcast_S1x2x1x2x1_S9x2x128x2x960_0_1_2_3_4 _ (ix5 B h L p G) (ix5 (0 : Fin 1) h (0 : Fin 1) p (0 : Fin 1) : S1x2x1x2x1.Idx) (by
      intro a
      match a with
      | ⟨0, _⟩ => rfl
      | ⟨1, _⟩ => rfl
      | ⟨2, _⟩ => rfl
      | ⟨3, _⟩ => rfl
      | ⟨4, _⟩ => rfl)]
  rw [addi_apply]
  rw [broadcastInDim_apply ![0, 1, 2, 3, 4] bcast_S1x2x1x1x1_S1x2x1x2x1_0_1_2_3_4 _ _ (ix5 (0 : Fin 1) h (0 : Fin 1) (0 : Fin 1) (0 : Fin 1) : S1x2x1x1x1.Idx) (by
      intro a
      match a with
      | ⟨0, _⟩ => rfl
      | ⟨1, _⟩ => rfl
      | ⟨2, _⟩ => rfl
      | ⟨3, _⟩ => rfl
      | ⟨4, _⟩ => rfl)]
  rw [broadcastInDim_apply ![0, 1, 2, 3, 4] bcast_S1x1x1x2x1_S1x2x1x2x1_0_1_2_3_4 _ _ (ix5 (0 : Fin 1) (0 : Fin 1) (0 : Fin 1) p (0 : Fin 1) : S1x1x1x2x1.Idx) (by
      intro a
      match a with
      | ⟨0, _⟩ => rfl
      | ⟨1, _⟩ => rfl
      | ⟨2, _⟩ => rfl
      | ⟨3, _⟩ => rfl
      | ⟨4, _⟩ => rfl)]
  rw [muli_apply, muli_apply, shapeCast_apply _ shapeCasts_S2_S1x2x1x1x1 _ (ix1 h : S2.Idx) (by
      rw [Shape.rowMajor_val_five, Shape.rowMajor_val_one]
      show h.val = (((0 * 2 + h.val) * 1 + 0) * 1 + 0) * 1 + 0
      omega), shapeCast_apply _ shapeCasts_S2_S1x1x1x2x1 _ (ix1 p : S2.Idx) (by
      rw [Shape.rowMajor_val_five, Shape.rowMajor_val_one]
      show p.val = (((0 * 1 + 0) * 1 + 0) * 2 + p.val) * 1 + 0
      omega)]
  show 16#32 * BitVec.ofNat 32 h.val + 8#32 * BitVec.ofNat 32 p.val = BitVec.ofNat 32 (8 * (2 * h.val + p.val))
  fin_cases p <;> fin_cases h <;> rfl

theorem shifted (w : BitVec 32) (n : Nat) (hn : n < 4) : (IntOp.shrui .host w (BitVec.ofNat 32 (8 * n))).setWidth 8 = byteAt w n := by
  have e : IntOp.shrui .host w (BitVec.ofNat 32 (8 * n)) = w >>> (8 * n) := by
    unfold IntOp.shrui
    rw [if_pos (by interval_cases n <;> decide)]
    interval_cases n <;> rfl
  rw [e]
  apply BitVec.eq_of_getLsbD_eq
  intro i hi
  unfold byteAt
  rw [BitVec.getLsbD_extractLsb', BitVec.getLsbD_setWidth, BitVec.getLsbD_ushiftRight]

/-- THE REFERENCE at an index: row `512 B + 256 h + 2 L + p`, column `G`. -/
theorem result_apply (x : IVec S960x1152 32) (B : Fin 9) (h : Fin 2) (L : Fin 128) (p : Fin 2) (G : Fin 960) :
    result x (ix2 (⟨512 * B.val + 256 * h.val + 2 * L.val + p.val, by omega⟩ : Fin 4608) G)
      = FloatOps.ofBits (F := Ideal) .fp8e4m3 (byteAt (x (ix2 G (⟨128 * B.val + L.val, by omega⟩ : Fin 1152))) (2 * h.val + p.val)) := by
  unfold result
  rw [shapeCast_apply _ shapeCasts_S9x2x128x2x960_S4608x960 _ (ix5 B h L p G : S9x2x128x2x960.Idx) (by
      rw [Shape.rowMajor_val_five, Shape.rowMajor_val_two]
      show (((B.val * 2 + h.val) * 128 + L.val) * 2 + p.val) * 960 + G.val = (512 * B.val + 256 * h.val + 2 * L.val + p.val) * 960 + G.val
      omega)]
  show FloatOps.ofBits (F := Ideal) .fp8e4m3 ((IntOp.shrui .host (words x (ix5 B h L p G)) (amount (ix5 B h L p G))).setWidth 8) = _
  rw [words_apply, amount_apply, shifted _ _ (by omega)]

end Cert.ScaleReferenceIdeal.Read
end
-- ==== Proof.ScaleIdeal.Value.lean ====
/- The shuffle's result array is the reference's: the two formulas agree at every index. -/
module

public import proofs.«01_k».proof.Proof.ScaleIdeal.Sound
public import proofs.«01_k».proof.Proof.ScaleIdeal.RefValue
public import Idealize.ShloMosaic.Lib.Pipeline.ValueKit

@[expose] public section

set_option maxRecDepth 16384

noncomputable section

namespace Cert.ScaleIdeal.Final

open Cert.ScaleIdeal Cert.ScaleIdeal.Gen Idealize.ShloMosaic Idealize.ShloMosaic.TcCoe Idealize.SL.Sem
open Idealize.ShloMosaic.Pipeline (Dat)
open Cert.ScaleReferenceIdeal.Read (result result_apply)
open Cert.Pack.Bits (byteAt)

variable (m : (ℓ : Loc nD τ sig) → Buf (Elt Ideal) ℓ)

/-- Grid point `(p, k, u)` reads tile `k` of the groups of block `3 p + u` of tokens. -/
theorem idx_in : ∀ t : Fin cfg0.N, win0_0.index t = ![t.val / 3 % 15, 3 * (t.val / 45) + t.val % 3] :=
  (by decide +kernel : ∀ t : Fin grid0.N, _)

/-- At the last step of a pass it writes the whole block. -/
theorem idx_out : ∀ t : Fin cfg0.N, t.val / 3 % 15 = 14 → win0_1.index t = ![3 * (t.val / 45) + t.val % 3, 0] :=
  (by decide +kernel : ∀ t : Fin grid0.N, _)

/-- The argument array. -/
abbrev a0 (c : Dev nD) : Vec Ideal S960x1152 .i32 := m ((c : Thread nD τ).loc main_arg0)

theorem w_blk (c : Dev nD) (t : Fin cfg0.N) (r : Fin 64) (l : Fin 128) (G : Fin 960) (T : Fin 1152) (hG : G.val = 64 * (t.val / 3 % 15) + r.val)
    (hT : T.val = 128 * (3 * (t.val / 45) + t.val % 3) + l.val) : swB m c t (ix2 r l) = a0 m c (ix2 G T) := by
  have hi := idx_in t
  blk_ext [iblk, V, hi]

/-- The reference's array of the argument array. -/
abbrev target (c : Dev nD) : Vec Ideal S4608x960 .fp8e4m3 := result (a0 m c)

/-- The block a point leaves is the reference's block. -/
theorem point (c : Dev nD) (t : Fin cfg0.N) (ht : t.val / 3 % 15 = 14) (y : Fin 512) (G : Fin 960) (R : Fin 4608)
    (hR : R.val = 512 * (3 * (t.val / 45) + t.val % 3) + y.val) : blockAt m c t (ix2 y G) = target m c (ix2 R G) := by
  have hN : t.val < 135 := lt_of_lt_of_eq t.isLt (show cfg0.N = 135 from N_0)
  have hy := y.isLt
  have hg := G.isLt
  have e := result_apply (a0 m c) (⟨3 * (t.val / 45) + t.val % 3, by omega⟩ : Fin 9) (⟨y.val / 256, by omega⟩ : Fin 2) (⟨y.val % 256 / 2, by omega⟩ : Fin 128)
    (⟨y.val % 2, by omega⟩ : Fin 2) G
  dsimp only at e
  have f : 512 * (3 * (t.val / 45) + t.val % 3) + 256 * (y.val / 256) + 2 * (y.val % 256 / 2) + y.val % 2 = R.val := by omega
  simp only [f] at e
  refine Eq.trans ?_ e.symm
  have ev : (pt (t.val - 3 * (14 - G.val / 64))).val = t.val - 3 * (14 - G.val / 64) := Nat.mod_eq_of_lt (by omega)
  show FloatOps.ofBits (F := Ideal) .fp8e4m3 (byteAt (swB m c (pt (t.val - 3 * (14 - G.val / 64)))
    (ix2 (⟨G.val % 64, Nat.mod_lt _ (by decide)⟩ : Fin 64) (⟨y.val % 256 / 2, by omega⟩ : Fin 128))) (2 * (y.val / 256) + y.val % 2)) = _
  rw [w_blk m c (pt (t.val - 3 * (14 - G.val / 64))) _ _ G (⟨128 * (3 * (t.val / 45) + t.val % 3) + y.val % 256 / 2, by omega⟩ : Fin 1152)
    (by rw [ev]; show G.val = 64 * _ + G.val % 64; omega) (by rw [ev]; show 128 * _ + y.val % 256 / 2 = 128 * _ + y.val % 256 / 2; omega)]

theorem final (c : Dev nD) : (dats m 0 c).arrAt 1 (cfgs 0).N = target m c := by
  refine (dats m 0 c).arrAt_eq_of_covers 1 _ (by decide +kernel) fun t hf y => ?_
  have ht : t.val / 3 % 15 = 14 := by
    by_contra h
    exact absurd hf (by rw [noFlush0_1 t (fun h' => h ((hcond0_0 t).mp h'))]; decide)
  have hN : t.val < 135 := lt_of_lt_of_eq t.isLt (show cfg0.N = 135 from N_0)
  have hi := idx_out t ht
  have hy : (y 0).val < 512 := (y 0).isLt
  blk_simp
  rw [after0_1]
  refine (congrArg (blockAt m c t) (eq_ix2 y)).trans ((point m c t ht (y 0) (y 1) ⟨512 * (3 * (t.val / 45) + t.val % 3) + (y 0).val, by omega⟩ rfl).trans ?_)
  blk_ext [hi]

/-- The run with the result array named and the argument unchanged. -/
theorem run_value (ρ : Dev nD → PrngReg) : θ_run defs (onTc (τ := τ) (main (F := Ideal))) ⟨m, fun _ => 0, ρ⟩ fun r => ∀ c : Dev nD,
      r.2.mem ((c.tc : Thread nD τ).loc main_v0) = target m c
      ∧ r.2.mem ((c.tc : Thread nD τ).loc main_arg0) = m ((c.tc : Thread nD τ).loc main_arg0) :=
  (θ_run defs _ _).mono (fun r h c => ⟨((h.1 c).1 1).trans (final m c), h.2 c⟩) (θ_run_and (run_main m ρ) (unchanged m ρ))

end Cert.ScaleIdeal.Final
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Value
public import proofs.«01_k».proof.Proof.Value
public import proofs.«01_k».proof.Proof.Gen.Main
public import proofs.«01_k».proof.Proof.Gen.Main.Skeleton
public import proofs.«01_k».proof.Proof.Gen.Main.Launch
public import proofs.«01_k».proof.Proof.Gen.Main.Points
public import proofs.«01_k».proof.Proof.Gen.Main.Frame
public import proofs.«01_k».proof.Proof.Gen.MainIdeal
public import proofs.«01_k».proof.Proof.Gen.MainIdeal.Skeleton
public import proofs.«01_k».proof.Proof.Gen.MainIdeal.Launch
public import proofs.«01_k».proof.Proof.Gen.MainIdeal.Points
public import proofs.«01_k».proof.Proof.Gen.MainIdeal.Frame
public import proofs.«01_k».proof.Proof.Gen.MainReferenceIdeal
public import proofs.«01_k».proof.Proof.Gen.MainReferenceIdeal.Run
public import proofs.«01_k».proof.Proof.Gen.Pack
public import proofs.«01_k».proof.Proof.Gen.Pack.Skeleton
public import proofs.«01_k».proof.Proof.Gen.Pack.Launch
public import proofs.«01_k».proof.Proof.Gen.Pack.Points
public import proofs.«01_k».proof.Proof.Gen.Pack.Frame
public import proofs.«01_k».proof.Proof.Gen.PackIdeal
public import proofs.«01_k».proof.Proof.Gen.PackIdeal.Skeleton
public import proofs.«01_k».proof.Proof.Gen.PackIdeal.Launch
public import proofs.«01_k».proof.Proof.Gen.PackIdeal.Points
public import proofs.«01_k».proof.Proof.Gen.PackIdeal.Frame
public import proofs.«01_k».proof.Proof.Gen.PackIdeal.Value
public import proofs.«01_k».proof.Proof.Gen.PackReferenceIdeal
public import proofs.«01_k».proof.Proof.Gen.PackReferenceIdeal.Run
public import proofs.«01_k».proof.Proof.Gen.Scale
public import proofs.«01_k».proof.Proof.Gen.Scale.Skeleton
public import proofs.«01_k».proof.Proof.Gen.Scale.Launch
public import proofs.«01_k».proof.Proof.Gen.Scale.Points
public import proofs.«01_k».proof.Proof.Gen.Scale.Frame
public import proofs.«01_k».proof.Proof.Gen.ScaleIdeal
public import proofs.«01_k».proof.Proof.Gen.ScaleIdeal.Skeleton
public import proofs.«01_k».proof.Proof.Gen.ScaleIdeal.Launch
public import proofs.«01_k».proof.Proof.Gen.ScaleIdeal.Points
public import proofs.«01_k».proof.Proof.Gen.ScaleIdeal.Frame
public import proofs.«01_k».proof.Proof.Gen.ScaleReferenceIdeal
public import proofs.«01_k».proof.Proof.Gen.ScaleReferenceIdeal.Run
public import proofs.«01_k».proof.Proof.Main.Sound
public import proofs.«01_k».proof.Proof.MainIdeal.Value
public import proofs.«01_k».proof.Proof.Pack.Value
public import proofs.«01_k».proof.Proof.Scale.Sound
public import proofs.«01_k».proof.Proof.ScaleIdeal.Value
public import Idealize.ShloMosaic.Lib.Bf16Pair
public import Idealize.ShloMosaic.Adequacy
public import Idealize.ShloMosaic.Lib.Claim
public import Idealize.ShloMosaic.Init

@[expose] public section

set_option maxRecDepth 16384

noncomputable section

namespace Cert.Proof

open Idealize.ShloMosaic Idealize.SL.Sem Cert.Kernel

/-- The weight preparation's array is the reference's dequantised weight. -/
theorem algebraic : Cert.algebraic_KernelIdeal_ReferenceIdeal := by
  pair_intro
  · run_from Cert.KernelIdeal.Value.run_blocks m g
  · run_from Cert.ReferenceIdeal.Value.run m' g'
    exact (Cert.KernelIdeal.Final.final m c).symm

/-- The packed word of two bf16 values, and the whole product's two patterns of it. -/
theorem preserves_main : Cert.preserves_Main_MainIdeal := ⟨IdealRules.bf16_pair.packStatement _, IdealRules.bf16_pair.statement _ _⟩

/-- The reference of the whole product is host operations only: its run keeps the arguments, and it declares no semaphore. -/
theorem frame_main_reference : Cert.quiescent_MainReferenceIdeal := fun m ρ _ =>
  (θ_run Cert.MainReferenceIdeal.defs _ _).mono (fun r h => ⟨fun c => (h c).2, sem_eq_zero_of_no_sems (by decide) r.2⟩)
    (Cert.MainReferenceIdeal.Value.run (F := Ideal) m ρ)

/-- The whole product's array is the reference's. -/
theorem algebraic_main : Cert.algebraic_MainIdeal_MainReferenceIdeal := by
  pair_intro
  · run_from Cert.MainIdeal.Final.run_value m g
  · run_from Cert.MainReferenceIdeal.Value.run m' g'
    rfl

/-- The packing's reference is host operations only as well. -/
theorem frame_pack_reference : Cert.quiescent_PackReferenceIdeal := fun m ρ _ =>
  (θ_run Cert.PackReferenceIdeal.defs _ _).mono (fun r h => ⟨fun c => (h c).2, sem_eq_zero_of_no_sems (by decide) r.2⟩)
    (Cert.PackReferenceIdeal.Value.run (F := Ideal) m ρ)

/-- The packed codes are the reference's. -/
theorem algebraic_pack : Cert.algebraic_PackIdeal_PackReferenceIdeal := by
  pair_intro
  · run_from Cert.PackIdeal.Value.run_blocks m g
  · run_from Cert.PackReferenceIdeal.Value.run m' g'
    exact (Cert.PackReferenceIdeal.Read.res_eq m' c).trans
      ((congrArg Cert.PackReferenceIdeal.Read.result (hagree c)).trans (Cert.PackIdeal.Final.final m c).symm)

/-- The shuffle's reference is host operations only as well. -/
theorem frame_scale_reference : Cert.quiescent_ScaleReferenceIdeal := fun m ρ _ =>
  (θ_run Cert.ScaleReferenceIdeal.defs _ _).mono (fun r h => ⟨fun c => (h c).2, sem_eq_zero_of_no_sems (by decide) r.2⟩)
    (Cert.ScaleReferenceIdeal.Read.run_result m ρ)

/-- The shuffled scales are the reference's. -/
theorem algebraic_scale : Cert.algebraic_ScaleIdeal_ScaleReferenceIdeal := by
  pair_intro
  · run_from Cert.ScaleIdeal.Final.run_value m g
  · run_from Cert.ScaleReferenceIdeal.Read.run_result m' g'

theorem claim : Cert.Claim := ⟨Cert.Kernel.Gen.facts, Cert.KernelIdeal.Gen.facts, Cert.ReferenceIdeal.Gen.facts,
  Cert.Main.Gen.facts, Cert.MainIdeal.Gen.facts, Cert.MainReferenceIdeal.Gen.facts,
  Cert.Pack.Gen.facts, Cert.PackIdeal.Gen.facts, Cert.PackReferenceIdeal.Gen.facts,
  Cert.Scale.Gen.facts, Cert.ScaleIdeal.Gen.facts, Cert.ScaleReferenceIdeal.Gen.facts,
  fun m ρ _ => Cert.Kernel.Gen.frame m ρ, fun m ρ _ => Cert.KernelIdeal.Gen.frame m ρ, fun m ρ _ => Cert.ReferenceIdeal.Gen.frame m ρ,
  fun m ρ _ => Cert.Main.Gen.frame m ρ, fun m ρ _ => Cert.MainIdeal.Gen.frame m ρ, frame_main_reference,
  fun m ρ _ => Cert.Pack.Gen.frame m ρ, fun m ρ _ => Cert.PackIdeal.Gen.frame m ρ, frame_pack_reference,
  fun m ρ _ => Cert.Scale.Gen.frame m ρ, fun m ρ _ => Cert.ScaleIdeal.Gen.frame m ρ, frame_scale_reference,
  trivial, algebraic, preserves_main, algebraic_main, trivial, algebraic_pack, trivial, algebraic_scale⟩

end Cert.Proof

end
